-- ==== Defs.lean ====
def Pre_Kernel (m : (ℓ : Loc Cert.Kernel.nD Cert.Kernel.τ Cert.Kernel.sig) → Buf (Elt Bits) ℓ) : Prop :=
  True

def Pre_Kernel_regular [hPre_regular : Cert.Pre_regular.Facts] (m : (ℓ : Loc Cert.Kernel.nD Cert.Kernel.τ Cert.Kernel.sig) → Buf (Elt Bits) ℓ) : Prop :=
  ∀ c : Dev Cert.Kernel.nD,
    (Cert.Pre_regular.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_regular : Cert.Pre_regular.Facts] (m : (ℓ : Loc Cert.KernelIdeal.nD Cert.KernelIdeal.τ Cert.KernelIdeal.sig) → Buf (Elt Ideal) ℓ) : Prop :=
  ∀ c : Dev Cert.KernelIdeal.nD,
    (Cert.Pre_regular.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_regular [hPre_regular : Cert.Pre_regular.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_regular.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))
      ∧ r.2.sem = fun _ => 0)

def quiescent_Kernel_pre_regular [hKernel : Cert.Kernel.Facts] [hPre_regular : Cert.Pre_regular.Facts] : Prop :=
  ∀ (m : (ℓ : Loc Cert.Kernel.nD Cert.Kernel.τ Cert.Kernel.sig) → Buf (Elt Bits) ℓ) (g : Dev Cert.Kernel.nD → PrngReg), Pre_Kernel_regular m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))
      ∧ r.2.sem = fun _ => 0)

def quiescent_KernelIdeal [hKernelIdeal : Cert.KernelIdeal.Facts] [hPre_regular : Cert.Pre_regular.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def quiescent_ReferenceIdeal_pre_regular [hReferenceIdeal : Cert.ReferenceIdeal.Facts] [hPre_regular : Cert.Pre_regular.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_regular m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_regular : Cert.Pre_regular.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v294) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_regular : Cert.Pre_regular.Facts),
    quiescent_Kernel (hKernel := hKernel)
    ∧ quiescent_Kernel_pre_regular (hKernel := hKernel) (hPre_regular := hPre_regular)
    ∧ quiescent_KernelIdeal (hKernelIdeal := hKernelIdeal) (hPre_regular := hPre_regular)
    ∧ quiescent_ReferenceIdeal (hReferenceIdeal := hReferenceIdeal)
    ∧ quiescent_ReferenceIdeal_pre_regular (hReferenceIdeal := hReferenceIdeal) (hPre_regular := hPre_regular)
    ∧ preserves_Kernel_KernelIdeal
    ∧ algebraic_KernelIdeal_ReferenceIdeal (hKernelIdeal := hKernelIdeal) (hReferenceIdeal := hReferenceIdeal) (hPre_regular := hPre_regular)
-- ==== Pre_regular.lean ====
abbrev S16x3x1024 : Shape := ⟨3, ![16, 3, 1024]⟩
abbrev S64x6 : Shape := ⟨2, ![64, 6]⟩
abbrev S64 : Shape := ⟨1, ![64]⟩
abbrev S64x128 : Shape := ⟨2, ![64, 128]⟩
abbrev S128x128 : Shape := ⟨2, ![128, 128]⟩
abbrev S128 : Shape := ⟨1, ![128]⟩
abbrev S256x256 : Shape := ⟨2, ![256, 256]⟩
abbrev S256 : Shape := ⟨1, ![256]⟩
abbrev S1024x512 : Shape := ⟨2, ![1024, 512]⟩
abbrev S1024 : Shape := ⟨1, ![1024]⟩
abbrev S256x2048 : Shape := ⟨2, ![256, 2048]⟩
abbrev S16x1024x1024 : Shape := ⟨3, ![16, 1024, 1024]⟩
abbrev S_ : Shape := ⟨0, ![]⟩
abbrev S16x1024 : Shape := ⟨2, ![16, 1024]⟩
abbrev S16x1x1024 : Shape := ⟨3, ![16, 1, 1024]⟩
abbrev S16x1024x1 : Shape := ⟨3, ![16, 1024, 1]⟩
abbrev S16x1024x20 : Shape := ⟨3, ![16, 1024, 20]⟩
abbrev S16x1024x3 : Shape := ⟨3, ![16, 1024, 3]⟩
abbrev S16 : Shape := ⟨1, ![16]⟩
abbrev S16x1x1 : Shape := ⟨3, ![16, 1, 1]⟩
abbrev S16x1024x20x1 : Shape := ⟨4, ![16, 1024, 20, 1]⟩
abbrev S16x1024x20x2 : Shape := ⟨4, ![16, 1024, 20, 2]⟩
abbrev S16x1024x20x3 : Shape := ⟨4, ![16, 1024, 20, 3]⟩
abbrev S16x1024x1x3 : Shape := ⟨4, ![16, 1024, 1, 3]⟩
abbrev S16x1024x20x6 : Shape := ⟨4, ![16, 1024, 20, 6]⟩
abbrev S16x6x1024x20 : Shape := ⟨4, ![16, 6, 1024, 20]⟩
abbrev S16x1024x20x64 : Shape := ⟨4, ![16, 1024, 20, 64]⟩
abbrev S16x64x1024x20 : Shape := ⟨4, ![16, 64, 1024, 20]⟩
abbrev S1x64x1x1 : Shape := ⟨4, ![1, 64, 1, 1]⟩
abbrev S16x64x1024 : Shape := ⟨3, ![16, 64, 1024]⟩
abbrev S16x1024x64 : Shape := ⟨3, ![16, 1024, 64]⟩
abbrev S16x1024x1x64 : Shape := ⟨4, ![16, 1024, 1, 64]⟩
abbrev S16x1024x20x128 : Shape := ⟨4, ![16, 1024, 20, 128]⟩
abbrev S16x128x1024x20 : Shape := ⟨4, ![16, 128, 1024, 20]⟩
abbrev S1x128x1x1 : Shape := ⟨4, ![1, 128, 1, 1]⟩
abbrev S16x128x1024 : Shape := ⟨3, ![16, 128, 1024]⟩
abbrev S16x1024x21 : Shape := ⟨3, ![16, 1024, 21]⟩

class Facts : Prop where
  bcast_S_S16x1024x1024 : S_.BroadcastsInDim S16x1024x1024 (![] : Fin 0 → Fin S16x1024x1024.rank)
  reducesTo_S16x3x1024_S16x1024_d1 : S16x3x1024.ReducesTo [1] S16x1024
  h_S_ : 0 < S_.numel
  bcast_S16x1024_S16x1x1024_0_2 : S16x1024.BroadcastsInDim S16x1x1024 (![0, 2] : Fin 2 → Fin S16x1x1024.rank)
  bcast_S16x1x1024_S16x1024x1024_0_1_2 : S16x1x1024.BroadcastsInDim S16x1024x1024 (![0, 1, 2] : Fin 3 → Fin S16x1024x1024.rank)
  transposes_S16x1x1024_S16x1024x1_0_2_1 : S16x1x1024.Transposes [0, 2, 1] S16x1024x1
  bcast_S16x1024x1_S16x1024x1024_0_1_2 : S16x1024x1.BroadcastsInDim S16x1024x1024 (![0, 1, 2] : Fin 3 → Fin S16x1024x1024.rank)
  sliceFits_S16x1024x1024_S16x1024x20 : S16x1024x1024.Slices (fun _ => 0) S16x1024x20
  transposes_S16x3x1024_S16x1024x3_0_2_1 : S16x3x1024.Transposes [0, 2, 1] S16x1024x3
  bcast_S16_S16x1x1_0 : S16.BroadcastsInDim S16x1x1 (![0] : Fin 1 → Fin S16x1x1.rank)
  bcast_S_S16x1x1 : S_.BroadcastsInDim S16x1x1 (![] : Fin 0 → Fin S16x1x1.rank)
  bcast_S_S16x1024x20 : S_.BroadcastsInDim S16x1024x20 (![] : Fin 0 → Fin S16x1024x20.rank)
  bcast_S16x1x1_S16x1024x20_0_1_2 : S16x1x1.BroadcastsInDim S16x1024x20 (![0, 1, 2] : Fin 3 → Fin S16x1024x20.rank)
  bcast_S16x1024x20_S16x1024x20x1_0_1_2 : S16x1024x20.BroadcastsInDim S16x1024x20x1 (![0, 1, 2] : Fin 3 → Fin S16x1024x20x1.rank)
  concatenates_S16x1024x20x1_S16x1024x20x1_S16x1024x20x2_d3 : Shape.Concatenates [S16x1024x20x1, S16x1024x20x1] S16x1024x20x2 3
  bcast_S16x1024x3_S16x1024x1x3_0_1_3 : S16x1024x3.BroadcastsInDim S16x1024x1x3 (![0, 1, 3] : Fin 3 → Fin S16x1024x1x3.rank)
  bcast_S16x1024x1x3_S16x1024x20x3_0_1_2_3 : S16x1024x1x3.BroadcastsInDim S16x1024x20x3 (![0, 1, 2, 3] : Fin 4 → Fin S16x1024x20x3.rank)
  concatenates_S16x1024x20x3_S16x1024x20x3_S16x1024x20x6_d3 : Shape.Concatenates [S16x1024x20x3, S16x1024x20x3] S16x1024x20x6 3
  transposes_S16x1024x20x6_S16x6x1024x20_0_3_1_2 : S16x1024x20x6.Transposes [0, 3, 1, 2] S16x6x1024x20
  transposes_S16x1024x20x64_S16x64x1024x20_0_3_1_2 : S16x1024x20x64.Transposes [0, 3, 1, 2] S16x64x1024x20
  reducesTo_S16x64x1024x20_S64_d0_2_3 : S16x64x1024x20.ReducesTo [0, 2, 3] S64
  bcast_S64_S1x64x1x1_1 : S64.BroadcastsInDim S1x64x1x1 (![1] : Fin 1 → Fin S1x64x1x1.rank)
  bcast_S_S1x64x1x1 : S_.BroadcastsInDim S1x64x1x1 (![] : Fin 0 → Fin S1x64x1x1.rank)
  bcast_S1x64x1x1_S16x64x1024x20_0_1_2_3 : S1x64x1x1.BroadcastsInDim S16x64x1024x20 (![0, 1, 2, 3] : Fin 4 → Fin S16x64x1024x20.rank)
  shapeCasts_S64_S1x64x1x1 : S64.ShapeCasts S1x64x1x1
  bcast_S_S16x64x1024x20 : S_.BroadcastsInDim S16x64x1024x20 (![] : Fin 0 → Fin S16x64x1024x20.rank)
  reducesTo_S16x64x1024x20_S16x64x1024_d3 : S16x64x1024x20.ReducesTo [3] S16x64x1024
  reducesTo_S16x64x1024_S16x1024_d1 : S16x64x1024.ReducesTo [1] S16x1024
  transposes_S16x64x1024_S16x1024x64_0_2_1 : S16x64x1024.Transposes [0, 2, 1] S16x1024x64
  bcast_S16x1024x64_S16x1024x1x64_0_1_3 : S16x1024x64.BroadcastsInDim S16x1024x1x64 (![0, 1, 3] : Fin 3 → Fin S16x1024x1x64.rank)
  bcast_S16x1024x1x64_S16x1024x20x64_0_1_2_3 : S16x1024x1x64.BroadcastsInDim S16x1024x20x64 (![0, 1, 2, 3] : Fin 4 → Fin S16x1024x20x64.rank)
  concatenates_S16x1024x20x64_S16x1024x20x64_S16x1024x20x128_d3 : Shape.Concatenates [S16x1024x20x64, S16x1024x20x64] S16x1024x20x128 3
  transposes_S16x1024x20x128_S16x128x1024x20_0_3_1_2 : S16x1024x20x128.Transposes [0, 3, 1, 2] S16x128x1024x20
  reducesTo_S16x128x1024x20_S128_d0_2_3 : S16x128x1024x20.ReducesTo [0, 2, 3] S128
  bcast_S128_S1x128x1x1_1 : S128.BroadcastsInDim S1x128x1x1 (![1] : Fin 1 → Fin S1x128x1x1.rank)
  bcast_S_S1x128x1x1 : S_.BroadcastsInDim S1x128x1x1 (![] : Fin 0 → Fin S1x128x1x1.rank)
  bcast_S1x128x1x1_S16x128x1024x20_0_1_2_3 : S1x128x1x1.BroadcastsInDim S16x128x1024x20 (![0, 1, 2, 3] : Fin 4 → Fin S16x128x1024x20.rank)
  shapeCasts_S128_S1x128x1x1 : S128.ShapeCasts S1x128x1x1
  bcast_S_S16x128x1024x20 : S_.BroadcastsInDim S16x128x1024x20 (![] : Fin 0 → Fin S16x128x1024x20.rank)
  reducesTo_S16x128x1024x20_S16x128x1024_d3 : S16x128x1024x20.ReducesTo [3] S16x128x1024
  bcast_S_S16x3x1024 : S_.BroadcastsInDim S16x3x1024 (![] : Fin 0 → Fin S16x3x1024.rank)
  reducesTo_S16x3x1024_S_d0_1_2 : S16x3x1024.ReducesTo [0, 1, 2] S_
  bcast_S_S64x6 : S_.BroadcastsInDim S64x6 (![] : Fin 0 → Fin S64x6.rank)
  reducesTo_S64x6_S_d0_1 : S64x6.ReducesTo [0, 1] S_
  bcast_S_S64x128 : S_.BroadcastsInDim S64x128 (![] : Fin 0 → Fin S64x128.rank)
  reducesTo_S64x128_S_d0_1 : S64x128.ReducesTo [0, 1] S_
  bcast_S_S128x128 : S_.BroadcastsInDim S128x128 (![] : Fin 0 → Fin S128x128.rank)
  reducesTo_S128x128_S_d0_1 : S128x128.ReducesTo [0, 1] S_
  bcast_S_S256x256 : S_.BroadcastsInDim S256x256 (![] : Fin 0 → Fin S256x256.rank)
  reducesTo_S256x256_S_d0_1 : S256x256.ReducesTo [0, 1] S_
  bcast_S_S1024x512 : S_.BroadcastsInDim S1024x512 (![] : Fin 0 → Fin S1024x512.rank)
  reducesTo_S1024x512_S_d0_1 : S1024x512.ReducesTo [0, 1] S_
  bcast_S_S64 : S_.BroadcastsInDim S64 (![] : Fin 0 → Fin S64.rank)
  reducesTo_S64_S_d0 : S64.ReducesTo [0] S_
  bcast_S_S128 : S_.BroadcastsInDim S128 (![] : Fin 0 → Fin S128.rank)
  reducesTo_S128_S_d0 : S128.ReducesTo [0] S_
  bcast_S_S256 : S_.BroadcastsInDim S256 (![] : Fin 0 → Fin S256.rank)
  reducesTo_S256_S_d0 : S256.ReducesTo [0] S_
  sliceFits_S16x1024x1024_S16x1024x21 : S16x1024x1024.Slices (fun _ => 0) S16x1024x21
  slices_S16x1024x21_S16x1024x20_0_0_0 : S16x1024x21.Slices ![0, 0, 0] S16x1024x20
  slices_S16x1024x21_S16x1024x20_0_0_1 : S16x1024x21.Slices ![0, 0, 1] S16x1024x20
  reducesTo_S16x1024x20_S_d0_1_2 : S16x1024x20.ReducesTo [0, 1, 2] S_
  reducesTo_S16x128x1024_S16x1024_d1 : S16x128x1024.ReducesTo [1] S16x1024
  dot_S16x3x1024_S16x3x1024_S16x1024x1024_1_1_2_2_0_0_wf : DotDims.WF S16x3x1024 S16x3x1024 S16x1024x1024 [1] [1] [2] [2] [0] [0]
  gather_S16x1024x3_S16x1024x20x2_S16x1024x20x3_3_01_n_n_01_3_113_wf : GatherDims.WF S16x1024x3 S16x1024x20x2 S16x1024x20x3 [3] [0, 1] [] [0, 1] [] 3 ![1, 1, 3]
  dot_S16x6x1024x20_S64x6_S16x1024x20x64_1_1_023_0_n_n_wf : DotDims.WF S16x6x1024x20 S64x6 S16x1024x20x64 [1] [1] [0, 2, 3] [0] [] []
  dot_S16x64x1024_S16x64x1024_S16x1024x1024_1_1_2_2_0_0_wf : DotDims.WF S16x64x1024 S16x64x1024 S16x1024x1024 [1] [1] [2] [2] [0] [0]
  gather_S16x1024x64_S16x1024x20x2_S16x1024x20x64_3_01_n_n_01_3_1164_wf : GatherDims.WF S16x1024x64 S16x1024x20x2 S16x1024x20x64 [3] [0, 1] [] [0, 1] [] 3 ![1, 1, 64]
  dot_S16x128x1024x20_S64x128_S16x1024x20x64_1_1_023_0_n_n_wf : DotDims.WF S16x128x1024x20 S64x128 S16x1024x20x64 [1] [1] [0, 2, 3] [0] [] []
  dot_S16x128x1024x20_S128x128_S16x1024x20x128_1_1_023_0_n_n_wf : DotDims.WF S16x128x1024x20 S128x128 S16x1024x20x128 [1] [1] [0, 2, 3] [0] [] []
  dot_S16x128x1024_S16x128x1024_S16x1024x1024_1_1_2_2_0_0_wf : DotDims.WF S16x128x1024 S16x128x1024 S16x1024x1024 [1] [1] [2] [2] [0] [0]

variable [Facts]

def dot_S16x3x1024_S16x3x1024_S16x1024x1024_1_1_2_2_0_0 : DotDims S16x3x1024 S16x3x1024 S16x1024x1024 where
  lhsContracting := [1]
  rhsContracting := [1]
  lhsNonContracting := [2]
  rhsNonContracting := [2]
  lhsBatch := [0]
  rhsBatch := [0]
  wf := dot_S16x3x1024_S16x3x1024_S16x1024x1024_1_1_2_2_0_0_wf
def gather_S16x1024x3_S16x1024x20x2_S16x1024x20x3_3_01_n_n_01_3_113 : GatherDims S16x1024x3 S16x1024x20x2 S16x1024x20x3 where
  offsetDims := [3]
  collapsedSliceDims := [0, 1]
  operandBatchingDims := []
  startIndicesBatchingDims := []
  startIndexMap := [0, 1]
  indexVectorDim := 3
  sliceSizes := ![1, 1, 3]
  wf := gather_S16x1024x3_S16x1024x20x2_S16x1024x20x3_3_01_n_n_01_3_113_wf
def dot_S16x6x1024x20_S64x6_S16x1024x20x64_1_1_023_0_n_n : DotDims S16x6x1024x20 S64x6 S16x1024x20x64 where
  lhsContracting := [1]
  rhsContracting := [1]
  lhsNonContracting := [0, 2, 3]
  rhsNonContracting := [0]
  lhsBatch := []
  rhsBatch := []
  wf := dot_S16x6x1024x20_S64x6_S16x1024x20x64_1_1_023_0_n_n_wf
def dot_S16x64x1024_S16x64x1024_S16x1024x1024_1_1_2_2_0_0 : DotDims S16x64x1024 S16x64x1024 S16x1024x1024 where
  lhsContracting := [1]
  rhsContracting := [1]
  lhsNonContracting := [2]
  rhsNonContracting := [2]
  lhsBatch := [0]
  rhsBatch := [0]
  wf := dot_S16x64x1024_S16x64x1024_S16x1024x1024_1_1_2_2_0_0_wf
def gather_S16x1024x64_S16x1024x20x2_S16x1024x20x64_3_01_n_n_01_3_1164 : GatherDims S16x1024x64 S16x1024x20x2 S16x1024x20x64 where
  offsetDims := [3]
  collapsedSliceDims := [0, 1]
  operandBatchingDims := []
  startIndicesBatchingDims := []
  startIndexMap := [0, 1]
  indexVectorDim := 3
  sliceSizes := ![1, 1, 64]
  wf := gather_S16x1024x64_S16x1024x20x2_S16x1024x20x64_3_01_n_n_01_3_1164_wf
def dot_S16x128x1024x20_S64x128_S16x1024x20x64_1_1_023_0_n_n : DotDims S16x128x1024x20 S64x128 S16x1024x20x64 where
  lhsContracting := [1]
  rhsContracting := [1]
  lhsNonContracting := [0, 2, 3]
  rhsNonContracting := [0]
  lhsBatch := []
  rhsBatch := []
  wf := dot_S16x128x1024x20_S64x128_S16x1024x20x64_1_1_023_0_n_n_wf
def dot_S16x128x1024x20_S128x128_S16x1024x20x128_1_1_023_0_n_n : DotDims S16x128x1024x20 S128x128 S16x1024x20x128 where
  lhsContracting := [1]
  rhsContracting := [1]
  lhsNonContracting := [0, 2, 3]
  rhsNonContracting := [0]
  lhsBatch := []
  rhsBatch := []
  wf := dot_S16x128x1024x20_S128x128_S16x1024x20x128_1_1_023_0_n_n_wf
def dot_S16x128x1024_S16x128x1024_S16x1024x1024_1_1_2_2_0_0 : DotDims S16x128x1024 S16x128x1024 S16x1024x1024 where
  lhsContracting := [1]
  rhsContracting := [1]
  lhsNonContracting := [2]
  rhsNonContracting := [2]
  lhsBatch := [0]
  rhsBatch := [0]
  wf := dot_S16x128x1024_S16x128x1024_S16x1024x1024_1_1_2_2_0_0_wf
def fn_where {F : FTy → Type} [FloatOps F] (arg0 : IVec S_ 1) (arg1 : FVec F S1x64x1x1 .f32) (arg2 : FVec F S_ .f32) : FVec F S1x64x1x1 .f32 :=
  let v0 : FVec F S_ .f32 := id arg2
  let v1 : FVec F S1x64x1x1 .f32 := broadcastInDim S1x64x1x1 ![] bcast_S_S1x64x1x1 v0
  let v2 : FVec F S1x64x1x1 .f32 := (fun p a b => select (broadcastInDim S1x64x1x1 ![] bcast_S_S1x64x1x1 p) a b) arg0 arg1 v1
  v2

def fn_var {F : FTy → Type} [FloatOps F] (arg0 : FVec F S16x64x1024x20 .f32) (arg1 : IVec S_ 32) : FVec F S1x64x1x1 .f32 :=
  let cst : FVec F S_ .f32 := constant S_ .f32 0x00000000#32
  let v0 : FVec F S64 .f32 := (fun x v => Host.reduceAdd x v reducesTo_S16x64x1024x20_S64_d0_2_3 h_S_) arg0 cst
  let v1 : FVec F S1x64x1x1 .f32 := broadcastInDim S1x64x1x1 ![1] bcast_S64_S1x64x1x1_1 v0
  let cst_0 : FVec F S_ .f32 := constant S_ .f32 0x48A00000#32
  let v2 : FVec F S1x64x1x1 .f32 := broadcastInDim S1x64x1x1 ![] bcast_S_S1x64x1x1 cst_0
  let v3 : FVec F S1x64x1x1 .f32 := Host.divf v1 v2
  let v4 : FVec F S16x64x1024x20 .f32 := broadcastInDim S16x64x1024x20 ![0, 1, 2, 3] bcast_S1x64x1x1_S16x64x1024x20_0_1_2_3 v3
  let v5 : FVec F S16x64x1024x20 .f32 := subf arg0 v4
  let v6 : FVec F S16x64x1024x20 .f32 := mulf v5 v5
  let v7 : FVec F S_ .f32 := sitofp .f32 arg1
  let cst_1 : FVec F S_ .f32 := constant S_ .f32 0x48A00000#32
  let v8 : FVec F S_ .f32 := subf cst_1 v7
  let cst_2 : FVec F S_ .f32 := constant S_ .f32 0x00000000#32
  let v9 : FVec F S64 .f32 := (fun x v => Host.reduceAdd x v reducesTo_S16x64x1024x20_S64_d0_2_3 h_S_) v6 cst_2
  let v10 : FVec F S1x64x1x1 .f32 := broadcastInDim S1x64x1x1 ![1] bcast_S64_S1x64x1x1_1 v9
  let v11 : FVec F S1x64x1x1 .f32 := broadcastInDim S1x64x1x1 ![] bcast_S_S1x64x1x1 v8
  let v12 : FVec F S1x64x1x1 .f32 := Host.divf v10 v11
  let cst_3 : FVec F S_ .f32 := constant S_ .f32 0x00000000#32
  let v13 : IVec S_ 1 := cmpf .ogt v8 cst_3
  let cst_4 : FVec F S_ .f32 := constant S_ .f32 0x7FC00000#32
  let v14 : FVec F S1x64x1x1 .f32 := fn_where (F := F) v13 v12 cst_4
  v14

def fn_where_0 {F : FTy → Type} [FloatOps F] (arg0 : IVec S16x64x1024x20 1) (arg1 : FVec F S16x64x1024x20 .f32) (arg2 : FVec F S16x64x1024x20 .f32) : FVec F S16x64x1024x20 .f32 :=
  let v0 : FVec F S16x64x1024x20 .f32 := select arg0 arg1 arg2
  v0

def fn_where_2 {F : FTy → Type} [FloatOps F] (arg0 : IVec S_ 1) (arg1 : FVec F S1x128x1x1 .f32) (arg2 : FVec F S_ .f32) : FVec F S1x128x1x1 .f32 :=
  let v0 : FVec F S_ .f32 := id arg2
  let v1 : FVec F S1x128x1x1 .f32 := broadcastInDim S1x128x1x1 ![] bcast_S_S1x128x1x1 v0
  let v2 : FVec F S1x128x1x1 .f32 := (fun p a b => select (broadcastInDim S1x128x1x1 ![] bcast_S_S1x128x1x1 p) a b) arg0 arg1 v1
  v2

def fn_var_1 {F : FTy → Type} [FloatOps F] (arg0 : FVec F S16x128x1024x20 .f32) (arg1 : IVec S_ 32) : FVec F S1x128x1x1 .f32 :=
  let cst : FVec F S_ .f32 := constant S_ .f32 0x00000000#32
  let v0 : FVec F S128 .f32 := (fun x v => Host.reduceAdd x v reducesTo_S16x128x1024x20_S128_d0_2_3 h_S_) arg0 cst
  let v1 : FVec F S1x128x1x1 .f32 := broadcastInDim S1x128x1x1 ![1] bcast_S128_S1x128x1x1_1 v0
  let cst_0 : FVec F S_ .f32 := constant S_ .f32 0x48A00000#32
  let v2 : FVec F S1x128x1x1 .f32 := broadcastInDim S1x128x1x1 ![] bcast_S_S1x128x1x1 cst_0
  let v3 : FVec F S1x128x1x1 .f32 := Host.divf v1 v2
  let v4 : FVec F S16x128x1024x20 .f32 := broadcastInDim S16x128x1024x20 ![0, 1, 2, 3] bcast_S1x128x1x1_S16x128x1024x20_0_1_2_3 v3
  let v5 : FVec F S16x128x1024x20 .f32 := subf arg0 v4
  let v6 : FVec F S16x128x1024x20 .f32 := mulf v5 v5
  let v7 : FVec F S_ .f32 := sitofp .f32 arg1
  let cst_1 : FVec F S_ .f32 := constant S_ .f32 0x48A00000#32
  let v8 : FVec F S_ .f32 := subf cst_1 v7
  let cst_2 : FVec F S_ .f32 := constant S_ .f32 0x00000000#32
  let v9 : FVec F S128 .f32 := (fun x v => Host.reduceAdd x v reducesTo_S16x128x1024x20_S128_d0_2_3 h_S_) v6 cst_2
  let v10 : FVec F S1x128x1x1 .f32 := broadcastInDim S1x128x1x1 ![1] bcast_S128_S1x128x1x1_1 v9
  let v11 : FVec F S1x128x1x1 .f32 := broadcastInDim S1x128x1x1 ![] bcast_S_S1x128x1x1 v8
  let v12 : FVec F S1x128x1x1 .f32 := Host.divf v10 v11
  let cst_3 : FVec F S_ .f32 := constant S_ .f32 0x00000000#32
  let v13 : IVec S_ 1 := cmpf .ogt v8 cst_3
  let cst_4 : FVec F S_ .f32 := constant S_ .f32 0x7FC00000#32
  let v14 : FVec F S1x128x1x1 .f32 := fn_where_2 (F := F) v13 v12 cst_4
  v14

def fn_where_3 {F : FTy → Type} [FloatOps F] (arg0 : IVec S16x128x1024x20 1) (arg1 : FVec F S16x128x1024x20 .f32) (arg2 : FVec F S16x128x1024x20 .f32) : FVec F S16x128x1024x20 .f32 :=
  let v0 : FVec F S16x128x1024x20 .f32 := select arg0 arg1 arg2
  v0

def fn_part18 {F : FTy → Type} [FloatOps F] (main_v318 : IVec S_ 1) (main_values_94 : FVec F S16x1024x21 .f32) (main_v331 : FVec F S16x1024x20 .f32) : IVec S_ 1 :=
  let main_v332 : FVec F S16x1024x20 .f32 := (extractStridedSlice S16x1024x20 ![0, 0, 1] · slices_S16x1024x21_S16x1024x20_0_0_1) main_values_94
  let main_v333 : IVec S16x1024x20 1 := cmpf .ogt main_v331 main_v332
  let main_c_96 : IVec S_ 1 := constantI S_ 1 1#1
  let main_v334 : IVec S_ 1 := (fun x v => Host.reduce IntOp.andi x v reducesTo_S16x1024x20_S_d0_1_2 h_S_) main_v333 main_c_96
  let main_v335 : IVec S_ 1 := andi main_v318 main_v334
  main_v335

def fn_part17 {F : FTy → Type} [FloatOps F] (main_v182 : FVec F S16x128x1024 .f32) (main_v301 : IVec S_ 1) (main_v313 : FVec F S16x1024x1024 .f32) (main_values_89 : FVec F S16x1024x21 .f32) : IVec S_ 1 :=
  let main_indices_90 : IVec S16x1024x21 32 := (fun x => (Host.topK S16x1024x21 2 (FloatOps.cmpfTotal .gt) x sliceFits_S16x1024x1024_S16x1024x21).2) main_v313
  let main_v314 : FVec F S16x1024x20 .f32 := (extractStridedSlice S16x1024x20 ![0, 0, 0] · slices_S16x1024x21_S16x1024x20_0_0_0) main_values_89
  let main_v315 : FVec F S16x1024x20 .f32 := (extractStridedSlice S16x1024x20 ![0, 0, 1] · slices_S16x1024x21_S16x1024x20_0_0_1) main_values_89
  let main_v316 : IVec S16x1024x20 1 := cmpf .ogt main_v314 main_v315
  let main_c_91 : IVec S_ 1 := constantI S_ 1 1#1
  let main_v317 : IVec S_ 1 := (fun x v => Host.reduce IntOp.andi x v reducesTo_S16x1024x20_S_d0_1_2 h_S_) main_v316 main_c_91
  let main_v318 : IVec S_ 1 := andi main_v301 main_v317
  let main_v319 : FVec F S16x1024x1024 .f32 := (fun l r => Host.dotGeneral dot_S16x128x1024_S16x128x1024_S16x1024x1024_1_1_2_2_0_0 none l r) main_v182 main_v182
  let main_cst_92 : FVec F S_ .f32 := constant S_ .f32 0xC0000000#32
  let main_v320 : FVec F S16x1024x1024 .f32 := broadcastInDim S16x1024x1024 ![] bcast_S_S16x1024x1024 main_cst_92
  let main_v321 : FVec F S16x1024x1024 .f32 := mulf main_v320 main_v319
  let main_v322 : FVec F S16x128x1024 .f32 := mulf main_v182 main_v182
  let main_cst_93 : FVec F S_ .f32 := constant S_ .f32 0x00000000#32
  let main_v323 : FVec F S16x1024 .f32 := (fun x v => Host.reduceAdd x v reducesTo_S16x128x1024_S16x1024_d1 h_S_) main_v322 main_cst_93
  let main_v324 : FVec F S16x1x1024 .f32 := broadcastInDim S16x1x1024 ![0, 2] bcast_S16x1024_S16x1x1024_0_2 main_v323
  let main_v325 : FVec F S16x1x1024 .f32 := Host.negf main_v324
  let main_v326 : FVec F S16x1024x1024 .f32 := broadcastInDim S16x1024x1024 ![0, 1, 2] bcast_S16x1x1024_S16x1024x1024_0_1_2 main_v325
  let main_v327 : FVec F S16x1024x1024 .f32 := subf main_v326 main_v321
  let main_v328 : FVec F S16x1024x1 .f32 := (transpose S16x1024x1 [0, 2, 1] · transposes_S16x1x1024_S16x1024x1_0_2_1) main_v324
  let main_v329 : FVec F S16x1024x1024 .f32 := broadcastInDim S16x1024x1024 ![0, 1, 2] bcast_S16x1024x1_S16x1024x1024_0_1_2 main_v328
  let main_v330 : FVec F S16x1024x1024 .f32 := subf main_v327 main_v329
  let main_values_94 : FVec F S16x1024x21 .f32 := (fun x => (Host.topK S16x1024x21 2 (FloatOps.cmpfTotal .gt) x sliceFits_S16x1024x1024_S16x1024x21).1) main_v330
  let main_indices_95 : IVec S16x1024x21 32 := (fun x => (Host.topK S16x1024x21 2 (FloatOps.cmpfTotal .gt) x sliceFits_S16x1024x1024_S16x1024x21).2) main_v330
  let main_v331 : FVec F S16x1024x20 .f32 := (extractStridedSlice S16x1024x20 ![0, 0, 0] · slices_S16x1024x21_S16x1024x20_0_0_0) main_values_94
  fn_part18 (F := F) main_v318 main_values_94 main_v331

def fn_part16 {F : FTy → Type} [FloatOps F] (main_v121 : FVec F S16x64x1024 .f32) (main_v182 : FVec F S16x128x1024 .f32) (main_v284 : IVec S_ 1) (main_v293 : FVec F S16x1024x1024 .f32) (main_v295 : FVec F S16x1024x1024 .f32) : IVec S_ 1 :=
  let main_v296 : FVec F S16x1024x1024 .f32 := subf main_v293 main_v295
  let main_values_84 : FVec F S16x1024x21 .f32 := (fun x => (Host.topK S16x1024x21 2 (FloatOps.cmpfTotal .gt) x sliceFits_S16x1024x1024_S16x1024x21).1) main_v296
  let main_indices_85 : IVec S16x1024x21 32 := (fun x => (Host.topK S16x1024x21 2 (FloatOps.cmpfTotal .gt) x sliceFits_S16x1024x1024_S16x1024x21).2) main_v296
  let main_v297 : FVec F S16x1024x20 .f32 := (extractStridedSlice S16x1024x20 ![0, 0, 0] · slices_S16x1024x21_S16x1024x20_0_0_0) main_values_84
  let main_v298 : FVec F S16x1024x20 .f32 := (extractStridedSlice S16x1024x20 ![0, 0, 1] · slices_S16x1024x21_S16x1024x20_0_0_1) main_values_84
  let main_v299 : IVec S16x1024x20 1 := cmpf .ogt main_v297 main_v298
  let main_c_86 : IVec S_ 1 := constantI S_ 1 1#1
  let main_v300 : IVec S_ 1 := (fun x v => Host.reduce IntOp.andi x v reducesTo_S16x1024x20_S_d0_1_2 h_S_) main_v299 main_c_86
  let main_v301 : IVec S_ 1 := andi main_v284 main_v300
  let main_v302 : FVec F S16x1024x1024 .f32 := (fun l r => Host.dotGeneral dot_S16x64x1024_S16x64x1024_S16x1024x1024_1_1_2_2_0_0 none l r) main_v121 main_v121
  let main_cst_87 : FVec F S_ .f32 := constant S_ .f32 0xC0000000#32
  let main_v303 : FVec F S16x1024x1024 .f32 := broadcastInDim S16x1024x1024 ![] bcast_S_S16x1024x1024 main_cst_87
  let main_v304 : FVec F S16x1024x1024 .f32 := mulf main_v303 main_v302
  let main_v305 : FVec F S16x64x1024 .f32 := mulf main_v121 main_v121
  let main_cst_88 : FVec F S_ .f32 := constant S_ .f32 0x00000000#32
  let main_v306 : FVec F S16x1024 .f32 := (fun x v => Host.reduceAdd x v reducesTo_S16x64x1024_S16x1024_d1 h_S_) main_v305 main_cst_88
  let main_v307 : FVec F S16x1x1024 .f32 := broadcastInDim S16x1x1024 ![0, 2] bcast_S16x1024_S16x1x1024_0_2 main_v306
  let main_v308 : FVec F S16x1x1024 .f32 := Host.negf main_v307
  let main_v309 : FVec F S16x1024x1024 .f32 := broadcastInDim S16x1024x1024 ![0, 1, 2] bcast_S16x1x1024_S16x1024x1024_0_1_2 main_v308
  let main_v310 : FVec F S16x1024x1024 .f32 := subf main_v309 main_v304
  let main_v311 : FVec F S16x1024x1 .f32 := (transpose S16x1024x1 [0, 2, 1] · transposes_S16x1x1024_S16x1024x1_0_2_1) main_v307
  let main_v312 : FVec F S16x1024x1024 .f32 := broadcastInDim S16x1024x1024 ![0, 1, 2] bcast_S16x1024x1_S16x1024x1024_0_1_2 main_v311
  let main_v313 : FVec F S16x1024x1024 .f32 := subf main_v310 main_v312
  let main_values_89 : FVec F S16x1024x21 .f32 := (fun x => (Host.topK S16x1024x21 2 (FloatOps.cmpfTotal .gt) x sliceFits_S16x1024x1024_S16x1024x21).1) main_v313
  fn_part17 (F := F) main_v182 main_v301 main_v313 main_values_89

def fn_part15 {F : FTy → Type} [FloatOps F] (main_v60 : FVec F S16x64x1024 .f32) (main_v121 : FVec F S16x64x1024 .f32) (main_v182 : FVec F S16x128x1024 .f32) (main_v267 : IVec S_ 1) (main_v273 : FVec F S16x1x1024 .f32) (main_v276 : FVec F S16x1024x1024 .f32) : IVec S_ 1 :=
  let main_v277 : FVec F S16x1024x1 .f32 := (transpose S16x1024x1 [0, 2, 1] · transposes_S16x1x1024_S16x1024x1_0_2_1) main_v273
  let main_v278 : FVec F S16x1024x1024 .f32 := broadcastInDim S16x1024x1024 ![0, 1, 2] bcast_S16x1024x1_S16x1024x1024_0_1_2 main_v277
  let main_v279 : FVec F S16x1024x1024 .f32 := subf main_v276 main_v278
  let main_values_79 : FVec F S16x1024x21 .f32 := (fun x => (Host.topK S16x1024x21 2 (FloatOps.cmpfTotal .gt) x sliceFits_S16x1024x1024_S16x1024x21).1) main_v279
  let main_indices_80 : IVec S16x1024x21 32 := (fun x => (Host.topK S16x1024x21 2 (FloatOps.cmpfTotal .gt) x sliceFits_S16x1024x1024_S16x1024x21).2) main_v279
  let main_v280 : FVec F S16x1024x20 .f32 := (extractStridedSlice S16x1024x20 ![0, 0, 0] · slices_S16x1024x21_S16x1024x20_0_0_0) main_values_79
  let main_v281 : FVec F S16x1024x20 .f32 := (extractStridedSlice S16x1024x20 ![0, 0, 1] · slices_S16x1024x21_S16x1024x20_0_0_1) main_values_79
  let main_v282 : IVec S16x1024x20 1 := cmpf .ogt main_v280 main_v281
  let main_c_81 : IVec S_ 1 := constantI S_ 1 1#1
  let main_v283 : IVec S_ 1 := (fun x v => Host.reduce IntOp.andi x v reducesTo_S16x1024x20_S_d0_1_2 h_S_) main_v282 main_c_81
  let main_v284 : IVec S_ 1 := andi main_v267 main_v283
  let main_v285 : FVec F S16x1024x1024 .f32 := (fun l r => Host.dotGeneral dot_S16x64x1024_S16x64x1024_S16x1024x1024_1_1_2_2_0_0 none l r) main_v60 main_v60
  let main_cst_82 : FVec F S_ .f32 := constant S_ .f32 0xC0000000#32
  let main_v286 : FVec F S16x1024x1024 .f32 := broadcastInDim S16x1024x1024 ![] bcast_S_S16x1024x1024 main_cst_82
  let main_v287 : FVec F S16x1024x1024 .f32 := mulf main_v286 main_v285
  let main_v288 : FVec F S16x64x1024 .f32 := mulf main_v60 main_v60
  let main_cst_83 : FVec F S_ .f32 := constant S_ .f32 0x00000000#32
  let main_v289 : FVec F S16x1024 .f32 := (fun x v => Host.reduceAdd x v reducesTo_S16x64x1024_S16x1024_d1 h_S_) main_v288 main_cst_83
  let main_v290 : FVec F S16x1x1024 .f32 := broadcastInDim S16x1x1024 ![0, 2] bcast_S16x1024_S16x1x1024_0_2 main_v289
  let main_v291 : FVec F S16x1x1024 .f32 := Host.negf main_v290
  let main_v292 : FVec F S16x1024x1024 .f32 := broadcastInDim S16x1024x1024 ![0, 1, 2] bcast_S16x1x1024_S16x1024x1024_0_1_2 main_v291
  let main_v293 : FVec F S16x1024x1024 .f32 := subf main_v292 main_v287
  let main_v294 : FVec F S16x1024x1 .f32 := (transpose S16x1024x1 [0, 2, 1] · transposes_S16x1x1024_S16x1024x1_0_2_1) main_v290
  let main_v295 : FVec F S16x1024x1024 .f32 := broadcastInDim S16x1024x1024 ![0, 1, 2] bcast_S16x1024x1_S16x1024x1024_0_1_2 main_v294
  fn_part16 (F := F) main_v121 main_v182 main_v284 main_v293 main_v295

def fn_part14 {F : FTy → Type} [FloatOps F] (main_arg0 : FVec F S16x3x1024 .f32) (main_arg12 : FVec F S256 .f32) (main_v60 : FVec F S16x64x1024 .f32) (main_v121 : FVec F S16x64x1024 .f32) (main_v182 : FVec F S16x128x1024 .f32) (main_v257 : IVec S_ 1) (main_v258 : FVec F S128 .f32) : IVec S_ 1 :=
  let main_cst_73 : FVec F S_ .f32 := constant S_ .f32 0x7F800000#32
  let main_v259 : FVec F S128 .f32 := broadcastInDim S128 ![] bcast_S_S128 main_cst_73
  let main_v260 : IVec S128 1 := cmpf .olt main_v258 main_v259
  let main_c_74 : IVec S_ 1 := constantI S_ 1 1#1
  let main_v261 : IVec S_ 1 := (fun x v => Host.reduce IntOp.andi x v reducesTo_S128_S_d0 h_S_) main_v260 main_c_74
  let main_v262 : IVec S_ 1 := andi main_v257 main_v261
  let main_v263 : FVec F S256 .f32 := Host.absf main_arg12
  let main_cst_75 : FVec F S_ .f32 := constant S_ .f32 0x7F800000#32
  let main_v264 : FVec F S256 .f32 := broadcastInDim S256 ![] bcast_S_S256 main_cst_75
  let main_v265 : IVec S256 1 := cmpf .olt main_v263 main_v264
  let main_c_76 : IVec S_ 1 := constantI S_ 1 1#1
  let main_v266 : IVec S_ 1 := (fun x v => Host.reduce IntOp.andi x v reducesTo_S256_S_d0 h_S_) main_v265 main_c_76
  let main_v267 : IVec S_ 1 := andi main_v262 main_v266
  let main_v268 : FVec F S16x1024x1024 .f32 := (fun l r => Host.dotGeneral dot_S16x3x1024_S16x3x1024_S16x1024x1024_1_1_2_2_0_0 none l r) main_arg0 main_arg0
  let main_cst_77 : FVec F S_ .f32 := constant S_ .f32 0xC0000000#32
  let main_v269 : FVec F S16x1024x1024 .f32 := broadcastInDim S16x1024x1024 ![] bcast_S_S16x1024x1024 main_cst_77
  let main_v270 : FVec F S16x1024x1024 .f32 := mulf main_v269 main_v268
  let main_v271 : FVec F S16x3x1024 .f32 := mulf main_arg0 main_arg0
  let main_cst_78 : FVec F S_ .f32 := constant S_ .f32 0x00000000#32
  let main_v272 : FVec F S16x1024 .f32 := (fun x v => Host.reduceAdd x v reducesTo_S16x3x1024_S16x1024_d1 h_S_) main_v271 main_cst_78
  let main_v273 : FVec F S16x1x1024 .f32 := broadcastInDim S16x1x1024 ![0, 2] bcast_S16x1024_S16x1x1024_0_2 main_v272
  let main_v274 : FVec F S16x1x1024 .f32 := Host.negf main_v273
  let main_v275 : FVec F S16x1024x1024 .f32 := broadcastInDim S16x1024x1024 ![0, 1, 2] bcast_S16x1x1024_S16x1024x1024_0_1_2 main_v274
  let main_v276 : FVec F S16x1024x1024 .f32 := subf main_v275 main_v270
  fn_part15 (F := F) main_v60 main_v121 main_v182 main_v267 main_v273 main_v276

def fn_part13 {F : FTy → Type} [FloatOps F] (main_arg0 : FVec F S16x3x1024 .f32) (main_arg3 : FVec F S64 .f32) (main_arg6 : FVec F S64 .f32) (main_arg9 : FVec F S128 .f32) (main_arg11 : FVec F S256 .f32) (main_arg12 : FVec F S256 .f32) (main_v60 : FVec F S16x64x1024 .f32) (main_v121 : FVec F S16x64x1024 .f32) (main_v182 : FVec F S16x128x1024 .f32) (main_v238 : IVec S_ 1) (main_v241 : IVec S256 1) : IVec S_ 1 :=
  let main_c_66 : IVec S_ 1 := constantI S_ 1 1#1
  let main_v242 : IVec S_ 1 := (fun x v => Host.reduce IntOp.andi x v reducesTo_S256_S_d0 h_S_) main_v241 main_c_66
  let main_v243 : IVec S_ 1 := andi main_v238 main_v242
  let main_cst_67 : FVec F S_ .f32 := constant S_ .f32 0x00000000#32
  let main_v244 : FVec F S256 .f32 := broadcastInDim S256 ![] bcast_S_S256 main_cst_67
  let main_v245 : IVec S256 1 := cmpf .oge main_arg11 main_v244
  let main_c_68 : IVec S_ 1 := constantI S_ 1 1#1
  let main_v246 : IVec S_ 1 := (fun x v => Host.reduce IntOp.andi x v reducesTo_S256_S_d0 h_S_) main_v245 main_c_68
  let main_v247 : IVec S_ 1 := andi main_v243 main_v246
  let main_v248 : FVec F S64 .f32 := Host.absf main_arg3
  let main_cst_69 : FVec F S_ .f32 := constant S_ .f32 0x7F800000#32
  let main_v249 : FVec F S64 .f32 := broadcastInDim S64 ![] bcast_S_S64 main_cst_69
  let main_v250 : IVec S64 1 := cmpf .olt main_v248 main_v249
  let main_c_70 : IVec S_ 1 := constantI S_ 1 1#1
  let main_v251 : IVec S_ 1 := (fun x v => Host.reduce IntOp.andi x v reducesTo_S64_S_d0 h_S_) main_v250 main_c_70
  let main_v252 : IVec S_ 1 := andi main_v247 main_v251
  let main_v253 : FVec F S64 .f32 := Host.absf main_arg6
  let main_cst_71 : FVec F S_ .f32 := constant S_ .f32 0x7F800000#32
  let main_v254 : FVec F S64 .f32 := broadcastInDim S64 ![] bcast_S_S64 main_cst_71
  let main_v255 : IVec S64 1 := cmpf .olt main_v253 main_v254
  let main_c_72 : IVec S_ 1 := constantI S_ 1 1#1
  let main_v256 : IVec S_ 1 := (fun x v => Host.reduce IntOp.andi x v reducesTo_S64_S_d0 h_S_) main_v255 main_c_72
  let main_v257 : IVec S_ 1 := andi main_v252 main_v256
  let main_v258 : FVec F S128 .f32 := Host.absf main_arg9
  fn_part14 (F := F) main_arg0 main_arg12 main_v60 main_v121 main_v182 main_v257 main_v258

def fn_part12 {F : FTy → Type} [FloatOps F] (main_arg0 : FVec F S16x3x1024 .f32) (main_arg3 : FVec F S64 .f32) (main_arg5 : FVec F S64 .f32) (main_arg6 : FVec F S64 .f32) (main_arg8 : FVec F S128 .f32) (main_arg9 : FVec F S128 .f32) (main_arg11 : FVec F S256 .f32) (main_arg12 : FVec F S256 .f32) (main_v60 : FVec F S16x64x1024 .f32) (main_v121 : FVec F S16x64x1024 .f32) (main_v182 : FVec F S16x128x1024 .f32) (main_v220 : IVec S_ 1) (main_v224 : IVec S_ 1) : IVec S_ 1 :=
  let main_v225 : IVec S_ 1 := andi main_v220 main_v224
  let main_cst_59 : FVec F S_ .f32 := constant S_ .f32 0x00000000#32
  let main_v226 : FVec F S64 .f32 := broadcastInDim S64 ![] bcast_S_S64 main_cst_59
  let main_v227 : IVec S64 1 := cmpf .oge main_arg5 main_v226
  let main_c_60 : IVec S_ 1 := constantI S_ 1 1#1
  let main_v228 : IVec S_ 1 := (fun x v => Host.reduce IntOp.andi x v reducesTo_S64_S_d0 h_S_) main_v227 main_c_60
  let main_v229 : IVec S_ 1 := andi main_v225 main_v228
  let main_v230 : FVec F S128 .f32 := Host.absf main_arg8
  let main_cst_61 : FVec F S_ .f32 := constant S_ .f32 0x7F800000#32
  let main_v231 : FVec F S128 .f32 := broadcastInDim S128 ![] bcast_S_S128 main_cst_61
  let main_v232 : IVec S128 1 := cmpf .olt main_v230 main_v231
  let main_c_62 : IVec S_ 1 := constantI S_ 1 1#1
  let main_v233 : IVec S_ 1 := (fun x v => Host.reduce IntOp.andi x v reducesTo_S128_S_d0 h_S_) main_v232 main_c_62
  let main_v234 : IVec S_ 1 := andi main_v229 main_v233
  let main_cst_63 : FVec F S_ .f32 := constant S_ .f32 0x00000000#32
  let main_v235 : FVec F S128 .f32 := broadcastInDim S128 ![] bcast_S_S128 main_cst_63
  let main_v236 : IVec S128 1 := cmpf .oge main_arg8 main_v235
  let main_c_64 : IVec S_ 1 := constantI S_ 1 1#1
  let main_v237 : IVec S_ 1 := (fun x v => Host.reduce IntOp.andi x v reducesTo_S128_S_d0 h_S_) main_v236 main_c_64
  let main_v238 : IVec S_ 1 := andi main_v234 main_v237
  let main_v239 : FVec F S256 .f32 := Host.absf main_arg11
  let main_cst_65 : FVec F S_ .f32 := constant S_ .f32 0x7F800000#32
  let main_v240 : FVec F S256 .f32 := broadcastInDim S256 ![] bcast_S_S256 main_cst_65
  let main_v241 : IVec S256 1 := cmpf .olt main_v239 main_v240
  fn_part13 (F := F) main_arg0 main_arg3 main_arg6 main_arg9 main_arg11 main_arg12 main_v60 main_v121 main_v182 main_v238 main_v241

def fn_part11 {F : FTy → Type} [FloatOps F] (main_arg0 : FVec F S16x3x1024 .f32) (main_arg2 : FVec F S64 .f32) (main_arg3 : FVec F S64 .f32) (main_arg5 : FVec F S64 .f32) (main_arg6 : FVec F S64 .f32) (main_arg8 : FVec F S128 .f32) (main_arg9 : FVec F S128 .f32) (main_arg11 : FVec F S256 .f32) (main_arg12 : FVec F S256 .f32) (main_v60 : FVec F S16x64x1024 .f32) (main_v121 : FVec F S16x64x1024 .f32) (main_v182 : FVec F S16x128x1024 .f32) (main_v206 : IVec S_ 1) (main_v207 : FVec F S1024x512 .f32) (main_cst_51 : FVec F S_ .f32) : IVec S_ 1 :=
  let main_v208 : FVec F S1024x512 .f32 := broadcastInDim S1024x512 ![] bcast_S_S1024x512 main_cst_51
  let main_v209 : IVec S1024x512 1 := cmpf .olt main_v207 main_v208
  let main_c_52 : IVec S_ 1 := constantI S_ 1 1#1
  let main_v210 : IVec S_ 1 := (fun x v => Host.reduce IntOp.andi x v reducesTo_S1024x512_S_d0_1 h_S_) main_v209 main_c_52
  let main_v211 : IVec S_ 1 := andi main_v206 main_v210
  let main_v212 : FVec F S64 .f32 := Host.absf main_arg2
  let main_cst_53 : FVec F S_ .f32 := constant S_ .f32 0x7F800000#32
  let main_v213 : FVec F S64 .f32 := broadcastInDim S64 ![] bcast_S_S64 main_cst_53
  let main_v214 : IVec S64 1 := cmpf .olt main_v212 main_v213
  let main_c_54 : IVec S_ 1 := constantI S_ 1 1#1
  let main_v215 : IVec S_ 1 := (fun x v => Host.reduce IntOp.andi x v reducesTo_S64_S_d0 h_S_) main_v214 main_c_54
  let main_v216 : IVec S_ 1 := andi main_v211 main_v215
  let main_cst_55 : FVec F S_ .f32 := constant S_ .f32 0x00000000#32
  let main_v217 : FVec F S64 .f32 := broadcastInDim S64 ![] bcast_S_S64 main_cst_55
  let main_v218 : IVec S64 1 := cmpf .oge main_arg2 main_v217
  let main_c_56 : IVec S_ 1 := constantI S_ 1 1#1
  let main_v219 : IVec S_ 1 := (fun x v => Host.reduce IntOp.andi x v reducesTo_S64_S_d0 h_S_) main_v218 main_c_56
  let main_v220 : IVec S_ 1 := andi main_v216 main_v219
  let main_v221 : FVec F S64 .f32 := Host.absf main_arg5
  let main_cst_57 : FVec F S_ .f32 := constant S_ .f32 0x7F800000#32
  let main_v222 : FVec F S64 .f32 := broadcastInDim S64 ![] bcast_S_S64 main_cst_57
  let main_v223 : IVec S64 1 := cmpf .olt main_v221 main_v222
  let main_c_58 : IVec S_ 1 := constantI S_ 1 1#1
  let main_v224 : IVec S_ 1 := (fun x v => Host.reduce IntOp.andi x v reducesTo_S64_S_d0 h_S_) main_v223 main_c_58
  fn_part12 (F := F) main_arg0 main_arg3 main_arg5 main_arg6 main_arg8 main_arg9 main_arg11 main_arg12 main_v60 main_v121 main_v182 main_v220 main_v224

def fn_part10 {F : FTy → Type} [FloatOps F] (main_arg0 : FVec F S16x3x1024 .f32) (main_arg2 : FVec F S64 .f32) (main_arg3 : FVec F S64 .f32) (main_arg4 : FVec F S64x128 .f32) (main_arg5 : FVec F S64 .f32) (main_arg6 : FVec F S64 .f32) (main_arg7 : FVec F S128x128 .f32) (main_arg8 : FVec F S128 .f32) (main_arg9 : FVec F S128 .f32) (main_arg10 : FVec F S256x256 .f32) (main_arg11 : FVec F S256 .f32) (main_arg12 : FVec F S256 .f32) (main_arg13 : FVec F S1024x512 .f32) (main_v60 : FVec F S16x64x1024 .f32) (main_v121 : FVec F S16x64x1024 .f32) (main_v182 : FVec F S16x128x1024 .f32) (main_v186 : IVec S_ 1) (main_v190 : IVec S_ 1) : IVec S_ 1 :=
  let main_v191 : IVec S_ 1 := andi main_v186 main_v190
  let main_v192 : FVec F S64x128 .f32 := Host.absf main_arg4
  let main_cst_45 : FVec F S_ .f32 := constant S_ .f32 0x7F800000#32
  let main_v193 : FVec F S64x128 .f32 := broadcastInDim S64x128 ![] bcast_S_S64x128 main_cst_45
  let main_v194 : IVec S64x128 1 := cmpf .olt main_v192 main_v193
  let main_c_46 : IVec S_ 1 := constantI S_ 1 1#1
  let main_v195 : IVec S_ 1 := (fun x v => Host.reduce IntOp.andi x v reducesTo_S64x128_S_d0_1 h_S_) main_v194 main_c_46
  let main_v196 : IVec S_ 1 := andi main_v191 main_v195
  let main_v197 : FVec F S128x128 .f32 := Host.absf main_arg7
  let main_cst_47 : FVec F S_ .f32 := constant S_ .f32 0x7F800000#32
  let main_v198 : FVec F S128x128 .f32 := broadcastInDim S128x128 ![] bcast_S_S128x128 main_cst_47
  let main_v199 : IVec S128x128 1 := cmpf .olt main_v197 main_v198
  let main_c_48 : IVec S_ 1 := constantI S_ 1 1#1
  let main_v200 : IVec S_ 1 := (fun x v => Host.reduce IntOp.andi x v reducesTo_S128x128_S_d0_1 h_S_) main_v199 main_c_48
  let main_v201 : IVec S_ 1 := andi main_v196 main_v200
  let main_v202 : FVec F S256x256 .f32 := Host.absf main_arg10
  let main_cst_49 : FVec F S_ .f32 := constant S_ .f32 0x7F800000#32
  let main_v203 : FVec F S256x256 .f32 := broadcastInDim S256x256 ![] bcast_S_S256x256 main_cst_49
  let main_v204 : IVec S256x256 1 := cmpf .olt main_v202 main_v203
  let main_c_50 : IVec S_ 1 := constantI S_ 1 1#1
  let main_v205 : IVec S_ 1 := (fun x v => Host.reduce IntOp.andi x v reducesTo_S256x256_S_d0_1 h_S_) main_v204 main_c_50
  let main_v206 : IVec S_ 1 := andi main_v201 main_v205
  let main_v207 : FVec F S1024x512 .f32 := Host.absf main_arg13
  let main_cst_51 : FVec F S_ .f32 := constant S_ .f32 0x7F800000#32
  fn_part11 (F := F) main_arg0 main_arg2 main_arg3 main_arg5 main_arg6 main_arg8 main_arg9 main_arg11 main_arg12 main_v60 main_v121 main_v182 main_v206 main_v207 main_cst_51

def fn_part9 {F : FTy → Type} [FloatOps F] (main_arg0 : FVec F S16x3x1024 .f32) (main_arg1 : FVec F S64x6 .f32) (main_arg2 : FVec F S64 .f32) (main_arg3 : FVec F S64 .f32) (main_arg4 : FVec F S64x128 .f32) (main_arg5 : FVec F S64 .f32) (main_arg6 : FVec F S64 .f32) (main_arg7 : FVec F S128x128 .f32) (main_arg8 : FVec F S128 .f32) (main_arg9 : FVec F S128 .f32) (main_arg10 : FVec F S256x256 .f32) (main_arg11 : FVec F S256 .f32) (main_arg12 : FVec F S256 .f32) (main_arg13 : FVec F S1024x512 .f32) (main_v60 : FVec F S16x64x1024 .f32) (main_v121 : FVec F S16x64x1024 .f32) (main_v173 : FVec F S16x128x1024x20 .f32) : IVec S_ 1 :=
  let main_v174 : FVec F S1x128x1x1 .f32 := shapeCast S1x128x1x1 main_arg9 shapeCasts_S128_S1x128x1x1
  let main_v175 : FVec F S16x128x1024x20 .f32 := broadcastInDim S16x128x1024x20 ![0, 1, 2, 3] bcast_S1x128x1x1_S16x128x1024x20_0_1_2_3 main_v174
  let main_v176 : FVec F S16x128x1024x20 .f32 := addf main_v173 main_v175
  let main_cst_38 : FVec F S_ .f32 := constant S_ .f32 0x00000000#32
  let main_v177 : FVec F S16x128x1024x20 .f32 := broadcastInDim S16x128x1024x20 ![] bcast_S_S16x128x1024x20 main_cst_38
  let main_v178 : IVec S16x128x1024x20 1 := cmpf .oge main_v176 main_v177
  let main_cst_39 : FVec F S_ .f32 := constant S_ .f32 0x3E4CCCCD#32
  let main_v179 : FVec F S16x128x1024x20 .f32 := broadcastInDim S16x128x1024x20 ![] bcast_S_S16x128x1024x20 main_cst_39
  let main_v180 : FVec F S16x128x1024x20 .f32 := mulf main_v179 main_v176
  let main_v181 : FVec F S16x128x1024x20 .f32 := fn_where_3 (F := F) main_v178 main_v176 main_v180
  let main_cst_40 : FVec F S_ .f32 := constant S_ .f32 0xFF800000#32
  let main_v182 : FVec F S16x128x1024 .f32 := (fun x v => Host.reduce FloatOps.maximumf x v reducesTo_S16x128x1024x20_S16x128x1024_d3 h_S_) main_v181 main_cst_40
  let main_v183 : FVec F S16x3x1024 .f32 := Host.absf main_arg0
  let main_cst_41 : FVec F S_ .f32 := constant S_ .f32 0x7F800000#32
  let main_v184 : FVec F S16x3x1024 .f32 := broadcastInDim S16x3x1024 ![] bcast_S_S16x3x1024 main_cst_41
  let main_v185 : IVec S16x3x1024 1 := cmpf .olt main_v183 main_v184
  let main_c_42 : IVec S_ 1 := constantI S_ 1 1#1
  let main_v186 : IVec S_ 1 := (fun x v => Host.reduce IntOp.andi x v reducesTo_S16x3x1024_S_d0_1_2 h_S_) main_v185 main_c_42
  let main_v187 : FVec F S64x6 .f32 := Host.absf main_arg1
  let main_cst_43 : FVec F S_ .f32 := constant S_ .f32 0x7F800000#32
  let main_v188 : FVec F S64x6 .f32 := broadcastInDim S64x6 ![] bcast_S_S64x6 main_cst_43
  let main_v189 : IVec S64x6 1 := cmpf .olt main_v187 main_v188
  let main_c_44 : IVec S_ 1 := constantI S_ 1 1#1
  let main_v190 : IVec S_ 1 := (fun x v => Host.reduce IntOp.andi x v reducesTo_S64x6_S_d0_1 h_S_) main_v189 main_c_44
  fn_part10 (F := F) main_arg0 main_arg2 main_arg3 main_arg4 main_arg5 main_arg6 main_arg7 main_arg8 main_arg9 main_arg10 main_arg11 main_arg12 main_arg13 main_v60 main_v121 main_v182 main_v186 main_v190

def fn_part8 {F : FTy → Type} [FloatOps F] (main_arg0 : FVec F S16x3x1024 .f32) (main_arg1 : FVec F S64x6 .f32) (main_arg2 : FVec F S64 .f32) (main_arg3 : FVec F S64 .f32) (main_arg4 : FVec F S64x128 .f32) (main_arg5 : FVec F S64 .f32) (main_arg6 : FVec F S64 .f32) (main_arg7 : FVec F S128x128 .f32) (main_arg8 : FVec F S128 .f32) (main_arg9 : FVec F S128 .f32) (main_arg10 : FVec F S256x256 .f32) (main_arg11 : FVec F S256 .f32) (main_arg12 : FVec F S256 .f32) (main_arg13 : FVec F S1024x512 .f32) (main_v60 : FVec F S16x64x1024 .f32) (main_v121 : FVec F S16x64x1024 .f32) (main_v151 : FVec F S16x1024x20x64 .f32) (main_v153 : FVec F S16x1024x20x64 .f32) : IVec S_ 1 :=
  let main_v154 : FVec F S16x1024x20x64 .f32 := subf main_v151 main_v153
  let main_v155 : FVec F S16x1024x20x128 .f32 := (fun a b => concatenate S16x1024x20x128 3 [⟨S16x1024x20x64, a⟩, ⟨S16x1024x20x64, b⟩] concatenates_S16x1024x20x64_S16x1024x20x64_S16x1024x20x128_d3) main_v154 main_v153
  let main_v156 : FVec F S16x128x1024x20 .f32 := (transpose S16x128x1024x20 [0, 3, 1, 2] · transposes_S16x1024x20x128_S16x128x1024x20_0_3_1_2) main_v155
  let main_v157 : FVec F S16x1024x20x128 .f32 := (fun l r => Host.dotGeneral dot_S16x128x1024x20_S128x128_S16x1024x20x128_1_1_023_0_n_n none l r) main_v156 main_arg7
  let main_v158 : FVec F S16x128x1024x20 .f32 := (transpose S16x128x1024x20 [0, 3, 1, 2] · transposes_S16x1024x20x128_S16x128x1024x20_0_3_1_2) main_v157
  let main_cst_34 : FVec F S_ .f32 := constant S_ .f32 0x00000000#32
  let main_v159 : FVec F S128 .f32 := (fun x v => Host.reduceAdd x v reducesTo_S16x128x1024x20_S128_d0_2_3 h_S_) main_v158 main_cst_34
  let main_v160 : FVec F S1x128x1x1 .f32 := broadcastInDim S1x128x1x1 ![1] bcast_S128_S1x128x1x1_1 main_v159
  let main_cst_35 : FVec F S_ .f32 := constant S_ .f32 0x48A00000#32
  let main_v161 : FVec F S1x128x1x1 .f32 := broadcastInDim S1x128x1x1 ![] bcast_S_S1x128x1x1 main_cst_35
  let main_v162 : FVec F S1x128x1x1 .f32 := Host.divf main_v160 main_v161
  let main_c_36 : IVec S_ 32 := constantI S_ 32 0#32
  let main_v163 : FVec F S1x128x1x1 .f32 := fn_var_1 (F := F) main_v158 main_c_36
  let main_v164 : FVec F S16x128x1024x20 .f32 := broadcastInDim S16x128x1024x20 ![0, 1, 2, 3] bcast_S1x128x1x1_S16x128x1024x20_0_1_2_3 main_v162
  let main_v165 : FVec F S16x128x1024x20 .f32 := subf main_v158 main_v164
  let main_cst_37 : FVec F S_ .f32 := constant S_ .f32 0x3727C5AC#32
  let main_v166 : FVec F S1x128x1x1 .f32 := broadcastInDim S1x128x1x1 ![] bcast_S_S1x128x1x1 main_cst_37
  let main_v167 : FVec F S1x128x1x1 .f32 := addf main_v163 main_v166
  let main_v168 : FVec F S1x128x1x1 .f32 := Host.sqrt main_v167
  let main_v169 : FVec F S16x128x1024x20 .f32 := broadcastInDim S16x128x1024x20 ![0, 1, 2, 3] bcast_S1x128x1x1_S16x128x1024x20_0_1_2_3 main_v168
  let main_v170 : FVec F S16x128x1024x20 .f32 := Host.divf main_v165 main_v169
  let main_v171 : FVec F S1x128x1x1 .f32 := shapeCast S1x128x1x1 main_arg8 shapeCasts_S128_S1x128x1x1
  let main_v172 : FVec F S16x128x1024x20 .f32 := broadcastInDim S16x128x1024x20 ![0, 1, 2, 3] bcast_S1x128x1x1_S16x128x1024x20_0_1_2_3 main_v171
  let main_v173 : FVec F S16x128x1024x20 .f32 := mulf main_v170 main_v172
  fn_part9 (F := F) main_arg0 main_arg1 main_arg2 main_arg3 main_arg4 main_arg5 main_arg6 main_arg7 main_arg8 main_arg9 main_arg10 main_arg11 main_arg12 main_arg13 main_v60 main_v121 main_v173

def fn_part7 {F : FTy → Type} [FloatOps F] (main_arg0 : FVec F S16x3x1024 .f32) (main_arg1 : FVec F S64x6 .f32) (main_arg2 : FVec F S64 .f32) (main_arg3 : FVec F S64 .f32) (main_arg4 : FVec F S64x128 .f32) (main_arg5 : FVec F S64 .f32) (main_arg6 : FVec F S64 .f32) (main_arg7 : FVec F S128x128 .f32) (main_arg8 : FVec F S128 .f32) (main_arg9 : FVec F S128 .f32) (main_arg10 : FVec F S256x256 .f32) (main_arg11 : FVec F S256 .f32) (main_arg12 : FVec F S256 .f32) (main_arg13 : FVec F S1024x512 .f32) (main_v60 : FVec F S16x64x1024 .f32) (main_v121 : FVec F S16x64x1024 .f32) (main_indices_29 : IVec S16x1024x20 32) : IVec S_ 1 :=
  let main_v134 : FVec F S16x1024x64 .f32 := (transpose S16x1024x64 [0, 2, 1] · transposes_S16x64x1024_S16x1024x64_0_2_1) main_v121
  let main_v135 : IVec S16 32 := iotaInDim S16 32 0
  let main_v136 : IVec S16x1x1 32 := broadcastInDim S16x1x1 ![0] bcast_S16_S16x1x1_0 main_v135
  let main_c_30 : IVec S_ 32 := constantI S_ 32 0#32
  let main_v137 : IVec S16x1x1 32 := broadcastInDim S16x1x1 ![] bcast_S_S16x1x1 main_c_30
  let main_v138 : IVec S16x1x1 1 := cmpi .slt main_v136 main_v137
  let main_c_31 : IVec S_ 32 := constantI S_ 32 16#32
  let main_v139 : IVec S16x1x1 32 := broadcastInDim S16x1x1 ![] bcast_S_S16x1x1 main_c_31
  let main_v140 : IVec S16x1x1 32 := addi main_v136 main_v139
  let main_v141 : IVec S16x1x1 32 := select main_v138 main_v140 main_v136
  let main_c_32 : IVec S_ 32 := constantI S_ 32 0#32
  let main_v142 : IVec S16x1024x20 32 := broadcastInDim S16x1024x20 ![] bcast_S_S16x1024x20 main_c_32
  let main_v143 : IVec S16x1024x20 1 := cmpi .slt main_indices_29 main_v142
  let main_c_33 : IVec S_ 32 := constantI S_ 32 1024#32
  let main_v144 : IVec S16x1024x20 32 := broadcastInDim S16x1024x20 ![] bcast_S_S16x1024x20 main_c_33
  let main_v145 : IVec S16x1024x20 32 := addi main_indices_29 main_v144
  let main_v146 : IVec S16x1024x20 32 := select main_v143 main_v145 main_indices_29
  let main_v147 : IVec S16x1024x20 32 := broadcastInDim S16x1024x20 ![0, 1, 2] bcast_S16x1x1_S16x1024x20_0_1_2 main_v141
  let main_v148 : IVec S16x1024x20x1 32 := broadcastInDim S16x1024x20x1 ![0, 1, 2] bcast_S16x1024x20_S16x1024x20x1_0_1_2 main_v147
  let main_v149 : IVec S16x1024x20x1 32 := broadcastInDim S16x1024x20x1 ![0, 1, 2] bcast_S16x1024x20_S16x1024x20x1_0_1_2 main_v146
  let main_v150 : IVec S16x1024x20x2 32 := (fun a b => concatenate S16x1024x20x2 3 [⟨S16x1024x20x1, a⟩, ⟨S16x1024x20x1, b⟩] concatenates_S16x1024x20x1_S16x1024x20x1_S16x1024x20x2_d3) main_v148 main_v149
  let main_v151 : FVec F S16x1024x20x64 .f32 := (fun x i => Host.gather gather_S16x1024x64_S16x1024x20x2_S16x1024x20x64_3_01_n_n_01_3_1164 x i) main_v134 main_v150
  let main_v152 : FVec F S16x1024x1x64 .f32 := broadcastInDim S16x1024x1x64 ![0, 1, 3] bcast_S16x1024x64_S16x1024x1x64_0_1_3 main_v134
  let main_v153 : FVec F S16x1024x20x64 .f32 := broadcastInDim S16x1024x20x64 ![0, 1, 2, 3] bcast_S16x1024x1x64_S16x1024x20x64_0_1_2_3 main_v152
  fn_part8 (F := F) main_arg0 main_arg1 main_arg2 main_arg3 main_arg4 main_arg5 main_arg6 main_arg7 main_arg8 main_arg9 main_arg10 main_arg11 main_arg12 main_arg13 main_v60 main_v121 main_v151 main_v153

def fn_part6 {F : FTy → Type} [FloatOps F] (main_arg0 : FVec F S16x3x1024 .f32) (main_arg1 : FVec F S64x6 .f32) (main_arg2 : FVec F S64 .f32) (main_arg3 : FVec F S64 .f32) (main_arg4 : FVec F S64x128 .f32) (main_arg5 : FVec F S64 .f32) (main_arg6 : FVec F S64 .f32) (main_arg7 : FVec F S128x128 .f32) (main_arg8 : FVec F S128 .f32) (main_arg9 : FVec F S128 .f32) (main_arg10 : FVec F S256x256 .f32) (main_arg11 : FVec F S256 .f32) (main_arg12 : FVec F S256 .f32) (main_arg13 : FVec F S1024x512 .f32) (main_v60 : FVec F S16x64x1024 .f32) (main_v115 : FVec F S16x64x1024x20 .f32) (main_cst_23 : FVec F S_ .f32) : IVec S_ 1 :=
  let main_v116 : FVec F S16x64x1024x20 .f32 := broadcastInDim S16x64x1024x20 ![] bcast_S_S16x64x1024x20 main_cst_23
  let main_v117 : IVec S16x64x1024x20 1 := cmpf .oge main_v115 main_v116
  let main_cst_24 : FVec F S_ .f32 := constant S_ .f32 0x3E4CCCCD#32
  let main_v118 : FVec F S16x64x1024x20 .f32 := broadcastInDim S16x64x1024x20 ![] bcast_S_S16x64x1024x20 main_cst_24
  let main_v119 : FVec F S16x64x1024x20 .f32 := mulf main_v118 main_v115
  let main_v120 : FVec F S16x64x1024x20 .f32 := fn_where_0 (F := F) main_v117 main_v115 main_v119
  let main_cst_25 : FVec F S_ .f32 := constant S_ .f32 0xFF800000#32
  let main_v121 : FVec F S16x64x1024 .f32 := (fun x v => Host.reduce FloatOps.maximumf x v reducesTo_S16x64x1024x20_S16x64x1024_d3 h_S_) main_v120 main_cst_25
  let main_v122 : FVec F S16x1024x1024 .f32 := (fun l r => Host.dotGeneral dot_S16x64x1024_S16x64x1024_S16x1024x1024_1_1_2_2_0_0 none l r) main_v121 main_v121
  let main_cst_26 : FVec F S_ .f32 := constant S_ .f32 0xC0000000#32
  let main_v123 : FVec F S16x1024x1024 .f32 := broadcastInDim S16x1024x1024 ![] bcast_S_S16x1024x1024 main_cst_26
  let main_v124 : FVec F S16x1024x1024 .f32 := mulf main_v123 main_v122
  let main_v125 : FVec F S16x64x1024 .f32 := mulf main_v121 main_v121
  let main_cst_27 : FVec F S_ .f32 := constant S_ .f32 0x00000000#32
  let main_v126 : FVec F S16x1024 .f32 := (fun x v => Host.reduceAdd x v reducesTo_S16x64x1024_S16x1024_d1 h_S_) main_v125 main_cst_27
  let main_v127 : FVec F S16x1x1024 .f32 := broadcastInDim S16x1x1024 ![0, 2] bcast_S16x1024_S16x1x1024_0_2 main_v126
  let main_v128 : FVec F S16x1x1024 .f32 := Host.negf main_v127
  let main_v129 : FVec F S16x1024x1024 .f32 := broadcastInDim S16x1024x1024 ![0, 1, 2] bcast_S16x1x1024_S16x1024x1024_0_1_2 main_v128
  let main_v130 : FVec F S16x1024x1024 .f32 := subf main_v129 main_v124
  let main_v131 : FVec F S16x1024x1 .f32 := (transpose S16x1024x1 [0, 2, 1] · transposes_S16x1x1024_S16x1024x1_0_2_1) main_v127
  let main_v132 : FVec F S16x1024x1024 .f32 := broadcastInDim S16x1024x1024 ![0, 1, 2] bcast_S16x1024x1_S16x1024x1024_0_1_2 main_v131
  let main_v133 : FVec F S16x1024x1024 .f32 := subf main_v130 main_v132
  let main_values_28 : FVec F S16x1024x20 .f32 := (fun x => (Host.topK S16x1024x20 2 (FloatOps.cmpfTotal .gt) x sliceFits_S16x1024x1024_S16x1024x20).1) main_v133
  let main_indices_29 : IVec S16x1024x20 32 := (fun x => (Host.topK S16x1024x20 2 (FloatOps.cmpfTotal .gt) x sliceFits_S16x1024x1024_S16x1024x20).2) main_v133
  fn_part7 (F := F) main_arg0 main_arg1 main_arg2 main_arg3 main_arg4 main_arg5 main_arg6 main_arg7 main_arg8 main_arg9 main_arg10 main_arg11 main_arg12 main_arg13 main_v60 main_v121 main_indices_29

def fn_part5 {F : FTy → Type} [FloatOps F] (main_arg0 : FVec F S16x3x1024 .f32) (main_arg1 : FVec F S64x6 .f32) (main_arg2 : FVec F S64 .f32) (main_arg3 : FVec F S64 .f32) (main_arg4 : FVec F S64x128 .f32) (main_arg5 : FVec F S64 .f32) (main_arg6 : FVec F S64 .f32) (main_arg7 : FVec F S128x128 .f32) (main_arg8 : FVec F S128 .f32) (main_arg9 : FVec F S128 .f32) (main_arg10 : FVec F S256x256 .f32) (main_arg11 : FVec F S256 .f32) (main_arg12 : FVec F S256 .f32) (main_arg13 : FVec F S1024x512 .f32) (main_v60 : FVec F S16x64x1024 .f32) (main_v96 : FVec F S16x1024x20x64 .f32) : IVec S_ 1 :=
  let main_v97 : FVec F S16x64x1024x20 .f32 := (transpose S16x64x1024x20 [0, 3, 1, 2] · transposes_S16x1024x20x64_S16x64x1024x20_0_3_1_2) main_v96
  let main_cst_19 : FVec F S_ .f32 := constant S_ .f32 0x00000000#32
  let main_v98 : FVec F S64 .f32 := (fun x v => Host.reduceAdd x v reducesTo_S16x64x1024x20_S64_d0_2_3 h_S_) main_v97 main_cst_19
  let main_v99 : FVec F S1x64x1x1 .f32 := broadcastInDim S1x64x1x1 ![1] bcast_S64_S1x64x1x1_1 main_v98
  let main_cst_20 : FVec F S_ .f32 := constant S_ .f32 0x48A00000#32
  let main_v100 : FVec F S1x64x1x1 .f32 := broadcastInDim S1x64x1x1 ![] bcast_S_S1x64x1x1 main_cst_20
  let main_v101 : FVec F S1x64x1x1 .f32 := Host.divf main_v99 main_v100
  let main_c_21 : IVec S_ 32 := constantI S_ 32 0#32
  let main_v102 : FVec F S1x64x1x1 .f32 := fn_var (F := F) main_v97 main_c_21
  let main_v103 : FVec F S16x64x1024x20 .f32 := broadcastInDim S16x64x1024x20 ![0, 1, 2, 3] bcast_S1x64x1x1_S16x64x1024x20_0_1_2_3 main_v101
  let main_v104 : FVec F S16x64x1024x20 .f32 := subf main_v97 main_v103
  let main_cst_22 : FVec F S_ .f32 := constant S_ .f32 0x3727C5AC#32
  let main_v105 : FVec F S1x64x1x1 .f32 := broadcastInDim S1x64x1x1 ![] bcast_S_S1x64x1x1 main_cst_22
  let main_v106 : FVec F S1x64x1x1 .f32 := addf main_v102 main_v105
  let main_v107 : FVec F S1x64x1x1 .f32 := Host.sqrt main_v106
  let main_v108 : FVec F S16x64x1024x20 .f32 := broadcastInDim S16x64x1024x20 ![0, 1, 2, 3] bcast_S1x64x1x1_S16x64x1024x20_0_1_2_3 main_v107
  let main_v109 : FVec F S16x64x1024x20 .f32 := Host.divf main_v104 main_v108
  let main_v110 : FVec F S1x64x1x1 .f32 := shapeCast S1x64x1x1 main_arg5 shapeCasts_S64_S1x64x1x1
  let main_v111 : FVec F S16x64x1024x20 .f32 := broadcastInDim S16x64x1024x20 ![0, 1, 2, 3] bcast_S1x64x1x1_S16x64x1024x20_0_1_2_3 main_v110
  let main_v112 : FVec F S16x64x1024x20 .f32 := mulf main_v109 main_v111
  let main_v113 : FVec F S1x64x1x1 .f32 := shapeCast S1x64x1x1 main_arg6 shapeCasts_S64_S1x64x1x1
  let main_v114 : FVec F S16x64x1024x20 .f32 := broadcastInDim S16x64x1024x20 ![0, 1, 2, 3] bcast_S1x64x1x1_S16x64x1024x20_0_1_2_3 main_v113
  let main_v115 : FVec F S16x64x1024x20 .f32 := addf main_v112 main_v114
  let main_cst_23 : FVec F S_ .f32 := constant S_ .f32 0x00000000#32
  fn_part6 (F := F) main_arg0 main_arg1 main_arg2 main_arg3 main_arg4 main_arg5 main_arg6 main_arg7 main_arg8 main_arg9 main_arg10 main_arg11 main_arg12 main_arg13 main_v60 main_v115 main_cst_23

def fn_part4 {F : FTy → Type} [FloatOps F] (main_arg0 : FVec F S16x3x1024 .f32) (main_arg1 : FVec F S64x6 .f32) (main_arg2 : FVec F S64 .f32) (main_arg3 : FVec F S64 .f32) (main_arg4 : FVec F S64x128 .f32) (main_arg5 : FVec F S64 .f32) (main_arg6 : FVec F S64 .f32) (main_arg7 : FVec F S128x128 .f32) (main_arg8 : FVec F S128 .f32) (main_arg9 : FVec F S128 .f32) (main_arg10 : FVec F S256x256 .f32) (main_arg11 : FVec F S256 .f32) (main_arg12 : FVec F S256 .f32) (main_arg13 : FVec F S1024x512 .f32) (main_v60 : FVec F S16x64x1024 .f32) (main_indices_14 : IVec S16x1024x20 32) (main_v73 : FVec F S16x1024x64 .f32) (main_v75 : IVec S16x1x1 32) (main_c_15 : IVec S_ 32) : IVec S_ 1 :=
  let main_v76 : IVec S16x1x1 32 := broadcastInDim S16x1x1 ![] bcast_S_S16x1x1 main_c_15
  let main_v77 : IVec S16x1x1 1 := cmpi .slt main_v75 main_v76
  let main_c_16 : IVec S_ 32 := constantI S_ 32 16#32
  let main_v78 : IVec S16x1x1 32 := broadcastInDim S16x1x1 ![] bcast_S_S16x1x1 main_c_16
  let main_v79 : IVec S16x1x1 32 := addi main_v75 main_v78
  let main_v80 : IVec S16x1x1 32 := select main_v77 main_v79 main_v75
  let main_c_17 : IVec S_ 32 := constantI S_ 32 0#32
  let main_v81 : IVec S16x1024x20 32 := broadcastInDim S16x1024x20 ![] bcast_S_S16x1024x20 main_c_17
  let main_v82 : IVec S16x1024x20 1 := cmpi .slt main_indices_14 main_v81
  let main_c_18 : IVec S_ 32 := constantI S_ 32 1024#32
  let main_v83 : IVec S16x1024x20 32 := broadcastInDim S16x1024x20 ![] bcast_S_S16x1024x20 main_c_18
  let main_v84 : IVec S16x1024x20 32 := addi main_indices_14 main_v83
  let main_v85 : IVec S16x1024x20 32 := select main_v82 main_v84 main_indices_14
  let main_v86 : IVec S16x1024x20 32 := broadcastInDim S16x1024x20 ![0, 1, 2] bcast_S16x1x1_S16x1024x20_0_1_2 main_v80
  let main_v87 : IVec S16x1024x20x1 32 := broadcastInDim S16x1024x20x1 ![0, 1, 2] bcast_S16x1024x20_S16x1024x20x1_0_1_2 main_v86
  let main_v88 : IVec S16x1024x20x1 32 := broadcastInDim S16x1024x20x1 ![0, 1, 2] bcast_S16x1024x20_S16x1024x20x1_0_1_2 main_v85
  let main_v89 : IVec S16x1024x20x2 32 := (fun a b => concatenate S16x1024x20x2 3 [⟨S16x1024x20x1, a⟩, ⟨S16x1024x20x1, b⟩] concatenates_S16x1024x20x1_S16x1024x20x1_S16x1024x20x2_d3) main_v87 main_v88
  let main_v90 : FVec F S16x1024x20x64 .f32 := (fun x i => Host.gather gather_S16x1024x64_S16x1024x20x2_S16x1024x20x64_3_01_n_n_01_3_1164 x i) main_v73 main_v89
  let main_v91 : FVec F S16x1024x1x64 .f32 := broadcastInDim S16x1024x1x64 ![0, 1, 3] bcast_S16x1024x64_S16x1024x1x64_0_1_3 main_v73
  let main_v92 : FVec F S16x1024x20x64 .f32 := broadcastInDim S16x1024x20x64 ![0, 1, 2, 3] bcast_S16x1024x1x64_S16x1024x20x64_0_1_2_3 main_v91
  let main_v93 : FVec F S16x1024x20x64 .f32 := subf main_v90 main_v92
  let main_v94 : FVec F S16x1024x20x128 .f32 := (fun a b => concatenate S16x1024x20x128 3 [⟨S16x1024x20x64, a⟩, ⟨S16x1024x20x64, b⟩] concatenates_S16x1024x20x64_S16x1024x20x64_S16x1024x20x128_d3) main_v93 main_v92
  let main_v95 : FVec F S16x128x1024x20 .f32 := (transpose S16x128x1024x20 [0, 3, 1, 2] · transposes_S16x1024x20x128_S16x128x1024x20_0_3_1_2) main_v94
  let main_v96 : FVec F S16x1024x20x64 .f32 := (fun l r => Host.dotGeneral dot_S16x128x1024x20_S64x128_S16x1024x20x64_1_1_023_0_n_n none l r) main_v95 main_arg4
  fn_part5 (F := F) main_arg0 main_arg1 main_arg2 main_arg3 main_arg4 main_arg5 main_arg6 main_arg7 main_arg8 main_arg9 main_arg10 main_arg11 main_arg12 main_arg13 main_v60 main_v96

def fn_part3 {F : FTy → Type} [FloatOps F] (main_arg0 : FVec F S16x3x1024 .f32) (main_arg1 : FVec F S64x6 .f32) (main_arg2 : FVec F S64 .f32) (main_arg3 : FVec F S64 .f32) (main_arg4 : FVec F S64x128 .f32) (main_arg5 : FVec F S64 .f32) (main_arg6 : FVec F S64 .f32) (main_arg7 : FVec F S128x128 .f32) (main_arg8 : FVec F S128 .f32) (main_arg9 : FVec F S128 .f32) (main_arg10 : FVec F S256x256 .f32) (main_arg11 : FVec F S256 .f32) (main_arg12 : FVec F S256 .f32) (main_arg13 : FVec F S1024x512 .f32) (main_v54 : FVec F S16x64x1024x20 .f32) (main_v56 : IVec S16x64x1024x20 1) (main_v57 : FVec F S16x64x1024x20 .f32) : IVec S_ 1 :=
  let main_v58 : FVec F S16x64x1024x20 .f32 := mulf main_v57 main_v54
  let main_v59 : FVec F S16x64x1024x20 .f32 := fn_where_0 (F := F) main_v56 main_v54 main_v58
  let main_cst_10 : FVec F S_ .f32 := constant S_ .f32 0xFF800000#32
  let main_v60 : FVec F S16x64x1024 .f32 := (fun x v => Host.reduce FloatOps.maximumf x v reducesTo_S16x64x1024x20_S16x64x1024_d3 h_S_) main_v59 main_cst_10
  let main_v61 : FVec F S16x1024x1024 .f32 := (fun l r => Host.dotGeneral dot_S16x64x1024_S16x64x1024_S16x1024x1024_1_1_2_2_0_0 none l r) main_v60 main_v60
  let main_cst_11 : FVec F S_ .f32 := constant S_ .f32 0xC0000000#32
  let main_v62 : FVec F S16x1024x1024 .f32 := broadcastInDim S16x1024x1024 ![] bcast_S_S16x1024x1024 main_cst_11
  let main_v63 : FVec F S16x1024x1024 .f32 := mulf main_v62 main_v61
  let main_v64 : FVec F S16x64x1024 .f32 := mulf main_v60 main_v60
  let main_cst_12 : FVec F S_ .f32 := constant S_ .f32 0x00000000#32
  let main_v65 : FVec F S16x1024 .f32 := (fun x v => Host.reduceAdd x v reducesTo_S16x64x1024_S16x1024_d1 h_S_) main_v64 main_cst_12
  let main_v66 : FVec F S16x1x1024 .f32 := broadcastInDim S16x1x1024 ![0, 2] bcast_S16x1024_S16x1x1024_0_2 main_v65
  let main_v67 : FVec F S16x1x1024 .f32 := Host.negf main_v66
  let main_v68 : FVec F S16x1024x1024 .f32 := broadcastInDim S16x1024x1024 ![0, 1, 2] bcast_S16x1x1024_S16x1024x1024_0_1_2 main_v67
  let main_v69 : FVec F S16x1024x1024 .f32 := subf main_v68 main_v63
  let main_v70 : FVec F S16x1024x1 .f32 := (transpose S16x1024x1 [0, 2, 1] · transposes_S16x1x1024_S16x1024x1_0_2_1) main_v66
  let main_v71 : FVec F S16x1024x1024 .f32 := broadcastInDim S16x1024x1024 ![0, 1, 2] bcast_S16x1024x1_S16x1024x1024_0_1_2 main_v70
  let main_v72 : FVec F S16x1024x1024 .f32 := subf main_v69 main_v71
  let main_values_13 : FVec F S16x1024x20 .f32 := (fun x => (Host.topK S16x1024x20 2 (FloatOps.cmpfTotal .gt) x sliceFits_S16x1024x1024_S16x1024x20).1) main_v72
  let main_indices_14 : IVec S16x1024x20 32 := (fun x => (Host.topK S16x1024x20 2 (FloatOps.cmpfTotal .gt) x sliceFits_S16x1024x1024_S16x1024x20).2) main_v72
  let main_v73 : FVec F S16x1024x64 .f32 := (transpose S16x1024x64 [0, 2, 1] · transposes_S16x64x1024_S16x1024x64_0_2_1) main_v60
  let main_v74 : IVec S16 32 := iotaInDim S16 32 0
  let main_v75 : IVec S16x1x1 32 := broadcastInDim S16x1x1 ![0] bcast_S16_S16x1x1_0 main_v74
  let main_c_15 : IVec S_ 32 := constantI S_ 32 0#32
  fn_part4 (F := F) main_arg0 main_arg1 main_arg2 main_arg3 main_arg4 main_arg5 main_arg6 main_arg7 main_arg8 main_arg9 main_arg10 main_arg11 main_arg12 main_arg13 main_v60 main_indices_14 main_v73 main_v75 main_c_15

def fn_part2 {F : FTy → Type} [FloatOps F] (main_arg0 : FVec F S16x3x1024 .f32) (main_arg1 : FVec F S64x6 .f32) (main_arg2 : FVec F S64 .f32) (main_arg3 : FVec F S64 .f32) (main_arg4 : FVec F S64x128 .f32) (main_arg5 : FVec F S64 .f32) (main_arg6 : FVec F S64 .f32) (main_arg7 : FVec F S128x128 .f32) (main_arg8 : FVec F S128 .f32) (main_arg9 : FVec F S128 .f32) (main_arg10 : FVec F S256x256 .f32) (main_arg11 : FVec F S256 .f32) (main_arg12 : FVec F S256 .f32) (main_arg13 : FVec F S1024x512 .f32) (main_v36 : FVec F S16x64x1024x20 .f32) (main_v38 : FVec F S1x64x1x1 .f32) : IVec S_ 1 :=
  let main_cst_5 : FVec F S_ .f32 := constant S_ .f32 0x48A00000#32
  let main_v39 : FVec F S1x64x1x1 .f32 := broadcastInDim S1x64x1x1 ![] bcast_S_S1x64x1x1 main_cst_5
  let main_v40 : FVec F S1x64x1x1 .f32 := Host.divf main_v38 main_v39
  let main_c_6 : IVec S_ 32 := constantI S_ 32 0#32
  let main_v41 : FVec F S1x64x1x1 .f32 := fn_var (F := F) main_v36 main_c_6
  let main_v42 : FVec F S16x64x1024x20 .f32 := broadcastInDim S16x64x1024x20 ![0, 1, 2, 3] bcast_S1x64x1x1_S16x64x1024x20_0_1_2_3 main_v40
  let main_v43 : FVec F S16x64x1024x20 .f32 := subf main_v36 main_v42
  let main_cst_7 : FVec F S_ .f32 := constant S_ .f32 0x3727C5AC#32
  let main_v44 : FVec F S1x64x1x1 .f32 := broadcastInDim S1x64x1x1 ![] bcast_S_S1x64x1x1 main_cst_7
  let main_v45 : FVec F S1x64x1x1 .f32 := addf main_v41 main_v44
  let main_v46 : FVec F S1x64x1x1 .f32 := Host.sqrt main_v45
  let main_v47 : FVec F S16x64x1024x20 .f32 := broadcastInDim S16x64x1024x20 ![0, 1, 2, 3] bcast_S1x64x1x1_S16x64x1024x20_0_1_2_3 main_v46
  let main_v48 : FVec F S16x64x1024x20 .f32 := Host.divf main_v43 main_v47
  let main_v49 : FVec F S1x64x1x1 .f32 := shapeCast S1x64x1x1 main_arg2 shapeCasts_S64_S1x64x1x1
  let main_v50 : FVec F S16x64x1024x20 .f32 := broadcastInDim S16x64x1024x20 ![0, 1, 2, 3] bcast_S1x64x1x1_S16x64x1024x20_0_1_2_3 main_v49
  let main_v51 : FVec F S16x64x1024x20 .f32 := mulf main_v48 main_v50
  let main_v52 : FVec F S1x64x1x1 .f32 := shapeCast S1x64x1x1 main_arg3 shapeCasts_S64_S1x64x1x1
  let main_v53 : FVec F S16x64x1024x20 .f32 := broadcastInDim S16x64x1024x20 ![0, 1, 2, 3] bcast_S1x64x1x1_S16x64x1024x20_0_1_2_3 main_v52
  let main_v54 : FVec F S16x64x1024x20 .f32 := addf main_v51 main_v53
  let main_cst_8 : FVec F S_ .f32 := constant S_ .f32 0x00000000#32
  let main_v55 : FVec F S16x64x1024x20 .f32 := broadcastInDim S16x64x1024x20 ![] bcast_S_S16x64x1024x20 main_cst_8
  let main_v56 : IVec S16x64x1024x20 1 := cmpf .oge main_v54 main_v55
  let main_cst_9 : FVec F S_ .f32 := constant S_ .f32 0x3E4CCCCD#32
  let main_v57 : FVec F S16x64x1024x20 .f32 := broadcastInDim S16x64x1024x20 ![] bcast_S_S16x64x1024x20 main_cst_9
  fn_part3 (F := F) main_arg0 main_arg1 main_arg2 main_arg3 main_arg4 main_arg5 main_arg6 main_arg7 main_arg8 main_arg9 main_arg10 main_arg11 main_arg12 main_arg13 main_v54 main_v56 main_v57

def fn_part1 {F : FTy → Type} [FloatOps F] (main_arg0 : FVec F S16x3x1024 .f32) (main_arg1 : FVec F S64x6 .f32) (main_arg2 : FVec F S64 .f32) (main_arg3 : FVec F S64 .f32) (main_arg4 : FVec F S64x128 .f32) (main_arg5 : FVec F S64 .f32) (main_arg6 : FVec F S64 .f32) (main_arg7 : FVec F S128x128 .f32) (main_arg8 : FVec F S128 .f32) (main_arg9 : FVec F S128 .f32) (main_arg10 : FVec F S256x256 .f32) (main_arg11 : FVec F S256 .f32) (main_arg12 : FVec F S256 .f32) (main_arg13 : FVec F S1024x512 .f32) (main_indices : IVec S16x1024x20 32) (main_v12 : FVec F S16x1024x3 .f32) (main_v14 : IVec S16x1x1 32) (main_v16 : IVec S16x1x1 1) (main_v17 : IVec S16x1x1 32) : IVec S_ 1 :=
  let main_v18 : IVec S16x1x1 32 := addi main_v14 main_v17
  let main_v19 : IVec S16x1x1 32 := select main_v16 main_v18 main_v14
  let main_c_2 : IVec S_ 32 := constantI S_ 32 0#32
  let main_v20 : IVec S16x1024x20 32 := broadcastInDim S16x1024x20 ![] bcast_S_S16x1024x20 main_c_2
  let main_v21 : IVec S16x1024x20 1 := cmpi .slt main_indices main_v20
  let main_c_3 : IVec S_ 32 := constantI S_ 32 1024#32
  let main_v22 : IVec S16x1024x20 32 := broadcastInDim S16x1024x20 ![] bcast_S_S16x1024x20 main_c_3
  let main_v23 : IVec S16x1024x20 32 := addi main_indices main_v22
  let main_v24 : IVec S16x1024x20 32 := select main_v21 main_v23 main_indices
  let main_v25 : IVec S16x1024x20 32 := broadcastInDim S16x1024x20 ![0, 1, 2] bcast_S16x1x1_S16x1024x20_0_1_2 main_v19
  let main_v26 : IVec S16x1024x20x1 32 := broadcastInDim S16x1024x20x1 ![0, 1, 2] bcast_S16x1024x20_S16x1024x20x1_0_1_2 main_v25
  let main_v27 : IVec S16x1024x20x1 32 := broadcastInDim S16x1024x20x1 ![0, 1, 2] bcast_S16x1024x20_S16x1024x20x1_0_1_2 main_v24
  let main_v28 : IVec S16x1024x20x2 32 := (fun a b => concatenate S16x1024x20x2 3 [⟨S16x1024x20x1, a⟩, ⟨S16x1024x20x1, b⟩] concatenates_S16x1024x20x1_S16x1024x20x1_S16x1024x20x2_d3) main_v26 main_v27
  let main_v29 : FVec F S16x1024x20x3 .f32 := (fun x i => Host.gather gather_S16x1024x3_S16x1024x20x2_S16x1024x20x3_3_01_n_n_01_3_113 x i) main_v12 main_v28
  let main_v30 : FVec F S16x1024x1x3 .f32 := broadcastInDim S16x1024x1x3 ![0, 1, 3] bcast_S16x1024x3_S16x1024x1x3_0_1_3 main_v12
  let main_v31 : FVec F S16x1024x20x3 .f32 := broadcastInDim S16x1024x20x3 ![0, 1, 2, 3] bcast_S16x1024x1x3_S16x1024x20x3_0_1_2_3 main_v30
  let main_v32 : FVec F S16x1024x20x3 .f32 := subf main_v29 main_v31
  let main_v33 : FVec F S16x1024x20x6 .f32 := (fun a b => concatenate S16x1024x20x6 3 [⟨S16x1024x20x3, a⟩, ⟨S16x1024x20x3, b⟩] concatenates_S16x1024x20x3_S16x1024x20x3_S16x1024x20x6_d3) main_v32 main_v31
  let main_v34 : FVec F S16x6x1024x20 .f32 := (transpose S16x6x1024x20 [0, 3, 1, 2] · transposes_S16x1024x20x6_S16x6x1024x20_0_3_1_2) main_v33
  let main_v35 : FVec F S16x1024x20x64 .f32 := (fun l r => Host.dotGeneral dot_S16x6x1024x20_S64x6_S16x1024x20x64_1_1_023_0_n_n none l r) main_v34 main_arg1
  let main_v36 : FVec F S16x64x1024x20 .f32 := (transpose S16x64x1024x20 [0, 3, 1, 2] · transposes_S16x1024x20x64_S16x64x1024x20_0_3_1_2) main_v35
  let main_cst_4 : FVec F S_ .f32 := constant S_ .f32 0x00000000#32
  let main_v37 : FVec F S64 .f32 := (fun x v => Host.reduceAdd x v reducesTo_S16x64x1024x20_S64_d0_2_3 h_S_) main_v36 main_cst_4
  let main_v38 : FVec F S1x64x1x1 .f32 := broadcastInDim S1x64x1x1 ![1] bcast_S64_S1x64x1x1_1 main_v37
  fn_part2 (F := F) main_arg0 main_arg1 main_arg2 main_arg3 main_arg4 main_arg5 main_arg6 main_arg7 main_arg8 main_arg9 main_arg10 main_arg11 main_arg12 main_arg13 main_v36 main_v38

def fn {F : FTy → Type} [FloatOps F] (main_arg0 : FVec F S16x3x1024 .f32) (main_arg1 : FVec F S64x6 .f32) (main_arg2 : FVec F S64 .f32) (main_arg3 : FVec F S64 .f32) (main_arg4 : FVec F S64x128 .f32) (main_arg5 : FVec F S64 .f32) (main_arg6 : FVec F S64 .f32) (main_arg7 : FVec F S128x128 .f32) (main_arg8 : FVec F S128 .f32) (main_arg9 : FVec F S128 .f32) (main_arg10 : FVec F S256x256 .f32) (main_arg11 : FVec F S256 .f32) (main_arg12 : FVec F S256 .f32) (main_arg13 : FVec F S1024x512 .f32) (main_arg14 : FVec F S1024 .f32) (main_arg15 : FVec F S1024 .f32) (main_arg16 : FVec F S256x2048 .f32) (main_arg17 : FVec F S256 .f32) (main_arg18 : FVec F S256 .f32) : IVec S_ 1 :=
  let main_v0 : FVec F S16x1024x1024 .f32 := (fun l r => Host.dotGeneral dot_S16x3x1024_S16x3x1024_S16x1024x1024_1_1_2_2_0_0 none l r) main_arg0 main_arg0
  let main_cst : FVec F S_ .f32 := constant S_ .f32 0xC0000000#32
  let main_v1 : FVec F S16x1024x1024 .f32 := broadcastInDim S16x1024x1024 ![] bcast_S_S16x1024x1024 main_cst
  let main_v2 : FVec F S16x1024x1024 .f32 := mulf main_v1 main_v0
  let main_v3 : FVec F S16x3x1024 .f32 := mulf main_arg0 main_arg0
  let main_cst_0 : FVec F S_ .f32 := constant S_ .f32 0x00000000#32
  let main_v4 : FVec F S16x1024 .f32 := (fun x v => Host.reduceAdd x v reducesTo_S16x3x1024_S16x1024_d1 h_S_) main_v3 main_cst_0
  let main_v5 : FVec F S16x1x1024 .f32 := broadcastInDim S16x1x1024 ![0, 2] bcast_S16x1024_S16x1x1024_0_2 main_v4
  let main_v6 : FVec F S16x1x1024 .f32 := Host.negf main_v5
  let main_v7 : FVec F S16x1024x1024 .f32 := broadcastInDim S16x1024x1024 ![0, 1, 2] bcast_S16x1x1024_S16x1024x1024_0_1_2 main_v6
  let main_v8 : FVec F S16x1024x1024 .f32 := subf main_v7 main_v2
  let main_v9 : FVec F S16x1024x1 .f32 := (transpose S16x1024x1 [0, 2, 1] · transposes_S16x1x1024_S16x1024x1_0_2_1) main_v5
  let main_v10 : FVec F S16x1024x1024 .f32 := broadcastInDim S16x1024x1024 ![0, 1, 2] bcast_S16x1024x1_S16x1024x1024_0_1_2 main_v9
  let main_v11 : FVec F S16x1024x1024 .f32 := subf main_v8 main_v10
  let main_values : FVec F S16x1024x20 .f32 := (fun x => (Host.topK S16x1024x20 2 (FloatOps.cmpfTotal .gt) x sliceFits_S16x1024x1024_S16x1024x20).1) main_v11
  let main_indices : IVec S16x1024x20 32 := (fun x => (Host.topK S16x1024x20 2 (FloatOps.cmpfTotal .gt) x sliceFits_S16x1024x1024_S16x1024x20).2) main_v11
  let main_v12 : FVec F S16x1024x3 .f32 := (transpose S16x1024x3 [0, 2, 1] · transposes_S16x3x1024_S16x1024x3_0_2_1) main_arg0
  let main_v13 : IVec S16 32 := iotaInDim S16 32 0
  let main_v14 : IVec S16x1x1 32 := broadcastInDim S16x1x1 ![0] bcast_S16_S16x1x1_0 main_v13
  let main_c : IVec S_ 32 := constantI S_ 32 0#32
  let main_v15 : IVec S16x1x1 32 := broadcastInDim S16x1x1 ![] bcast_S_S16x1x1 main_c
  let main_v16 : IVec S16x1x1 1 := cmpi .slt main_v14 main_v15
  let main_c_1 : IVec S_ 32 := constantI S_ 32 16#32
  let main_v17 : IVec S16x1x1 32 := broadcastInDim S16x1x1 ![] bcast_S_S16x1x1 main_c_1
  fn_part1 (F := F) main_arg0 main_arg1 main_arg2 main_arg3 main_arg4 main_arg5 main_arg6 main_arg7 main_arg8 main_arg9 main_arg10 main_arg11 main_arg12 main_arg13 main_indices main_v12 main_v14 main_v16 main_v17
-- ==== Kernel.lean ====
abbrev S16x3x1024 : Shape := ⟨3, ![16, 3, 1024]⟩
abbrev S64x6 : Shape := ⟨2, ![64, 6]⟩
abbrev S64 : Shape := ⟨1, ![64]⟩
abbrev S64x128 : Shape := ⟨2, ![64, 128]⟩
abbrev S128x128 : Shape := ⟨2, ![128, 128]⟩
abbrev S128 : Shape := ⟨1, ![128]⟩
abbrev S256x256 : Shape := ⟨2, ![256, 256]⟩
abbrev S256 : Shape := ⟨1, ![256]⟩
abbrev S1024x512 : Shape := ⟨2, ![1024, 512]⟩
abbrev S1024 : Shape := ⟨1, ![1024]⟩
abbrev S256x2048 : Shape := ⟨2, ![256, 2048]⟩
abbrev S16x1024x3 : Shape := ⟨3, ![16, 1024, 3]⟩
abbrev S_ : Shape := ⟨0, ![]⟩
abbrev S16x1024x128 : Shape := ⟨3, ![16, 1024, 128]⟩
abbrev S16x1024 : Shape := ⟨2, ![16, 1024]⟩
abbrev S16x1x1024 : Shape := ⟨3, ![16, 1, 1024]⟩
abbrev S6x64 : Shape := ⟨2, ![6, 64]⟩
abbrev S16x1024x64 : Shape := ⟨3, ![16, 1024, 64]⟩
abbrev S16x1x64 : Shape := ⟨3, ![16, 1, 64]⟩
abbrev S1x1024x128 : Shape := ⟨3, ![1, 1024, 128]⟩
abbrev S1x1x1024 : Shape := ⟨3, ![1, 1, 1024]⟩
abbrev S1x1024x64 : Shape := ⟨3, ![1, 1024, 64]⟩
abbrev S1x1x64 : Shape := ⟨3, ![1, 1, 64]⟩
abbrev S1024x128 : Shape := ⟨2, ![1024, 128]⟩
abbrev S1024x3 : Shape := ⟨2, ![1024, 3]⟩
abbrev S128x1024 : Shape := ⟨2, ![128, 1024]⟩
abbrev S1024x1024 : Shape := ⟨2, ![1024, 1024]⟩
abbrev S1x1024 : Shape := ⟨2, ![1, 1024]⟩
abbrev S1024x1 : Shape := ⟨2, ![1024, 1]⟩
abbrev S1024x9 : Shape := ⟨2, ![1024, 9]⟩
abbrev S1024x64 : Shape := ⟨2, ![1024, 64]⟩
abbrev S1x64 : Shape := ⟨2, ![1, 64]⟩
abbrev S1024x6 : Shape := ⟨2, ![1024, 6]⟩
abbrev S16x64x1024 : Shape := ⟨3, ![16, 64, 1024]⟩
abbrev S128x64 : Shape := ⟨2, ![128, 64]⟩
abbrev S1024x192 : Shape := ⟨2, ![1024, 192]⟩
abbrev S16x1x128 : Shape := ⟨3, ![16, 1, 128]⟩
abbrev S1x1x128 : Shape := ⟨3, ![1, 1, 128]⟩
abbrev S1x128 : Shape := ⟨2, ![1, 128]⟩
abbrev S16x128x1024 : Shape := ⟨3, ![16, 128, 1024]⟩
abbrev S16x1024x256 : Shape := ⟨3, ![16, 1024, 256]⟩
abbrev S16x1x256 : Shape := ⟨3, ![16, 1, 256]⟩
abbrev S1x1024x256 : Shape := ⟨3, ![1, 1024, 256]⟩
abbrev S1x1x256 : Shape := ⟨3, ![1, 1, 256]⟩
abbrev S1024x384 : Shape := ⟨2, ![1024, 384]⟩
abbrev S1024x256 : Shape := ⟨2, ![1024, 256]⟩
abbrev S1x256 : Shape := ⟨2, ![1, 256]⟩
abbrev S512x1024 : Shape := ⟨2, ![512, 1024]⟩
abbrev S16x1024x1024 : Shape := ⟨3, ![16, 1024, 1024]⟩
abbrev S1x1024x1024 : Shape := ⟨3, ![1, 1024, 1024]⟩
abbrev S16x1x2048 : Shape := ⟨3, ![16, 1, 2048]⟩
abbrev S1x1x2048 : Shape := ⟨3, ![1, 1, 2048]⟩
abbrev S2048x256 : Shape := ⟨2, ![2048, 256]⟩
abbrev S16x256 : Shape := ⟨2, ![16, 256]⟩
abbrev S16x2048 : Shape := ⟨2, ![16, 2048]⟩

abbrev nBuf : Space → Nat
  | .hbm => 83
  | .vmem => 104
  | .smem => 0
  | _ => 0

abbrev bufTy : (tb : Table) → Fin (tcTables nBuf tb) → BufTy
  | .hbm, ⟨0, _⟩ => ⟨S16x3x1024, .f32⟩
  | .hbm, ⟨1, _⟩ => ⟨S64x6, .f32⟩
  | .hbm, ⟨2, _⟩ => ⟨S64, .f32⟩
  | .hbm, ⟨3, _⟩ => ⟨S64, .f32⟩
  | .hbm, ⟨4, _⟩ => ⟨S64x128, .f32⟩
  | .hbm, ⟨5, _⟩ => ⟨S64, .f32⟩
  | .hbm, ⟨6, _⟩ => ⟨S64, .f32⟩
  | .hbm, ⟨7, _⟩ => ⟨S128x128, .f32⟩
  | .hbm, ⟨8, _⟩ => ⟨S128, .f32⟩
  | .hbm, ⟨9, _⟩ => ⟨S128, .f32⟩
  | .hbm, ⟨10, _⟩ => ⟨S256x256, .f32⟩
  | .hbm, ⟨11, _⟩ => ⟨S256, .f32⟩
  | .hbm, ⟨12, _⟩ => ⟨S256, .f32⟩
  | .hbm, ⟨13, _⟩ => ⟨S1024x512, .f32⟩
  | .hbm, ⟨14, _⟩ => ⟨S1024, .f32⟩
  | .hbm, ⟨15, _⟩ => ⟨S1024, .f32⟩
  | .hbm, ⟨16, _⟩ => ⟨S256x2048, .f32⟩
  | .hbm, ⟨17, _⟩ => ⟨S256, .f32⟩
  | .hbm, ⟨18, _⟩ => ⟨S256, .f32⟩
  | .hbm, ⟨19, _⟩ => ⟨S16x1024x3, .f32⟩
  | .hbm, ⟨20, _⟩ => ⟨S_, .i32⟩
  | .hbm, ⟨21, _⟩ => ⟨S_, .f32⟩
  | .hbm, ⟨22, _⟩ => ⟨S16x1024x128, .f32⟩
  | .hbm, ⟨23, _⟩ => ⟨S16x3x1024, .f32⟩
  | .hbm, ⟨24, _⟩ => ⟨S_, .f32⟩
  | .hbm, ⟨25, _⟩ => ⟨S16x1024, .f32⟩
  | .hbm, ⟨26, _⟩ => ⟨S16x1x1024, .f32⟩
  | .hbm, ⟨27, _⟩ => ⟨S6x64, .f32⟩
  | .hbm, ⟨28, _⟩ => ⟨S16x1024x64, .f32⟩
  | .hbm, ⟨29, _⟩ => ⟨S16x1x64, .f32⟩
  | .hbm, ⟨30, _⟩ => ⟨S16x1x64, .f32⟩
  | .hbm, ⟨31, _⟩ => ⟨S1x1x64, .f32⟩
  | .hbm, ⟨32, _⟩ => ⟨S1x1x64, .f32⟩
  | .hbm, ⟨33, _⟩ => ⟨S16x1024x128, .f32⟩
  | .hbm, ⟨34, _⟩ => ⟨S16x1024x64, .f32⟩
  | .hbm, ⟨35, _⟩ => ⟨S16x64x1024, .f32⟩
  | .hbm, ⟨36, _⟩ => ⟨S16x64x1024, .f32⟩
  | .hbm, ⟨37, _⟩ => ⟨S_, .f32⟩
  | .hbm, ⟨38, _⟩ => ⟨S16x1024, .f32⟩
  | .hbm, ⟨39, _⟩ => ⟨S16x1x1024, .f32⟩
  | .hbm, ⟨40, _⟩ => ⟨S128x64, .f32⟩
  | .hbm, ⟨41, _⟩ => ⟨S16x1024x64, .f32⟩
  | .hbm, ⟨42, _⟩ => ⟨S16x1x64, .f32⟩
  | .hbm, ⟨43, _⟩ => ⟨S16x1x64, .f32⟩
  | .hbm, ⟨44, _⟩ => ⟨S1x1x64, .f32⟩
  | .hbm, ⟨45, _⟩ => ⟨S1x1x64, .f32⟩
  | .hbm, ⟨46, _⟩ => ⟨S16x1024x128, .f32⟩
  | .hbm, ⟨47, _⟩ => ⟨S16x1024x64, .f32⟩
  | .hbm, ⟨48, _⟩ => ⟨S16x64x1024, .f32⟩
  | .hbm, ⟨49, _⟩ => ⟨S16x64x1024, .f32⟩
  | .hbm, ⟨50, _⟩ => ⟨S_, .f32⟩
  | .hbm, ⟨51, _⟩ => ⟨S16x1024, .f32⟩
  | .hbm, ⟨52, _⟩ => ⟨S16x1x1024, .f32⟩
  | .hbm, ⟨53, _⟩ => ⟨S128x128, .f32⟩
  | .hbm, ⟨54, _⟩ => ⟨S16x1024x128, .f32⟩
  | .hbm, ⟨55, _⟩ => ⟨S16x1x128, .f32⟩
  | .hbm, ⟨56, _⟩ => ⟨S16x1x128, .f32⟩
  | .hbm, ⟨57, _⟩ => ⟨S1x1x128, .f32⟩
  | .hbm, ⟨58, _⟩ => ⟨S1x1x128, .f32⟩
  | .hbm, ⟨59, _⟩ => ⟨S16x1024x128, .f32⟩
  | .hbm, ⟨60, _⟩ => ⟨S16x128x1024, .f32⟩
  | .hbm, ⟨61, _⟩ => ⟨S16x128x1024, .f32⟩
  | .hbm, ⟨62, _⟩ => ⟨S_, .f32⟩
  | .hbm, ⟨63, _⟩ => ⟨S16x1024, .f32⟩
  | .hbm, ⟨64, _⟩ => ⟨S16x1x1024, .f32⟩
  | .hbm, ⟨65, _⟩ => ⟨S256x256, .f32⟩
  | .hbm, ⟨66, _⟩ => ⟨S16x1024x256, .f32⟩
  | .hbm, ⟨67, _⟩ => ⟨S16x1x256, .f32⟩
  | .hbm, ⟨68, _⟩ => ⟨S16x1x256, .f32⟩
  | .hbm, ⟨69, _⟩ => ⟨S1x1x256, .f32⟩
  | .hbm, ⟨70, _⟩ => ⟨S1x1x256, .f32⟩
  | .hbm, ⟨71, _⟩ => ⟨S16x1024x256, .f32⟩
  | .hbm, ⟨72, _⟩ => ⟨S512x1024, .f32⟩
  | .hbm, ⟨73, _⟩ => ⟨S16x1024x1024, .f32⟩
  | .hbm, ⟨74, _⟩ => ⟨S16x1x1024, .f32⟩
  | .hbm, ⟨75, _⟩ => ⟨S16x1x1024, .f32⟩
  | .hbm, ⟨76, _⟩ => ⟨S1x1x1024, .f32⟩
  | .hbm, ⟨77, _⟩ => ⟨S1x1x1024, .f32⟩
  | .hbm, ⟨78, _⟩ => ⟨S16x1x2048, .f32⟩
  | .hbm, ⟨79, _⟩ => ⟨S2048x256, .f32⟩
  | .hbm, ⟨80, _⟩ => ⟨S1x1x256, .f32⟩
  | .hbm, ⟨81, _⟩ => ⟨S1x1x256, .f32⟩
  | .hbm, ⟨82, _⟩ => ⟨S16x256, .f32⟩
  | .local _ .vmem, ⟨0, _⟩ => ⟨S1x1024x128, .f32⟩
  | .local _ .vmem, ⟨1, _⟩ => ⟨S1x1024x128, .f32⟩
  | .local _ .vmem, ⟨2, _⟩ => ⟨S1x1x1024, .f32⟩
  | .local _ .vmem, ⟨3, _⟩ => ⟨S1x1x1024, .f32⟩
  | .local _ .vmem, ⟨4, _⟩ => ⟨S6x64, .f32⟩
  | .local _ .vmem, ⟨5, _⟩ => ⟨S1x1024x64, .f32⟩
  | .local _ .vmem, ⟨6, _⟩ => ⟨S1x1024x64, .f32⟩
  | .local _ .vmem, ⟨7, _⟩ => ⟨S1x1x64, .f32⟩
  | .local _ .vmem, ⟨8, _⟩ => ⟨S1x1x64, .f32⟩
  | .local _ .vmem, ⟨9, _⟩ => ⟨S1x1x64, .f32⟩
  | .local _ .vmem, ⟨10, _⟩ => ⟨S1x1x64, .f32⟩
  | .local _ .vmem, ⟨11, _⟩ => ⟨S1x1024x64, .f32⟩
  | .local _ .vmem, ⟨12, _⟩ => ⟨S1x1024x64, .f32⟩
  | .local _ .vmem, ⟨13, _⟩ => ⟨S16x1x64, .f32⟩
  | .local _ .vmem, ⟨14, _⟩ => ⟨S16x1x64, .f32⟩
  | .local _ .vmem, ⟨15, _⟩ => ⟨S1x1x64, .f32⟩
  | .local _ .vmem, ⟨16, _⟩ => ⟨S1x1x64, .f32⟩
  | .local _ .vmem, ⟨17, _⟩ => ⟨S1x1024x128, .f32⟩
  | .local _ .vmem, ⟨18, _⟩ => ⟨S1x1024x128, .f32⟩
  | .local _ .vmem, ⟨19, _⟩ => ⟨S1x1024x128, .f32⟩
  | .local _ .vmem, ⟨20, _⟩ => ⟨S1x1024x128, .f32⟩
  | .local _ .vmem, ⟨21, _⟩ => ⟨S1x1x1024, .f32⟩
  | .local _ .vmem, ⟨22, _⟩ => ⟨S1x1x1024, .f32⟩
  | .local _ .vmem, ⟨23, _⟩ => ⟨S128x64, .f32⟩
  | .local _ .vmem, ⟨24, _⟩ => ⟨S1x1024x64, .f32⟩
  | .local _ .vmem, ⟨25, _⟩ => ⟨S1x1024x64, .f32⟩
  | .local _ .vmem, ⟨26, _⟩ => ⟨S1x1x64, .f32⟩
  | .local _ .vmem, ⟨27, _⟩ => ⟨S1x1x64, .f32⟩
  | .local _ .vmem, ⟨28, _⟩ => ⟨S1x1x64, .f32⟩
  | .local _ .vmem, ⟨29, _⟩ => ⟨S1x1x64, .f32⟩
  | .local _ .vmem, ⟨30, _⟩ => ⟨S1x1024x64, .f32⟩
  | .local _ .vmem, ⟨31, _⟩ => ⟨S1x1024x64, .f32⟩
  | .local _ .vmem, ⟨32, _⟩ => ⟨S16x1x64, .f32⟩
  | .local _ .vmem, ⟨33, _⟩ => ⟨S16x1x64, .f32⟩
  | .local _ .vmem, ⟨34, _⟩ => ⟨S1x1x64, .f32⟩
  | .local _ .vmem, ⟨35, _⟩ => ⟨S1x1x64, .f32⟩
  | .local _ .vmem, ⟨36, _⟩ => ⟨S1x1024x128, .f32⟩
  | .local _ .vmem, ⟨37, _⟩ => ⟨S1x1024x128, .f32⟩
  | .local _ .vmem, ⟨38, _⟩ => ⟨S1x1024x128, .f32⟩
  | .local _ .vmem, ⟨39, _⟩ => ⟨S1x1024x128, .f32⟩
  | .local _ .vmem, ⟨40, _⟩ => ⟨S1x1x1024, .f32⟩
  | .local _ .vmem, ⟨41, _⟩ => ⟨S1x1x1024, .f32⟩
  | .local _ .vmem, ⟨42, _⟩ => ⟨S128x128, .f32⟩
  | .local _ .vmem, ⟨43, _⟩ => ⟨S1x1024x128, .f32⟩
  | .local _ .vmem, ⟨44, _⟩ => ⟨S1x1024x128, .f32⟩
  | .local _ .vmem, ⟨45, _⟩ => ⟨S1x1x128, .f32⟩
  | .local _ .vmem, ⟨46, _⟩ => ⟨S1x1x128, .f32⟩
  | .local _ .vmem, ⟨47, _⟩ => ⟨S1x1x128, .f32⟩
  | .local _ .vmem, ⟨48, _⟩ => ⟨S1x1x128, .f32⟩
  | .local _ .vmem, ⟨49, _⟩ => ⟨S1x1024x128, .f32⟩
  | .local _ .vmem, ⟨50, _⟩ => ⟨S1x1024x128, .f32⟩
  | .local _ .vmem, ⟨51, _⟩ => ⟨S16x1x128, .f32⟩
  | .local _ .vmem, ⟨52, _⟩ => ⟨S16x1x128, .f32⟩
  | .local _ .vmem, ⟨53, _⟩ => ⟨S1x1x128, .f32⟩
  | .local _ .vmem, ⟨54, _⟩ => ⟨S1x1x128, .f32⟩
  | .local _ .vmem, ⟨55, _⟩ => ⟨S1x1024x128, .f32⟩
  | .local _ .vmem, ⟨56, _⟩ => ⟨S1x1024x128, .f32⟩
  | .local _ .vmem, ⟨57, _⟩ => ⟨S1x1024x128, .f32⟩
  | .local _ .vmem, ⟨58, _⟩ => ⟨S1x1024x128, .f32⟩
  | .local _ .vmem, ⟨59, _⟩ => ⟨S1x1x1024, .f32⟩
  | .local _ .vmem, ⟨60, _⟩ => ⟨S1x1x1024, .f32⟩
  | .local _ .vmem, ⟨61, _⟩ => ⟨S256x256, .f32⟩
  | .local _ .vmem, ⟨62, _⟩ => ⟨S1x1024x256, .f32⟩
  | .local _ .vmem, ⟨63, _⟩ => ⟨S1x1024x256, .f32⟩
  | .local _ .vmem, ⟨64, _⟩ => ⟨S1x1x256, .f32⟩
  | .local _ .vmem, ⟨65, _⟩ => ⟨S1x1x256, .f32⟩
  | .local _ .vmem, ⟨66, _⟩ => ⟨S1x1x256, .f32⟩
  | .local _ .vmem, ⟨67, _⟩ => ⟨S1x1x256, .f32⟩
  | .local _ .vmem, ⟨68, _⟩ => ⟨S1x1024x256, .f32⟩
  | .local _ .vmem, ⟨69, _⟩ => ⟨S1x1024x256, .f32⟩
  | .local _ .vmem, ⟨70, _⟩ => ⟨S16x1x256, .f32⟩
  | .local _ .vmem, ⟨71, _⟩ => ⟨S16x1x256, .f32⟩
  | .local _ .vmem, ⟨72, _⟩ => ⟨S1x1x256, .f32⟩
  | .local _ .vmem, ⟨73, _⟩ => ⟨S1x1x256, .f32⟩
  | .local _ .vmem, ⟨74, _⟩ => ⟨S1x1024x256, .f32⟩
  | .local _ .vmem, ⟨75, _⟩ => ⟨S1x1024x256, .f32⟩
  | .local _ .vmem, ⟨76, _⟩ => ⟨S1x1024x128, .f32⟩
  | .local _ .vmem, ⟨77, _⟩ => ⟨S1x1024x128, .f32⟩
  | .local _ .vmem, ⟨78, _⟩ => ⟨S1x1024x128, .f32⟩
  | .local _ .vmem, ⟨79, _⟩ => ⟨S1x1024x128, .f32⟩
  | .local _ .vmem, ⟨80, _⟩ => ⟨S1x1024x128, .f32⟩
  | .local _ .vmem, ⟨81, _⟩ => ⟨S1x1024x128, .f32⟩
  | .local _ .vmem, ⟨82, _⟩ => ⟨S1x1024x256, .f32⟩
  | .local _ .vmem, ⟨83, _⟩ => ⟨S1x1024x256, .f32⟩
  | .local _ .vmem, ⟨84, _⟩ => ⟨S512x1024, .f32⟩
  | .local _ .vmem, ⟨85, _⟩ => ⟨S1x1024x1024, .f32⟩
  | .local _ .vmem, ⟨86, _⟩ => ⟨S1x1024x1024, .f32⟩
  | .local _ .vmem, ⟨87, _⟩ => ⟨S1x1x1024, .f32⟩
  | .local _ .vmem, ⟨88, _⟩ => ⟨S1x1x1024, .f32⟩
  | .local _ .vmem, ⟨89, _⟩ => ⟨S1x1x1024, .f32⟩
  | .local _ .vmem, ⟨90, _⟩ => ⟨S1x1x1024, .f32⟩
  | .local _ .vmem, ⟨91, _⟩ => ⟨S1x1024x1024, .f32⟩
  | .local _ .vmem, ⟨92, _⟩ => ⟨S1x1024x1024, .f32⟩
  | .local _ .vmem, ⟨93, _⟩ => ⟨S16x1x1024, .f32⟩
  | .local _ .vmem, ⟨94, _⟩ => ⟨S16x1x1024, .f32⟩
  | .local _ .vmem, ⟨95, _⟩ => ⟨S1x1x1024, .f32⟩
  | .local _ .vmem, ⟨96, _⟩ => ⟨S1x1x1024, .f32⟩
  | .local _ .vmem, ⟨97, _⟩ => ⟨S1x1x2048, .f32⟩
  | .local _ .vmem, ⟨98, _⟩ => ⟨S1x1x2048, .f32⟩
  | .local _ .vmem, ⟨99, _⟩ => ⟨S16x1x2048, .f32⟩
  | .local _ .vmem, ⟨100, _⟩ => ⟨S2048x256, .f32⟩
  | .local _ .vmem, ⟨101, _⟩ => ⟨S1x1x256, .f32⟩
  | .local _ .vmem, ⟨102, _⟩ => ⟨S1x1x256, .f32⟩
  | .local _ .vmem, ⟨103, _⟩ => ⟨S16x256, .f32⟩
  | _, _ => ⟨S16x3x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | _, _ => false

abbrev semScoped : Fin 0 → Bool
  | ⟨_, h⟩ => absurd h (Nat.not_lt_zero _)

abbrev dmaSemScoped : Fin 104 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | _ => false

abbrev sig : RefSig :=
  ofTc nBuf bufTy 0 104 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_c : Ref sig .tc := ⟨.hbm, 20, rfl⟩
abbrev main_call0_v0 : Ref sig .tc := ⟨.hbm, 21, rfl⟩
abbrev main_v1 : Ref sig .tc := ⟨.hbm, 22, rfl⟩
abbrev main_v2 : Ref sig .tc := ⟨.hbm, 23, rfl⟩
abbrev main_cst : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6_0 : Ref sig .tc := ⟨.hbm, 28, rfl⟩
abbrev main_v6_1 : Ref sig .tc := ⟨.hbm, 29, rfl⟩
abbrev main_v6_2 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_cst_0 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16_0 : Ref sig .tc := ⟨.hbm, 41, rfl⟩
abbrev main_v16_1 : Ref sig .tc := ⟨.hbm, 42, rfl⟩
abbrev main_v16_2 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_cst_1 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26_0 : Ref sig .tc := ⟨.hbm, 54, rfl⟩
abbrev main_v26_1 : Ref sig .tc := ⟨.hbm, 55, rfl⟩
abbrev main_v26_2 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_cst_2 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35_0 : Ref sig .tc := ⟨.hbm, 66, rfl⟩
abbrev main_v35_1 : Ref sig .tc := ⟨.hbm, 67, rfl⟩
abbrev main_v35_2 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40_0 : Ref sig .tc := ⟨.hbm, 73, rfl⟩
abbrev main_v40_1 : Ref sig .tc := ⟨.hbm, 74, rfl⟩
abbrev main_v40_2 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg3_1 : Ref sig .tc := ⟨.vmem, 25, rfl⟩
abbrev cc2_stg4_0 : Ref sig .tc := ⟨.vmem, 26, rfl⟩
abbrev cc2_stg4_1 : Ref sig .tc := ⟨.vmem, 27, rfl⟩
abbrev cc2_stg5_0 : Ref sig .tc := ⟨.vmem, 28, rfl⟩
abbrev cc2_stg5_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg2_0 : Ref sig .tc := ⟨.vmem, 33, rfl⟩
abbrev cc3_stg3_0 : Ref sig .tc := ⟨.vmem, 34, rfl⟩
abbrev cc3_stg4_0 : Ref sig .tc := ⟨.vmem, 35, rfl⟩
abbrev cc3_stg5_0 : Ref sig .tc := ⟨.vmem, 36, rfl⟩
abbrev cc3_stg5_1 : Ref sig .tc := ⟨.vmem, 37, rfl⟩
abbrev cc4_stg0_0 : Ref sig .tc := ⟨.vmem, 38, rfl⟩
abbrev cc4_stg0_1 : Ref sig .tc := ⟨.vmem, 39, rfl⟩
abbrev cc4_stg1_0 : Ref sig .tc := ⟨.vmem, 40, rfl⟩
abbrev cc4_stg1_1 : Ref sig .tc := ⟨.vmem, 41, rfl⟩
abbrev cc4_stg2_0 : Ref sig .tc := ⟨.vmem, 42, rfl⟩
abbrev cc4_stg3_0 : Ref sig .tc := ⟨.vmem, 43, rfl⟩
abbrev cc4_stg3_1 : Ref sig .tc := ⟨.vmem, 44, rfl⟩
abbrev cc4_stg4_0 : Ref sig .tc := ⟨.vmem, 45, rfl⟩
abbrev cc4_stg4_1 : Ref sig .tc := ⟨.vmem, 46, rfl⟩
abbrev cc4_stg5_0 : Ref sig .tc := ⟨.vmem, 47, rfl⟩
abbrev cc4_stg5_1 : Ref sig .tc := ⟨.vmem, 48, rfl⟩
abbrev cc5_stg0_0 : Ref sig .tc := ⟨.vmem, 49, rfl⟩
abbrev cc5_stg0_1 : Ref sig .tc := ⟨.vmem, 50, rfl⟩
abbrev cc5_stg1_0 : Ref sig .tc := ⟨.vmem, 51, rfl⟩
abbrev cc5_stg2_0 : Ref sig .tc := ⟨.vmem, 52, rfl⟩
abbrev cc5_stg3_0 : Ref sig .tc := ⟨.vmem, 53, rfl⟩
abbrev cc5_stg4_0 : Ref sig .tc := ⟨.vmem, 54, rfl⟩
abbrev cc5_stg5_0 : Ref sig .tc := ⟨.vmem, 55, rfl⟩
abbrev cc5_stg5_1 : Ref sig .tc := ⟨.vmem, 56, rfl⟩
abbrev cc6_stg0_0 : Ref sig .tc := ⟨.vmem, 57, rfl⟩
abbrev cc6_stg0_1 : Ref sig .tc := ⟨.vmem, 58, rfl⟩
abbrev cc6_stg1_0 : Ref sig .tc := ⟨.vmem, 59, rfl⟩
abbrev cc6_stg1_1 : Ref sig .tc := ⟨.vmem, 60, rfl⟩
abbrev cc6_stg2_0 : Ref sig .tc := ⟨.vmem, 61, rfl⟩
abbrev cc6_stg3_0 : Ref sig .tc := ⟨.vmem, 62, rfl⟩
abbrev cc6_stg3_1 : Ref sig .tc := ⟨.vmem, 63, rfl⟩
abbrev cc6_stg4_0 : Ref sig .tc := ⟨.vmem, 64, rfl⟩
abbrev cc6_stg4_1 : Ref sig .tc := ⟨.vmem, 65, rfl⟩
abbrev cc6_stg5_0 : Ref sig .tc := ⟨.vmem, 66, rfl⟩
abbrev cc6_stg5_1 : Ref sig .tc := ⟨.vmem, 67, rfl⟩
abbrev cc7_stg0_0 : Ref sig .tc := ⟨.vmem, 68, rfl⟩
abbrev cc7_stg0_1 : Ref sig .tc := ⟨.vmem, 69, rfl⟩
abbrev cc7_stg1_0 : Ref sig .tc := ⟨.vmem, 70, rfl⟩
abbrev cc7_stg2_0 : Ref sig .tc := ⟨.vmem, 71, rfl⟩
abbrev cc7_stg3_0 : Ref sig .tc := ⟨.vmem, 72, rfl⟩
abbrev cc7_stg4_0 : Ref sig .tc := ⟨.vmem, 73, rfl⟩
abbrev cc7_stg5_0 : Ref sig .tc := ⟨.vmem, 74, rfl⟩
abbrev cc7_stg5_1 : Ref sig .tc := ⟨.vmem, 75, rfl⟩
abbrev cc8_stg0_0 : Ref sig .tc := ⟨.vmem, 76, rfl⟩
abbrev cc8_stg0_1 : Ref sig .tc := ⟨.vmem, 77, rfl⟩
abbrev cc8_stg1_0 : Ref sig .tc := ⟨.vmem, 78, rfl⟩
abbrev cc8_stg1_1 : Ref sig .tc := ⟨.vmem, 79, rfl⟩
abbrev cc8_stg2_0 : Ref sig .tc := ⟨.vmem, 80, rfl⟩
abbrev cc8_stg2_1 : Ref sig .tc := ⟨.vmem, 81, rfl⟩
abbrev cc8_stg3_0 : Ref sig .tc := ⟨.vmem, 82, rfl⟩
abbrev cc8_stg3_1 : Ref sig .tc := ⟨.vmem, 83, rfl⟩
abbrev cc8_stg4_0 : Ref sig .tc := ⟨.vmem, 84, rfl⟩
abbrev cc8_stg5_0 : Ref sig .tc := ⟨.vmem, 85, rfl⟩
abbrev cc8_stg5_1 : Ref sig .tc := ⟨.vmem, 86, rfl⟩
abbrev cc8_stg6_0 : Ref sig .tc := ⟨.vmem, 87, rfl⟩
abbrev cc8_stg6_1 : Ref sig .tc := ⟨.vmem, 88, rfl⟩
abbrev cc8_stg7_0 : Ref sig .tc := ⟨.vmem, 89, rfl⟩
abbrev cc8_stg7_1 : Ref sig .tc := ⟨.vmem, 90, rfl⟩
abbrev cc9_stg0_0 : Ref sig .tc := ⟨.vmem, 91, rfl⟩
abbrev cc9_stg0_1 : Ref sig .tc := ⟨.vmem, 92, rfl⟩
abbrev cc9_stg1_0 : Ref sig .tc := ⟨.vmem, 93, rfl⟩
abbrev cc9_stg2_0 : Ref sig .tc := ⟨.vmem, 94, rfl⟩
abbrev cc9_stg3_0 : Ref sig .tc := ⟨.vmem, 95, rfl⟩
abbrev cc9_stg4_0 : Ref sig .tc := ⟨.vmem, 96, rfl⟩
abbrev cc9_stg5_0 : Ref sig .tc := ⟨.vmem, 97, rfl⟩
abbrev cc9_stg5_1 : Ref sig .tc := ⟨.vmem, 98, rfl⟩
abbrev cc10_stg0_0 : Ref sig .tc := ⟨.vmem, 99, rfl⟩
abbrev cc10_stg1_0 : Ref sig .tc := ⟨.vmem, 100, rfl⟩
abbrev cc10_stg2_0 : Ref sig .tc := ⟨.vmem, 101, rfl⟩
abbrev cc10_stg3_0 : Ref sig .tc := ⟨.vmem, 102, rfl⟩
abbrev cc10_stg4_0 : Ref sig .tc := ⟨.vmem, 103, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem5_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem3_0 : DmaSem sig := 24
abbrev cc2_sem3_1 : DmaSem sig := 25
abbrev cc2_sem4_0 : DmaSem sig := 26
abbrev cc2_sem4_1 : DmaSem sig := 27
abbrev cc2_sem5_0 : DmaSem sig := 28
abbrev cc2_sem5_1 : DmaSem sig := 29
abbrev cc3_sem0_0 : DmaSem sig := 30
abbrev cc3_sem0_1 : DmaSem sig := 31
abbrev cc3_sem1_0 : DmaSem sig := 32
abbrev cc3_sem2_0 : DmaSem sig := 33
abbrev cc3_sem3_0 : DmaSem sig := 34
abbrev cc3_sem4_0 : DmaSem sig := 35
abbrev cc3_sem5_0 : DmaSem sig := 36
abbrev cc3_sem5_1 : DmaSem sig := 37
abbrev cc4_sem0_0 : DmaSem sig := 38
abbrev cc4_sem0_1 : DmaSem sig := 39
abbrev cc4_sem1_0 : DmaSem sig := 40
abbrev cc4_sem1_1 : DmaSem sig := 41
abbrev cc4_sem2_0 : DmaSem sig := 42
abbrev cc4_sem3_0 : DmaSem sig := 43
abbrev cc4_sem3_1 : DmaSem sig := 44
abbrev cc4_sem4_0 : DmaSem sig := 45
abbrev cc4_sem4_1 : DmaSem sig := 46
abbrev cc4_sem5_0 : DmaSem sig := 47
abbrev cc4_sem5_1 : DmaSem sig := 48
abbrev cc5_sem0_0 : DmaSem sig := 49
abbrev cc5_sem0_1 : DmaSem sig := 50
abbrev cc5_sem1_0 : DmaSem sig := 51
abbrev cc5_sem2_0 : DmaSem sig := 52
abbrev cc5_sem3_0 : DmaSem sig := 53
abbrev cc5_sem4_0 : DmaSem sig := 54
abbrev cc5_sem5_0 : DmaSem sig := 55
abbrev cc5_sem5_1 : DmaSem sig := 56
abbrev cc6_sem0_0 : DmaSem sig := 57
abbrev cc6_sem0_1 : DmaSem sig := 58
abbrev cc6_sem1_0 : DmaSem sig := 59
abbrev cc6_sem1_1 : DmaSem sig := 60
abbrev cc6_sem2_0 : DmaSem sig := 61
abbrev cc6_sem3_0 : DmaSem sig := 62
abbrev cc6_sem3_1 : DmaSem sig := 63
abbrev cc6_sem4_0 : DmaSem sig := 64
abbrev cc6_sem4_1 : DmaSem sig := 65
abbrev cc6_sem5_0 : DmaSem sig := 66
abbrev cc6_sem5_1 : DmaSem sig := 67
abbrev cc7_sem0_0 : DmaSem sig := 68
abbrev cc7_sem0_1 : DmaSem sig := 69
abbrev cc7_sem1_0 : DmaSem sig := 70
abbrev cc7_sem2_0 : DmaSem sig := 71
abbrev cc7_sem3_0 : DmaSem sig := 72
abbrev cc7_sem4_0 : DmaSem sig := 73
abbrev cc7_sem5_0 : DmaSem sig := 74
abbrev cc7_sem5_1 : DmaSem sig := 75
abbrev cc8_sem0_0 : DmaSem sig := 76
abbrev cc8_sem0_1 : DmaSem sig := 77
abbrev cc8_sem1_0 : DmaSem sig := 78
abbrev cc8_sem1_1 : DmaSem sig := 79
abbrev cc8_sem2_0 : DmaSem sig := 80
abbrev cc8_sem2_1 : DmaSem sig := 81
abbrev cc8_sem3_0 : DmaSem sig := 82
abbrev cc8_sem3_1 : DmaSem sig := 83
abbrev cc8_sem4_0 : DmaSem sig := 84
abbrev cc8_sem5_0 : DmaSem sig := 85
abbrev cc8_sem5_1 : DmaSem sig := 86
abbrev cc8_sem6_0 : DmaSem sig := 87
abbrev cc8_sem6_1 : DmaSem sig := 88
abbrev cc8_sem7_0 : DmaSem sig := 89
abbrev cc8_sem7_1 : DmaSem sig := 90
abbrev cc9_sem0_0 : DmaSem sig := 91
abbrev cc9_sem0_1 : DmaSem sig := 92
abbrev cc9_sem1_0 : DmaSem sig := 93
abbrev cc9_sem2_0 : DmaSem sig := 94
abbrev cc9_sem3_0 : DmaSem sig := 95
abbrev cc9_sem4_0 : DmaSem sig := 96
abbrev cc9_sem5_0 : DmaSem sig := 97
abbrev cc9_sem5_1 : DmaSem sig := 98
abbrev cc10_sem0_0 : DmaSem sig := 99
abbrev cc10_sem1_0 : DmaSem sig := 100
abbrev cc10_sem2_0 : DmaSem sig := 101
abbrev cc10_sem3_0 : DmaSem sig := 102
abbrev cc10_sem4_0 : DmaSem sig := 103

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c20_i32 : BitVec 32 := 20#32
  let v29 : BitVec 32 := Scalar.addi c0_i32 c20_i32
  let c1_i32 : BitVec 32 := 1#32
  ⟨c0_i32, v29, c1_i32⟩
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S6x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1024x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16x1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1x1024x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![16], ![false]⟩

@[reducible] def k2_t1_loop : Scf.Loop 32 :=
  let c0_i32 : BitVec 32 := 0#32
  let c20_i32 : BitVec 32 := 20#32
  let v29 : BitVec 32 := Scalar.addi c0_i32 c20_i32
  let c1_i32 : BitVec 32 := 1#32
  ⟨c0_i32, v29, c1_i32⟩
def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x1024x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x1x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1x1024x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1x1x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1x1x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![16], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_4 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_5 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x1024x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S16x1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S16x1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S1x1024x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![16], ![false]⟩

@[reducible] def k4_t1_loop : Scf.Loop 32 :=
  let c0_i32 : BitVec 32 := 0#32
  let c20_i32 : BitVec 32 := 20#32
  let v29 : BitVec 32 := Scalar.addi c0_i32 c20_i32
  let c1_i32 : BitVec 32 := 1#32
  ⟨c0_i32, v29, c1_i32⟩
def cc4_transform_0 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_1 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_4 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_5 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S1x1024x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1x1x1024 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S1x1024x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S1x1x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S1x1x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![16], ![false]⟩

def cc5_transform_0 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc5_transform_1 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc5_transform_2 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc5_transform_3 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc5_transform_4 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc5_transform_5 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage5_0 : Fin 2 → Memref sig .tc .vmem S1x1024x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S16x1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S16x1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S1x1024x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![16], ![false]⟩

@[reducible] def k6_t1_loop : Scf.Loop 32 :=
  let c0_i32 : BitVec 32 := 0#32
  let c20_i32 : BitVec 32 := 20#32
  let v28 : BitVec 32 := Scalar.addi c0_i32 c20_i32
  let c1_i32 : BitVec 32 := 1#32
  ⟨c0_i32, v28, c1_i32⟩
def cc6_transform_0 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc6_transform_1 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc6_transform_4 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc6_transform_5 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage6_0 : Fin 2 → Memref sig .tc .vmem S1x1024x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S1x1x1024 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S256x256 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S1x1024x256 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 2 → Memref sig .tc .vmem S1x1x256 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev stage6_5 : Fin 2 → Memref sig .tc .vmem S1x1x256 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![16], ![false]⟩

def cc7_transform_0 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc7_transform_1 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc7_transform_2 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc7_transform_3 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc7_transform_4 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc7_transform_5 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage7_0 : Fin 2 → Memref sig .tc .vmem S1x1024x256 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S16x1x256 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S16x1x256 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x1x256 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x1x256 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S1x1024x256 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev grid8 : Pipeline.Grid := ⟨1, ![16], ![false]⟩

def cc8_transform_0 (i : grid8.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc8_transform_1 (i : grid8.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc8_transform_2 (i : grid8.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc8_transform_3 (i : grid8.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc8_transform_6 (i : grid8.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc8_transform_7 (i : grid8.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage8_0 : Fin 2 → Memref sig .tc .vmem S1x1024x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S1x1024x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S1x1024x128 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 2 → Memref sig .tc .vmem S1x1024x256 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev stage8_4 : Fin 1 → Memref sig .tc .vmem S512x1024 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S1x1024x1024 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev stage8_6 : Fin 2 → Memref sig .tc .vmem S1x1x1024 .f32 := fun | 0 => Memref.whole cc8_stg6_0 | 1 => Memref.whole cc8_stg6_1 | ⟨_ + 2, h⟩ => absurd h (Nat.not_lt.2 (Nat.le_add_left _ _))
abbrev sem8_6 : Fin 2 → DmaSem sig := fun | 0 => cc8_sem6_0 | 1 => cc8_sem6_1 | ⟨_ + 2, h⟩ => absurd h (Nat.not_lt.2 (Nat.le_add_left _ _))
abbrev reads8_6 : Fin grid8.rank → Bool := ![true]

abbrev stage8_7 : Fin 2 → Memref sig .tc .vmem S1x1x1024 .f32 := fun | 0 => Memref.whole cc8_stg7_0 | 1 => Memref.whole cc8_stg7_1 | ⟨_ + 2, h⟩ => absurd h (Nat.not_lt.2 (Nat.le_add_left _ _))
abbrev sem8_7 : Fin 2 → DmaSem sig := fun | 0 => cc8_sem7_0 | 1 => cc8_sem7_1 | ⟨_ + 2, h⟩ => absurd h (Nat.not_lt.2 (Nat.le_add_left _ _))
abbrev reads8_7 : Fin grid8.rank → Bool := ![true]

abbrev grid9 : Pipeline.Grid := ⟨1, ![16], ![false]⟩

def cc9_transform_0 (i : grid9.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc9_transform_1 (i : grid9.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc9_transform_2 (i : grid9.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc9_transform_3 (i : grid9.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc9_transform_4 (i : grid9.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc9_transform_5 (i : grid9.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage9_0 : Fin 2 → Memref sig .tc .vmem S1x1024x1024 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S16x1x1024 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S16x1x1024 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x1x1024 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x1x1024 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 2 → Memref sig .tc .vmem S1x1x2048 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

abbrev grid10 : Pipeline.Grid := .none

abbrev stage10_0 : Fin 1 → Memref sig .tc .vmem S16x1x2048 .f32 := fun | 0 => Memref.whole cc10_stg0_0 | ⟨_ + 1, h⟩ => absurd h (Nat.not_lt.2 (Nat.le_add_left _ _))
abbrev sem10_0 : Fin 1 → DmaSem sig := fun | 0 => cc10_sem0_0 | ⟨_ + 1, h⟩ => absurd h (Nat.not_lt.2 (Nat.le_add_left _ _))

abbrev stage10_1 : Fin 1 → Memref sig .tc .vmem S2048x256 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))

abbrev stage10_2 : Fin 1 → Memref sig .tc .vmem S1x1x256 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))

abbrev stage10_3 : Fin 1 → Memref sig .tc .vmem S1x1x256 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))

abbrev stage10_4 : Fin 1 → Memref sig .tc .vmem S16x256 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
-- ==== ReferenceIdeal.lean ====
abbrev S16x3x1024 : Shape := ⟨3, ![16, 3, 1024]⟩
abbrev S64x6 : Shape := ⟨2, ![64, 6]⟩
abbrev S64 : Shape := ⟨1, ![64]⟩
abbrev S64x128 : Shape := ⟨2, ![64, 128]⟩
abbrev S128x128 : Shape := ⟨2, ![128, 128]⟩
abbrev S128 : Shape := ⟨1, ![128]⟩
abbrev S256x256 : Shape := ⟨2, ![256, 256]⟩
abbrev S256 : Shape := ⟨1, ![256]⟩
abbrev S1024x512 : Shape := ⟨2, ![1024, 512]⟩
abbrev S1024 : Shape := ⟨1, ![1024]⟩
abbrev S256x2048 : Shape := ⟨2, ![256, 2048]⟩
abbrev S16x1024x1024 : Shape := ⟨3, ![16, 1024, 1024]⟩
abbrev S_ : Shape := ⟨0, ![]⟩
abbrev S16x1024 : Shape := ⟨2, ![16, 1024]⟩
abbrev S16x1x1024 : Shape := ⟨3, ![16, 1, 1024]⟩
abbrev S16x1024x1 : Shape := ⟨3, ![16, 1024, 1]⟩
abbrev S16x1024x20 : Shape := ⟨3, ![16, 1024, 20]⟩
abbrev S16x1024x3 : Shape := ⟨3, ![16, 1024, 3]⟩
abbrev S16 : Shape := ⟨1, ![16]⟩
abbrev S16x1x1 : Shape := ⟨3, ![16, 1, 1]⟩
abbrev S16x1024x20x1 : Shape := ⟨4, ![16, 1024, 20, 1]⟩
abbrev S16x1024x20x2 : Shape := ⟨4, ![16, 1024, 20, 2]⟩
abbrev S16x1024x20x3 : Shape := ⟨4, ![16, 1024, 20, 3]⟩
abbrev S16x1024x1x3 : Shape := ⟨4, ![16, 1024, 1, 3]⟩
abbrev S16x1024x20x6 : Shape := ⟨4, ![16, 1024, 20, 6]⟩
abbrev S16x6x1024x20 : Shape := ⟨4, ![16, 6, 1024, 20]⟩
abbrev S16x1024x20x64 : Shape := ⟨4, ![16, 1024, 20, 64]⟩
abbrev S16x64x1024x20 : Shape := ⟨4, ![16, 64, 1024, 20]⟩
abbrev S1x64x1x1 : Shape := ⟨4, ![1, 64, 1, 1]⟩
abbrev S16x64x1024 : Shape := ⟨3, ![16, 64, 1024]⟩
abbrev S16x1024x64 : Shape := ⟨3, ![16, 1024, 64]⟩
abbrev S16x1024x1x64 : Shape := ⟨4, ![16, 1024, 1, 64]⟩
abbrev S16x1024x20x128 : Shape := ⟨4, ![16, 1024, 20, 128]⟩
abbrev S16x128x1024x20 : Shape := ⟨4, ![16, 128, 1024, 20]⟩
abbrev S1x128x1x1 : Shape := ⟨4, ![1, 128, 1, 1]⟩
abbrev S16x128x1024 : Shape := ⟨3, ![16, 128, 1024]⟩
abbrev S16x1024x128 : Shape := ⟨3, ![16, 1024, 128]⟩
abbrev S16x1024x1x128 : Shape := ⟨4, ![16, 1024, 1, 128]⟩
abbrev S16x1024x20x256 : Shape := ⟨4, ![16, 1024, 20, 256]⟩
abbrev S16x256x1024x20 : Shape := ⟨4, ![16, 256, 1024, 20]⟩
abbrev S1x256x1x1 : Shape := ⟨4, ![1, 256, 1, 1]⟩
abbrev S16x256x1024 : Shape := ⟨3, ![16, 256, 1024]⟩
abbrev S16x512x1024 : Shape := ⟨3, ![16, 512, 1024]⟩
abbrev S1x1024x1 : Shape := ⟨3, ![1, 1024, 1]⟩
abbrev S16x2048 : Shape := ⟨2, ![16, 2048]⟩
abbrev S2048x256 : Shape := ⟨2, ![2048, 256]⟩
abbrev S16x256 : Shape := ⟨2, ![16, 256]⟩
abbrev S1x256 : Shape := ⟨2, ![1, 256]⟩

abbrev nBuf : Space → Nat
  | .hbm => 519
  | .vmem => 0
  | .smem => 0
  | _ => 0

abbrev hbmTy0_0 (i : Nat) : BufTy := match i % 128 with
  | 0 => ⟨S16x3x1024, .f32⟩
  | 1 => ⟨S64x6, .f32⟩
  | 2 => ⟨S64, .f32⟩
  | 3 => ⟨S64, .f32⟩
  | 4 => ⟨S64x128, .f32⟩
  | 5 => ⟨S64, .f32⟩
  | 6 => ⟨S64, .f32⟩
  | 7 => ⟨S128x128, .f32⟩
  | 8 => ⟨S128, .f32⟩
  | 9 => ⟨S128, .f32⟩
  | 10 => ⟨S256x256, .f32⟩
  | 11 => ⟨S256, .f32⟩
  | 12 => ⟨S256, .f32⟩
  | 13 => ⟨S1024x512, .f32⟩
  | 14 => ⟨S1024, .f32⟩
  | 15 => ⟨S1024, .f32⟩
  | 16 => ⟨S256x2048, .f32⟩
  | 17 => ⟨S256, .f32⟩
  | 18 => ⟨S256, .f32⟩
  | 19 => ⟨S16x1024x1024, .f32⟩
  | 20 => ⟨S_, .f32⟩
  | 21 => ⟨S16x1024x1024, .f32⟩
  | 22 => ⟨S16x1024x1024, .f32⟩
  | 23 => ⟨S16x3x1024, .f32⟩
  | 24 => ⟨S_, .f32⟩
  | 25 => ⟨S16x1024, .f32⟩
  | 26 => ⟨S16x1x1024, .f32⟩
  | 27 => ⟨S16x1x1024, .f32⟩
  | 28 => ⟨S16x1024x1024, .f32⟩
  | 29 => ⟨S16x1024x1024, .f32⟩
  | 30 => ⟨S16x1024x1, .f32⟩
  | 31 => ⟨S16x1024x1024, .f32⟩
  | 32 => ⟨S16x1024x1024, .f32⟩
  | 33 => ⟨S16x1024x20, .f32⟩
  | 34 => ⟨S16x1024x20, .i32⟩
  | 35 => ⟨S16x1024x3, .f32⟩
  | 36 => ⟨S16, .i32⟩
  | 37 => ⟨S16x1x1, .i32⟩
  | 38 => ⟨S_, .i32⟩
  | 39 => ⟨S16x1x1, .i32⟩
  | 40 => ⟨S16x1x1, .i1⟩
  | 41 => ⟨S_, .i32⟩
  | 42 => ⟨S16x1x1, .i32⟩
  | 43 => ⟨S16x1x1, .i32⟩
  | 44 => ⟨S16x1x1, .i32⟩
  | 45 => ⟨S_, .i32⟩
  | 46 => ⟨S16x1024x20, .i32⟩
  | 47 => ⟨S16x1024x20, .i1⟩
  | 48 => ⟨S_, .i32⟩
  | 49 => ⟨S16x1024x20, .i32⟩
  | 50 => ⟨S16x1024x20, .i32⟩
  | 51 => ⟨S16x1024x20, .i32⟩
  | 52 => ⟨S16x1024x20, .i32⟩
  | 53 => ⟨S16x1024x20x1, .i32⟩
  | 54 => ⟨S16x1024x20x1, .i32⟩
  | 55 => ⟨S16x1024x20x2, .i32⟩
  | 56 => ⟨S16x1024x20x3, .f32⟩
  | 57 => ⟨S16x1024x1x3, .f32⟩
  | 58 => ⟨S16x1024x20x3, .f32⟩
  | 59 => ⟨S16x1024x20x3, .f32⟩
  | 60 => ⟨S16x1024x20x6, .f32⟩
  | 61 => ⟨S16x6x1024x20, .f32⟩
  | 62 => ⟨S16x1024x20x64, .f32⟩
  | 63 => ⟨S16x64x1024x20, .f32⟩
  | 64 => ⟨S_, .f32⟩
  | 65 => ⟨S64, .f32⟩
  | 66 => ⟨S1x64x1x1, .f32⟩
  | 67 => ⟨S_, .f32⟩
  | 68 => ⟨S1x64x1x1, .f32⟩
  | 69 => ⟨S1x64x1x1, .f32⟩
  | 70 => ⟨S_, .i32⟩
  | 71 => ⟨S_, .f32⟩
  | 72 => ⟨S64, .f32⟩
  | 73 => ⟨S1x64x1x1, .f32⟩
  | 74 => ⟨S_, .f32⟩
  | 75 => ⟨S1x64x1x1, .f32⟩
  | 76 => ⟨S1x64x1x1, .f32⟩
  | 77 => ⟨S16x64x1024x20, .f32⟩
  | 78 => ⟨S16x64x1024x20, .f32⟩
  | 79 => ⟨S16x64x1024x20, .f32⟩
  | 80 => ⟨S_, .f32⟩
  | 81 => ⟨S_, .f32⟩
  | 82 => ⟨S_, .f32⟩
  | 83 => ⟨S_, .f32⟩
  | 84 => ⟨S64, .f32⟩
  | 85 => ⟨S1x64x1x1, .f32⟩
  | 86 => ⟨S1x64x1x1, .f32⟩
  | 87 => ⟨S1x64x1x1, .f32⟩
  | 88 => ⟨S_, .f32⟩
  | 89 => ⟨S_, .i1⟩
  | 90 => ⟨S_, .f32⟩
  | 91 => ⟨S_, .f32⟩
  | 92 => ⟨S1x64x1x1, .f32⟩
  | 93 => ⟨S1x64x1x1, .f32⟩
  | 94 => ⟨S16x64x1024x20, .f32⟩
  | 95 => ⟨S16x64x1024x20, .f32⟩
  | 96 => ⟨S_, .f32⟩
  | 97 => ⟨S1x64x1x1, .f32⟩
  | 98 => ⟨S1x64x1x1, .f32⟩
  | 99 => ⟨S1x64x1x1, .f32⟩
  | 100 => ⟨S16x64x1024x20, .f32⟩
  | 101 => ⟨S16x64x1024x20, .f32⟩
  | 102 => ⟨S1x64x1x1, .f32⟩
  | 103 => ⟨S16x64x1024x20, .f32⟩
  | 104 => ⟨S16x64x1024x20, .f32⟩
  | 105 => ⟨S1x64x1x1, .f32⟩
  | 106 => ⟨S16x64x1024x20, .f32⟩
  | 107 => ⟨S16x64x1024x20, .f32⟩
  | 108 => ⟨S_, .f32⟩
  | 109 => ⟨S16x64x1024x20, .f32⟩
  | 110 => ⟨S16x64x1024x20, .i1⟩
  | 111 => ⟨S_, .f32⟩
  | 112 => ⟨S16x64x1024x20, .f32⟩
  | 113 => ⟨S16x64x1024x20, .f32⟩
  | 114 => ⟨S16x64x1024x20, .f32⟩
  | 115 => ⟨S_, .f32⟩
  | 116 => ⟨S16x64x1024, .f32⟩
  | 117 => ⟨S16x1024x1024, .f32⟩
  | 118 => ⟨S_, .f32⟩
  | 119 => ⟨S16x1024x1024, .f32⟩
  | 120 => ⟨S16x1024x1024, .f32⟩
  | 121 => ⟨S16x64x1024, .f32⟩
  | 122 => ⟨S_, .f32⟩
  | 123 => ⟨S16x1024, .f32⟩
  | 124 => ⟨S16x1x1024, .f32⟩
  | 125 => ⟨S16x1x1024, .f32⟩
  | 126 => ⟨S16x1024x1024, .f32⟩
  | 127 => ⟨S16x1024x1024, .f32⟩
  | _ => ⟨S16x3x1024, .f32⟩

abbrev hbmTy0_1 (i : Nat) : BufTy := match i % 128 with
  | 0 => ⟨S16x1024x1, .f32⟩
  | 1 => ⟨S16x1024x1024, .f32⟩
  | 2 => ⟨S16x1024x1024, .f32⟩
  | 3 => ⟨S16x1024x20, .f32⟩
  | 4 => ⟨S16x1024x20, .i32⟩
  | 5 => ⟨S16x1024x64, .f32⟩
  | 6 => ⟨S16, .i32⟩
  | 7 => ⟨S16x1x1, .i32⟩
  | 8 => ⟨S_, .i32⟩
  | 9 => ⟨S16x1x1, .i32⟩
  | 10 => ⟨S16x1x1, .i1⟩
  | 11 => ⟨S_, .i32⟩
  | 12 => ⟨S16x1x1, .i32⟩
  | 13 => ⟨S16x1x1, .i32⟩
  | 14 => ⟨S16x1x1, .i32⟩
  | 15 => ⟨S_, .i32⟩
  | 16 => ⟨S16x1024x20, .i32⟩
  | 17 => ⟨S16x1024x20, .i1⟩
  | 18 => ⟨S_, .i32⟩
  | 19 => ⟨S16x1024x20, .i32⟩
  | 20 => ⟨S16x1024x20, .i32⟩
  | 21 => ⟨S16x1024x20, .i32⟩
  | 22 => ⟨S16x1024x20, .i32⟩
  | 23 => ⟨S16x1024x20x1, .i32⟩
  | 24 => ⟨S16x1024x20x1, .i32⟩
  | 25 => ⟨S16x1024x20x2, .i32⟩
  | 26 => ⟨S16x1024x20x64, .f32⟩
  | 27 => ⟨S16x1024x1x64, .f32⟩
  | 28 => ⟨S16x1024x20x64, .f32⟩
  | 29 => ⟨S16x1024x20x64, .f32⟩
  | 30 => ⟨S16x1024x20x128, .f32⟩
  | 31 => ⟨S16x128x1024x20, .f32⟩
  | 32 => ⟨S16x1024x20x64, .f32⟩
  | 33 => ⟨S16x64x1024x20, .f32⟩
  | 34 => ⟨S_, .f32⟩
  | 35 => ⟨S64, .f32⟩
  | 36 => ⟨S1x64x1x1, .f32⟩
  | 37 => ⟨S_, .f32⟩
  | 38 => ⟨S1x64x1x1, .f32⟩
  | 39 => ⟨S1x64x1x1, .f32⟩
  | 40 => ⟨S_, .i32⟩
  | 41 => ⟨S_, .f32⟩
  | 42 => ⟨S64, .f32⟩
  | 43 => ⟨S1x64x1x1, .f32⟩
  | 44 => ⟨S_, .f32⟩
  | 45 => ⟨S1x64x1x1, .f32⟩
  | 46 => ⟨S1x64x1x1, .f32⟩
  | 47 => ⟨S16x64x1024x20, .f32⟩
  | 48 => ⟨S16x64x1024x20, .f32⟩
  | 49 => ⟨S16x64x1024x20, .f32⟩
  | 50 => ⟨S_, .f32⟩
  | 51 => ⟨S_, .f32⟩
  | 52 => ⟨S_, .f32⟩
  | 53 => ⟨S_, .f32⟩
  | 54 => ⟨S64, .f32⟩
  | 55 => ⟨S1x64x1x1, .f32⟩
  | 56 => ⟨S1x64x1x1, .f32⟩
  | 57 => ⟨S1x64x1x1, .f32⟩
  | 58 => ⟨S_, .f32⟩
  | 59 => ⟨S_, .i1⟩
  | 60 => ⟨S_, .f32⟩
  | 61 => ⟨S_, .f32⟩
  | 62 => ⟨S1x64x1x1, .f32⟩
  | 63 => ⟨S1x64x1x1, .f32⟩
  | 64 => ⟨S16x64x1024x20, .f32⟩
  | 65 => ⟨S16x64x1024x20, .f32⟩
  | 66 => ⟨S_, .f32⟩
  | 67 => ⟨S1x64x1x1, .f32⟩
  | 68 => ⟨S1x64x1x1, .f32⟩
  | 69 => ⟨S1x64x1x1, .f32⟩
  | 70 => ⟨S16x64x1024x20, .f32⟩
  | 71 => ⟨S16x64x1024x20, .f32⟩
  | 72 => ⟨S1x64x1x1, .f32⟩
  | 73 => ⟨S16x64x1024x20, .f32⟩
  | 74 => ⟨S16x64x1024x20, .f32⟩
  | 75 => ⟨S1x64x1x1, .f32⟩
  | 76 => ⟨S16x64x1024x20, .f32⟩
  | 77 => ⟨S16x64x1024x20, .f32⟩
  | 78 => ⟨S_, .f32⟩
  | 79 => ⟨S16x64x1024x20, .f32⟩
  | 80 => ⟨S16x64x1024x20, .i1⟩
  | 81 => ⟨S_, .f32⟩
  | 82 => ⟨S16x64x1024x20, .f32⟩
  | 83 => ⟨S16x64x1024x20, .f32⟩
  | 84 => ⟨S16x64x1024x20, .f32⟩
  | 85 => ⟨S_, .f32⟩
  | 86 => ⟨S16x64x1024, .f32⟩
  | 87 => ⟨S16x1024x1024, .f32⟩
  | 88 => ⟨S_, .f32⟩
  | 89 => ⟨S16x1024x1024, .f32⟩
  | 90 => ⟨S16x1024x1024, .f32⟩
  | 91 => ⟨S16x64x1024, .f32⟩
  | 92 => ⟨S_, .f32⟩
  | 93 => ⟨S16x1024, .f32⟩
  | 94 => ⟨S16x1x1024, .f32⟩
  | 95 => ⟨S16x1x1024, .f32⟩
  | 96 => ⟨S16x1024x1024, .f32⟩
  | 97 => ⟨S16x1024x1024, .f32⟩
  | 98 => ⟨S16x1024x1, .f32⟩
  | 99 => ⟨S16x1024x1024, .f32⟩
  | 100 => ⟨S16x1024x1024, .f32⟩
  | 101 => ⟨S16x1024x20, .f32⟩
  | 102 => ⟨S16x1024x20, .i32⟩
  | 103 => ⟨S16x1024x64, .f32⟩
  | 104 => ⟨S16, .i32⟩
  | 105 => ⟨S16x1x1, .i32⟩
  | 106 => ⟨S_, .i32⟩
  | 107 => ⟨S16x1x1, .i32⟩
  | 108 => ⟨S16x1x1, .i1⟩
  | 109 => ⟨S_, .i32⟩
  | 110 => ⟨S16x1x1, .i32⟩
  | 111 => ⟨S16x1x1, .i32⟩
  | 112 => ⟨S16x1x1, .i32⟩
  | 113 => ⟨S_, .i32⟩
  | 114 => ⟨S16x1024x20, .i32⟩
  | 115 => ⟨S16x1024x20, .i1⟩
  | 116 => ⟨S_, .i32⟩
  | 117 => ⟨S16x1024x20, .i32⟩
  | 118 => ⟨S16x1024x20, .i32⟩
  | 119 => ⟨S16x1024x20, .i32⟩
  | 120 => ⟨S16x1024x20, .i32⟩
  | 121 => ⟨S16x1024x20x1, .i32⟩
  | 122 => ⟨S16x1024x20x1, .i32⟩
  | 123 => ⟨S16x1024x20x2, .i32⟩
  | 124 => ⟨S16x1024x20x64, .f32⟩
  | 125 => ⟨S16x1024x1x64, .f32⟩
  | 126 => ⟨S16x1024x20x64, .f32⟩
  | 127 => ⟨S16x1024x20x64, .f32⟩
  | _ => ⟨S16x3x1024, .f32⟩

abbrev hbmTy0_2 (i : Nat) : BufTy := match i % 128 with
  | 0 => ⟨S16x1024x20x128, .f32⟩
  | 1 => ⟨S16x128x1024x20, .f32⟩
  | 2 => ⟨S16x1024x20x128, .f32⟩
  | 3 => ⟨S16x128x1024x20, .f32⟩
  | 4 => ⟨S_, .f32⟩
  | 5 => ⟨S128, .f32⟩
  | 6 => ⟨S1x128x1x1, .f32⟩
  | 7 => ⟨S_, .f32⟩
  | 8 => ⟨S1x128x1x1, .f32⟩
  | 9 => ⟨S1x128x1x1, .f32⟩
  | 10 => ⟨S_, .i32⟩
  | 11 => ⟨S_, .f32⟩
  | 12 => ⟨S128, .f32⟩
  | 13 => ⟨S1x128x1x1, .f32⟩
  | 14 => ⟨S_, .f32⟩
  | 15 => ⟨S1x128x1x1, .f32⟩
  | 16 => ⟨S1x128x1x1, .f32⟩
  | 17 => ⟨S16x128x1024x20, .f32⟩
  | 18 => ⟨S16x128x1024x20, .f32⟩
  | 19 => ⟨S16x128x1024x20, .f32⟩
  | 20 => ⟨S_, .f32⟩
  | 21 => ⟨S_, .f32⟩
  | 22 => ⟨S_, .f32⟩
  | 23 => ⟨S_, .f32⟩
  | 24 => ⟨S128, .f32⟩
  | 25 => ⟨S1x128x1x1, .f32⟩
  | 26 => ⟨S1x128x1x1, .f32⟩
  | 27 => ⟨S1x128x1x1, .f32⟩
  | 28 => ⟨S_, .f32⟩
  | 29 => ⟨S_, .i1⟩
  | 30 => ⟨S_, .f32⟩
  | 31 => ⟨S_, .f32⟩
  | 32 => ⟨S1x128x1x1, .f32⟩
  | 33 => ⟨S1x128x1x1, .f32⟩
  | 34 => ⟨S16x128x1024x20, .f32⟩
  | 35 => ⟨S16x128x1024x20, .f32⟩
  | 36 => ⟨S_, .f32⟩
  | 37 => ⟨S1x128x1x1, .f32⟩
  | 38 => ⟨S1x128x1x1, .f32⟩
  | 39 => ⟨S1x128x1x1, .f32⟩
  | 40 => ⟨S16x128x1024x20, .f32⟩
  | 41 => ⟨S16x128x1024x20, .f32⟩
  | 42 => ⟨S1x128x1x1, .f32⟩
  | 43 => ⟨S16x128x1024x20, .f32⟩
  | 44 => ⟨S16x128x1024x20, .f32⟩
  | 45 => ⟨S1x128x1x1, .f32⟩
  | 46 => ⟨S16x128x1024x20, .f32⟩
  | 47 => ⟨S16x128x1024x20, .f32⟩
  | 48 => ⟨S_, .f32⟩
  | 49 => ⟨S16x128x1024x20, .f32⟩
  | 50 => ⟨S16x128x1024x20, .i1⟩
  | 51 => ⟨S_, .f32⟩
  | 52 => ⟨S16x128x1024x20, .f32⟩
  | 53 => ⟨S16x128x1024x20, .f32⟩
  | 54 => ⟨S16x128x1024x20, .f32⟩
  | 55 => ⟨S_, .f32⟩
  | 56 => ⟨S16x128x1024, .f32⟩
  | 57 => ⟨S16x1024x1024, .f32⟩
  | 58 => ⟨S_, .f32⟩
  | 59 => ⟨S16x1024x1024, .f32⟩
  | 60 => ⟨S16x1024x1024, .f32⟩
  | 61 => ⟨S16x128x1024, .f32⟩
  | 62 => ⟨S_, .f32⟩
  | 63 => ⟨S16x1024, .f32⟩
  | 64 => ⟨S16x1x1024, .f32⟩
  | 65 => ⟨S16x1x1024, .f32⟩
  | 66 => ⟨S16x1024x1024, .f32⟩
  | 67 => ⟨S16x1024x1024, .f32⟩
  | 68 => ⟨S16x1024x1, .f32⟩
  | 69 => ⟨S16x1024x1024, .f32⟩
  | 70 => ⟨S16x1024x1024, .f32⟩
  | 71 => ⟨S16x1024x20, .f32⟩
  | 72 => ⟨S16x1024x20, .i32⟩
  | 73 => ⟨S16x1024x128, .f32⟩
  | 74 => ⟨S16, .i32⟩
  | 75 => ⟨S16x1x1, .i32⟩
  | 76 => ⟨S_, .i32⟩
  | 77 => ⟨S16x1x1, .i32⟩
  | 78 => ⟨S16x1x1, .i1⟩
  | 79 => ⟨S_, .i32⟩
  | 80 => ⟨S16x1x1, .i32⟩
  | 81 => ⟨S16x1x1, .i32⟩
  | 82 => ⟨S16x1x1, .i32⟩
  | 83 => ⟨S_, .i32⟩
  | 84 => ⟨S16x1024x20, .i32⟩
  | 85 => ⟨S16x1024x20, .i1⟩
  | 86 => ⟨S_, .i32⟩
  | 87 => ⟨S16x1024x20, .i32⟩
  | 88 => ⟨S16x1024x20, .i32⟩
  | 89 => ⟨S16x1024x20, .i32⟩
  | 90 => ⟨S16x1024x20, .i32⟩
  | 91 => ⟨S16x1024x20x1, .i32⟩
  | 92 => ⟨S16x1024x20x1, .i32⟩
  | 93 => ⟨S16x1024x20x2, .i32⟩
  | 94 => ⟨S16x1024x20x128, .f32⟩
  | 95 => ⟨S16x1024x1x128, .f32⟩
  | 96 => ⟨S16x1024x20x128, .f32⟩
  | 97 => ⟨S16x1024x20x128, .f32⟩
  | 98 => ⟨S16x1024x20x256, .f32⟩
  | 99 => ⟨S16x256x1024x20, .f32⟩
  | 100 => ⟨S16x1024x20x256, .f32⟩
  | 101 => ⟨S16x256x1024x20, .f32⟩
  | 102 => ⟨S_, .f32⟩
  | 103 => ⟨S256, .f32⟩
  | 104 => ⟨S1x256x1x1, .f32⟩
  | 105 => ⟨S_, .f32⟩
  | 106 => ⟨S1x256x1x1, .f32⟩
  | 107 => ⟨S1x256x1x1, .f32⟩
  | 108 => ⟨S_, .i32⟩
  | 109 => ⟨S_, .f32⟩
  | 110 => ⟨S256, .f32⟩
  | 111 => ⟨S1x256x1x1, .f32⟩
  | 112 => ⟨S_, .f32⟩
  | 113 => ⟨S1x256x1x1, .f32⟩
  | 114 => ⟨S1x256x1x1, .f32⟩
  | 115 => ⟨S16x256x1024x20, .f32⟩
  | 116 => ⟨S16x256x1024x20, .f32⟩
  | 117 => ⟨S16x256x1024x20, .f32⟩
  | 118 => ⟨S_, .f32⟩
  | 119 => ⟨S_, .f32⟩
  | 120 => ⟨S_, .f32⟩
  | 121 => ⟨S_, .f32⟩
  | 122 => ⟨S256, .f32⟩
  | 123 => ⟨S1x256x1x1, .f32⟩
  | 124 => ⟨S1x256x1x1, .f32⟩
  | 125 => ⟨S1x256x1x1, .f32⟩
  | 126 => ⟨S_, .f32⟩
  | 127 => ⟨S_, .i1⟩
  | _ => ⟨S16x3x1024, .f32⟩

abbrev hbmTy0_3 (i : Nat) : BufTy := match i % 128 with
  | 0 => ⟨S_, .f32⟩
  | 1 => ⟨S_, .f32⟩
  | 2 => ⟨S1x256x1x1, .f32⟩
  | 3 => ⟨S1x256x1x1, .f32⟩
  | 4 => ⟨S16x256x1024x20, .f32⟩
  | 5 => ⟨S16x256x1024x20, .f32⟩
  | 6 => ⟨S_, .f32⟩
  | 7 => ⟨S1x256x1x1, .f32⟩
  | 8 => ⟨S1x256x1x1, .f32⟩
  | 9 => ⟨S1x256x1x1, .f32⟩
  | 10 => ⟨S16x256x1024x20, .f32⟩
  | 11 => ⟨S16x256x1024x20, .f32⟩
  | 12 => ⟨S1x256x1x1, .f32⟩
  | 13 => ⟨S16x256x1024x20, .f32⟩
  | 14 => ⟨S16x256x1024x20, .f32⟩
  | 15 => ⟨S1x256x1x1, .f32⟩
  | 16 => ⟨S16x256x1024x20, .f32⟩
  | 17 => ⟨S16x256x1024x20, .f32⟩
  | 18 => ⟨S_, .f32⟩
  | 19 => ⟨S16x256x1024x20, .f32⟩
  | 20 => ⟨S16x256x1024x20, .i1⟩
  | 21 => ⟨S_, .f32⟩
  | 22 => ⟨S16x256x1024x20, .f32⟩
  | 23 => ⟨S16x256x1024x20, .f32⟩
  | 24 => ⟨S16x256x1024x20, .f32⟩
  | 25 => ⟨S_, .f32⟩
  | 26 => ⟨S16x256x1024, .f32⟩
  | 27 => ⟨S16x512x1024, .f32⟩
  | 28 => ⟨S16x1024x1024, .f32⟩
  | 29 => ⟨S16x1024x1024, .f32⟩
  | 30 => ⟨S_, .f32⟩
  | 31 => ⟨S1024, .f32⟩
  | 32 => ⟨S1x1024x1, .f32⟩
  | 33 => ⟨S_, .f32⟩
  | 34 => ⟨S1x1024x1, .f32⟩
  | 35 => ⟨S1x1024x1, .f32⟩
  | 36 => ⟨S_, .i32⟩
  | 37 => ⟨S_, .f32⟩
  | 38 => ⟨S1024, .f32⟩
  | 39 => ⟨S1x1024x1, .f32⟩
  | 40 => ⟨S_, .f32⟩
  | 41 => ⟨S1x1024x1, .f32⟩
  | 42 => ⟨S1x1024x1, .f32⟩
  | 43 => ⟨S16x1024x1024, .f32⟩
  | 44 => ⟨S16x1024x1024, .f32⟩
  | 45 => ⟨S16x1024x1024, .f32⟩
  | 46 => ⟨S_, .f32⟩
  | 47 => ⟨S_, .f32⟩
  | 48 => ⟨S_, .f32⟩
  | 49 => ⟨S_, .f32⟩
  | 50 => ⟨S1024, .f32⟩
  | 51 => ⟨S1x1024x1, .f32⟩
  | 52 => ⟨S1x1024x1, .f32⟩
  | 53 => ⟨S1x1024x1, .f32⟩
  | 54 => ⟨S_, .f32⟩
  | 55 => ⟨S_, .i1⟩
  | 56 => ⟨S_, .f32⟩
  | 57 => ⟨S_, .f32⟩
  | 58 => ⟨S1x1024x1, .f32⟩
  | 59 => ⟨S1x1024x1, .f32⟩
  | 60 => ⟨S16x1024x1024, .f32⟩
  | 61 => ⟨S16x1024x1024, .f32⟩
  | 62 => ⟨S_, .f32⟩
  | 63 => ⟨S1x1024x1, .f32⟩
  | 64 => ⟨S1x1024x1, .f32⟩
  | 65 => ⟨S1x1024x1, .f32⟩
  | 66 => ⟨S16x1024x1024, .f32⟩
  | 67 => ⟨S16x1024x1024, .f32⟩
  | 68 => ⟨S1x1024x1, .f32⟩
  | 69 => ⟨S16x1024x1024, .f32⟩
  | 70 => ⟨S16x1024x1024, .f32⟩
  | 71 => ⟨S1x1024x1, .f32⟩
  | 72 => ⟨S16x1024x1024, .f32⟩
  | 73 => ⟨S16x1024x1024, .f32⟩
  | 74 => ⟨S_, .f32⟩
  | 75 => ⟨S16x1024x1024, .f32⟩
  | 76 => ⟨S16x1024x1024, .i1⟩
  | 77 => ⟨S_, .f32⟩
  | 78 => ⟨S16x1024x1024, .f32⟩
  | 79 => ⟨S16x1024x1024, .f32⟩
  | 80 => ⟨S16x1024x1024, .f32⟩
  | 81 => ⟨S_, .f32⟩
  | 82 => ⟨S16x1024, .f32⟩
  | 83 => ⟨S_, .f32⟩
  | 84 => ⟨S16x1024, .f32⟩
  | 85 => ⟨S_, .f32⟩
  | 86 => ⟨S16x1024, .f32⟩
  | 87 => ⟨S16x1024, .f32⟩
  | 88 => ⟨S16x2048, .f32⟩
  | 89 => ⟨S2048x256, .f32⟩
  | 90 => ⟨S16x256, .f32⟩
  | 91 => ⟨S_, .f32⟩
  | 92 => ⟨S256, .f32⟩
  | 93 => ⟨S1x256, .f32⟩
  | 94 => ⟨S_, .f32⟩
  | 95 => ⟨S1x256, .f32⟩
  | 96 => ⟨S1x256, .f32⟩
  | 97 => ⟨S_, .i32⟩
  | 98 => ⟨S_, .f32⟩
  | 99 => ⟨S256, .f32⟩
  | 100 => ⟨S1x256, .f32⟩
  | 101 => ⟨S_, .f32⟩
  | 102 => ⟨S1x256, .f32⟩
  | 103 => ⟨S1x256, .f32⟩
  | 104 => ⟨S16x256, .f32⟩
  | 105 => ⟨S16x256, .f32⟩
  | 106 => ⟨S16x256, .f32⟩
  | 107 => ⟨S_, .f32⟩
  | 108 => ⟨S_, .f32⟩
  | 109 => ⟨S_, .f32⟩
  | 110 => ⟨S_, .f32⟩
  | 111 => ⟨S256, .f32⟩
  | 112 => ⟨S1x256, .f32⟩
  | 113 => ⟨S1x256, .f32⟩
  | 114 => ⟨S1x256, .f32⟩
  | 115 => ⟨S_, .f32⟩
  | 116 => ⟨S_, .i1⟩
  | 117 => ⟨S_, .f32⟩
  | 118 => ⟨S_, .f32⟩
  | 119 => ⟨S1x256, .f32⟩
  | 120 => ⟨S1x256, .f32⟩
  | 121 => ⟨S16x256, .f32⟩
  | 122 => ⟨S16x256, .f32⟩
  | 123 => ⟨S_, .f32⟩
  | 124 => ⟨S1x256, .f32⟩
  | 125 => ⟨S1x256, .f32⟩
  | 126 => ⟨S1x256, .f32⟩
  | 127 => ⟨S16x256, .f32⟩
  | _ => ⟨S16x3x1024, .f32⟩

abbrev hbmTy0_4 (i : Nat) : BufTy := match i % 128 with
  | 0 => ⟨S16x256, .f32⟩
  | 1 => ⟨S1x256, .f32⟩
  | 2 => ⟨S16x256, .f32⟩
  | 3 => ⟨S16x256, .f32⟩
  | 4 => ⟨S1x256, .f32⟩
  | 5 => ⟨S16x256, .f32⟩
  | 6 => ⟨S16x256, .f32⟩
  | _ => ⟨S16x3x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S16x3x1024, .f32⟩

abbrev bufTy : (tb : Table) → Fin (tcTables nBuf tb) → BufTy
  | .hbm, ⟨i, _⟩ => hbmTy i
  | _, _ => ⟨S16x3x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_cst : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_cst_0 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_values : Ref sig .tc := ⟨.hbm, 33, rfl⟩
abbrev main_indices : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_c : Ref sig .tc := ⟨.hbm, 38, rfl⟩
abbrev main_v15 : Ref sig .tc := ⟨.hbm, 39, rfl⟩
abbrev main_v16 : Ref sig .tc := ⟨.hbm, 40, rfl⟩
abbrev main_c_1 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_c_2 : Ref sig .tc := ⟨.hbm, 45, rfl⟩
abbrev main_v20 : Ref sig .tc := ⟨.hbm, 46, rfl⟩
abbrev main_v21 : Ref sig .tc := ⟨.hbm, 47, rfl⟩
abbrev main_c_3 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_4 : Ref sig .tc := ⟨.hbm, 64, rfl⟩
abbrev main_v37 : Ref sig .tc := ⟨.hbm, 65, rfl⟩
abbrev main_v38 : Ref sig .tc := ⟨.hbm, 66, rfl⟩
abbrev main_cst_5 : Ref sig .tc := ⟨.hbm, 67, rfl⟩
abbrev main_v39 : Ref sig .tc := ⟨.hbm, 68, rfl⟩
abbrev main_v40 : Ref sig .tc := ⟨.hbm, 69, rfl⟩
abbrev main_c_6 : Ref sig .tc := ⟨.hbm, 70, rfl⟩
abbrev main_call0_cst : Ref sig .tc := ⟨.hbm, 71, rfl⟩
abbrev main_call0_v0 : Ref sig .tc := ⟨.hbm, 72, rfl⟩
abbrev main_call0_v1 : Ref sig .tc := ⟨.hbm, 73, rfl⟩
abbrev main_call0_cst_0 : Ref sig .tc := ⟨.hbm, 74, rfl⟩
abbrev main_call0_v2 : Ref sig .tc := ⟨.hbm, 75, rfl⟩
abbrev main_call0_v3 : Ref sig .tc := ⟨.hbm, 76, rfl⟩
abbrev main_call0_v4 : Ref sig .tc := ⟨.hbm, 77, rfl⟩
abbrev main_call0_v5 : Ref sig .tc := ⟨.hbm, 78, rfl⟩
abbrev main_call0_v6 : Ref sig .tc := ⟨.hbm, 79, rfl⟩
abbrev main_call0_v7 : Ref sig .tc := ⟨.hbm, 80, rfl⟩
abbrev main_call0_cst_1 : Ref sig .tc := ⟨.hbm, 81, rfl⟩
abbrev main_call0_v8 : Ref sig .tc := ⟨.hbm, 82, rfl⟩
abbrev main_call0_cst_2 : Ref sig .tc := ⟨.hbm, 83, rfl⟩
abbrev main_call0_v9 : Ref sig .tc := ⟨.hbm, 84, rfl⟩
abbrev main_call0_v10 : Ref sig .tc := ⟨.hbm, 85, rfl⟩
abbrev main_call0_v11 : Ref sig .tc := ⟨.hbm, 86, rfl⟩
abbrev main_call0_v12 : Ref sig .tc := ⟨.hbm, 87, rfl⟩
abbrev main_call0_cst_3 : Ref sig .tc := ⟨.hbm, 88, rfl⟩
abbrev main_call0_v13 : Ref sig .tc := ⟨.hbm, 89, rfl⟩
abbrev main_call0_cst_4 : Ref sig .tc := ⟨.hbm, 90, rfl⟩
abbrev main_call0_call0_v0 : Ref sig .tc := ⟨.hbm, 91, rfl⟩
abbrev main_call0_call0_v1 : Ref sig .tc := ⟨.hbm, 92, rfl⟩
abbrev main_v41 : Ref sig .tc := ⟨.hbm, 93, rfl⟩
abbrev main_v42 : Ref sig .tc := ⟨.hbm, 94, rfl⟩
abbrev main_v43 : Ref sig .tc := ⟨.hbm, 95, rfl⟩
abbrev main_cst_7 : Ref sig .tc := ⟨.hbm, 96, rfl⟩
abbrev main_v44 : Ref sig .tc := ⟨.hbm, 97, rfl⟩
abbrev main_v45 : Ref sig .tc := ⟨.hbm, 98, rfl⟩
abbrev main_v46 : Ref sig .tc := ⟨.hbm, 99, rfl⟩
abbrev main_v47 : Ref sig .tc := ⟨.hbm, 100, rfl⟩
abbrev main_v48 : Ref sig .tc := ⟨.hbm, 101, rfl⟩
abbrev main_v49 : Ref sig .tc := ⟨.hbm, 102, rfl⟩
abbrev main_v50 : Ref sig .tc := ⟨.hbm, 103, rfl⟩
abbrev main_v51 : Ref sig .tc := ⟨.hbm, 104, rfl⟩
abbrev main_v52 : Ref sig .tc := ⟨.hbm, 105, rfl⟩
abbrev main_v53 : Ref sig .tc := ⟨.hbm, 106, rfl⟩
abbrev main_v54 : Ref sig .tc := ⟨.hbm, 107, rfl⟩
abbrev main_cst_8 : Ref sig .tc := ⟨.hbm, 108, rfl⟩
abbrev main_v55 : Ref sig .tc := ⟨.hbm, 109, rfl⟩
abbrev main_v56 : Ref sig .tc := ⟨.hbm, 110, rfl⟩
abbrev main_cst_9 : Ref sig .tc := ⟨.hbm, 111, rfl⟩
abbrev main_v57 : Ref sig .tc := ⟨.hbm, 112, rfl⟩
abbrev main_v58 : Ref sig .tc := ⟨.hbm, 113, rfl⟩
abbrev main_v59 : Ref sig .tc := ⟨.hbm, 114, rfl⟩
abbrev main_cst_10 : Ref sig .tc := ⟨.hbm, 115, rfl⟩
abbrev main_v60 : Ref sig .tc := ⟨.hbm, 116, rfl⟩
abbrev main_v61 : Ref sig .tc := ⟨.hbm, 117, rfl⟩
abbrev main_cst_11 : Ref sig .tc := ⟨.hbm, 118, rfl⟩
abbrev main_v62 : Ref sig .tc := ⟨.hbm, 119, rfl⟩
abbrev main_v63 : Ref sig .tc := ⟨.hbm, 120, rfl⟩
abbrev main_v64 : Ref sig .tc := ⟨.hbm, 121, rfl⟩
abbrev main_cst_12 : Ref sig .tc := ⟨.hbm, 122, rfl⟩
abbrev main_v65 : Ref sig .tc := ⟨.hbm, 123, rfl⟩
abbrev main_v66 : Ref sig .tc := ⟨.hbm, 124, rfl⟩
abbrev main_v67 : Ref sig .tc := ⟨.hbm, 125, rfl⟩
abbrev main_v68 : Ref sig .tc := ⟨.hbm, 126, rfl⟩
abbrev main_v69 : Ref sig .tc := ⟨.hbm, 127, rfl⟩
abbrev main_v70 : Ref sig .tc := ⟨.hbm, 128, rfl⟩
abbrev main_v71 : Ref sig .tc := ⟨.hbm, 129, rfl⟩
abbrev main_v72 : Ref sig .tc := ⟨.hbm, 130, rfl⟩
abbrev main_values_13 : Ref sig .tc := ⟨.hbm, 131, rfl⟩
abbrev main_indices_14 : Ref sig .tc := ⟨.hbm, 132, rfl⟩
abbrev main_v73 : Ref sig .tc := ⟨.hbm, 133, rfl⟩
abbrev main_v74 : Ref sig .tc := ⟨.hbm, 134, rfl⟩
abbrev main_v75 : Ref sig .tc := ⟨.hbm, 135, rfl⟩
abbrev main_c_15 : Ref sig .tc := ⟨.hbm, 136, rfl⟩
abbrev main_v76 : Ref sig .tc := ⟨.hbm, 137, rfl⟩
abbrev main_v77 : Ref sig .tc := ⟨.hbm, 138, rfl⟩
abbrev main_c_16 : Ref sig .tc := ⟨.hbm, 139, rfl⟩
abbrev main_v78 : Ref sig .tc := ⟨.hbm, 140, rfl⟩
abbrev main_v79 : Ref sig .tc := ⟨.hbm, 141, rfl⟩
abbrev main_v80 : Ref sig .tc := ⟨.hbm, 142, rfl⟩
abbrev main_c_17 : Ref sig .tc := ⟨.hbm, 143, rfl⟩
abbrev main_v81 : Ref sig .tc := ⟨.hbm, 144, rfl⟩
abbrev main_v82 : Ref sig .tc := ⟨.hbm, 145, rfl⟩
abbrev main_c_18 : Ref sig .tc := ⟨.hbm, 146, rfl⟩
abbrev main_v83 : Ref sig .tc := ⟨.hbm, 147, rfl⟩
abbrev main_v84 : Ref sig .tc := ⟨.hbm, 148, rfl⟩
abbrev main_v85 : Ref sig .tc := ⟨.hbm, 149, rfl⟩
abbrev main_v86 : Ref sig .tc := ⟨.hbm, 150, rfl⟩
abbrev main_v87 : Ref sig .tc := ⟨.hbm, 151, rfl⟩
abbrev main_v88 : Ref sig .tc := ⟨.hbm, 152, rfl⟩
abbrev main_v89 : Ref sig .tc := ⟨.hbm, 153, rfl⟩
abbrev main_v90 : Ref sig .tc := ⟨.hbm, 154, rfl⟩
abbrev main_v91 : Ref sig .tc := ⟨.hbm, 155, rfl⟩
abbrev main_v92 : Ref sig .tc := ⟨.hbm, 156, rfl⟩
abbrev main_v93 : Ref sig .tc := ⟨.hbm, 157, rfl⟩
abbrev main_v94 : Ref sig .tc := ⟨.hbm, 158, rfl⟩
abbrev main_v95 : Ref sig .tc := ⟨.hbm, 159, rfl⟩
abbrev main_v96 : Ref sig .tc := ⟨.hbm, 160, rfl⟩
abbrev main_v97 : Ref sig .tc := ⟨.hbm, 161, rfl⟩
abbrev main_cst_19 : Ref sig .tc := ⟨.hbm, 162, rfl⟩
abbrev main_v98 : Ref sig .tc := ⟨.hbm, 163, rfl⟩
abbrev main_v99 : Ref sig .tc := ⟨.hbm, 164, rfl⟩
abbrev main_cst_20 : Ref sig .tc := ⟨.hbm, 165, rfl⟩
abbrev main_v100 : Ref sig .tc := ⟨.hbm, 166, rfl⟩
abbrev main_v101 : Ref sig .tc := ⟨.hbm, 167, rfl⟩
abbrev main_c_21 : Ref sig .tc := ⟨.hbm, 168, rfl⟩
abbrev main_call2_cst : Ref sig .tc := ⟨.hbm, 169, rfl⟩
abbrev main_call2_v0 : Ref sig .tc := ⟨.hbm, 170, rfl⟩
abbrev main_call2_v1 : Ref sig .tc := ⟨.hbm, 171, rfl⟩
abbrev main_call2_cst_0 : Ref sig .tc := ⟨.hbm, 172, rfl⟩
abbrev main_call2_v2 : Ref sig .tc := ⟨.hbm, 173, rfl⟩
abbrev main_call2_v3 : Ref sig .tc := ⟨.hbm, 174, rfl⟩
abbrev main_call2_v4 : Ref sig .tc := ⟨.hbm, 175, rfl⟩
abbrev main_call2_v5 : Ref sig .tc := ⟨.hbm, 176, rfl⟩
abbrev main_call2_v6 : Ref sig .tc := ⟨.hbm, 177, rfl⟩
abbrev main_call2_v7 : Ref sig .tc := ⟨.hbm, 178, rfl⟩
abbrev main_call2_cst_1 : Ref sig .tc := ⟨.hbm, 179, rfl⟩
abbrev main_call2_v8 : Ref sig .tc := ⟨.hbm, 180, rfl⟩
abbrev main_call2_cst_2 : Ref sig .tc := ⟨.hbm, 181, rfl⟩
abbrev main_call2_v9 : Ref sig .tc := ⟨.hbm, 182, rfl⟩
abbrev main_call2_v10 : Ref sig .tc := ⟨.hbm, 183, rfl⟩
abbrev main_call2_v11 : Ref sig .tc := ⟨.hbm, 184, rfl⟩
abbrev main_call2_v12 : Ref sig .tc := ⟨.hbm, 185, rfl⟩
abbrev main_call2_cst_3 : Ref sig .tc := ⟨.hbm, 186, rfl⟩
abbrev main_call2_v13 : Ref sig .tc := ⟨.hbm, 187, rfl⟩
abbrev main_call2_cst_4 : Ref sig .tc := ⟨.hbm, 188, rfl⟩
abbrev main_call2_call0_v0 : Ref sig .tc := ⟨.hbm, 189, rfl⟩
abbrev main_call2_call0_v1 : Ref sig .tc := ⟨.hbm, 190, rfl⟩
abbrev main_v102 : Ref sig .tc := ⟨.hbm, 191, rfl⟩
abbrev main_v103 : Ref sig .tc := ⟨.hbm, 192, rfl⟩
abbrev main_v104 : Ref sig .tc := ⟨.hbm, 193, rfl⟩
abbrev main_cst_22 : Ref sig .tc := ⟨.hbm, 194, rfl⟩
abbrev main_v105 : Ref sig .tc := ⟨.hbm, 195, rfl⟩
abbrev main_v106 : Ref sig .tc := ⟨.hbm, 196, rfl⟩
abbrev main_v107 : Ref sig .tc := ⟨.hbm, 197, rfl⟩
abbrev main_v108 : Ref sig .tc := ⟨.hbm, 198, rfl⟩
abbrev main_v109 : Ref sig .tc := ⟨.hbm, 199, rfl⟩
abbrev main_v110 : Ref sig .tc := ⟨.hbm, 200, rfl⟩
abbrev main_v111 : Ref sig .tc := ⟨.hbm, 201, rfl⟩
abbrev main_v112 : Ref sig .tc := ⟨.hbm, 202, rfl⟩
abbrev main_v113 : Ref sig .tc := ⟨.hbm, 203, rfl⟩
abbrev main_v114 : Ref sig .tc := ⟨.hbm, 204, rfl⟩
abbrev main_v115 : Ref sig .tc := ⟨.hbm, 205, rfl⟩
abbrev main_cst_23 : Ref sig .tc := ⟨.hbm, 206, rfl⟩
abbrev main_v116 : Ref sig .tc := ⟨.hbm, 207, rfl⟩
abbrev main_v117 : Ref sig .tc := ⟨.hbm, 208, rfl⟩
abbrev main_cst_24 : Ref sig .tc := ⟨.hbm, 209, rfl⟩
abbrev main_v118 : Ref sig .tc := ⟨.hbm, 210, rfl⟩
abbrev main_v119 : Ref sig .tc := ⟨.hbm, 211, rfl⟩
abbrev main_v120 : Ref sig .tc := ⟨.hbm, 212, rfl⟩
abbrev main_cst_25 : Ref sig .tc := ⟨.hbm, 213, rfl⟩
abbrev main_v121 : Ref sig .tc := ⟨.hbm, 214, rfl⟩
abbrev main_v122 : Ref sig .tc := ⟨.hbm, 215, rfl⟩
abbrev main_cst_26 : Ref sig .tc := ⟨.hbm, 216, rfl⟩
abbrev main_v123 : Ref sig .tc := ⟨.hbm, 217, rfl⟩
abbrev main_v124 : Ref sig .tc := ⟨.hbm, 218, rfl⟩
abbrev main_v125 : Ref sig .tc := ⟨.hbm, 219, rfl⟩
abbrev main_cst_27 : Ref sig .tc := ⟨.hbm, 220, rfl⟩
abbrev main_v126 : Ref sig .tc := ⟨.hbm, 221, rfl⟩
abbrev main_v127 : Ref sig .tc := ⟨.hbm, 222, rfl⟩
abbrev main_v128 : Ref sig .tc := ⟨.hbm, 223, rfl⟩
abbrev main_v129 : Ref sig .tc := ⟨.hbm, 224, rfl⟩
abbrev main_v130 : Ref sig .tc := ⟨.hbm, 225, rfl⟩
abbrev main_v131 : Ref sig .tc := ⟨.hbm, 226, rfl⟩
abbrev main_v132 : Ref sig .tc := ⟨.hbm, 227, rfl⟩
abbrev main_v133 : Ref sig .tc := ⟨.hbm, 228, rfl⟩
abbrev main_values_28 : Ref sig .tc := ⟨.hbm, 229, rfl⟩
abbrev main_indices_29 : Ref sig .tc := ⟨.hbm, 230, rfl⟩
abbrev main_v134 : Ref sig .tc := ⟨.hbm, 231, rfl⟩
abbrev main_v135 : Ref sig .tc := ⟨.hbm, 232, rfl⟩
abbrev main_v136 : Ref sig .tc := ⟨.hbm, 233, rfl⟩
abbrev main_c_30 : Ref sig .tc := ⟨.hbm, 234, rfl⟩
abbrev main_v137 : Ref sig .tc := ⟨.hbm, 235, rfl⟩
abbrev main_v138 : Ref sig .tc := ⟨.hbm, 236, rfl⟩
abbrev main_c_31 : Ref sig .tc := ⟨.hbm, 237, rfl⟩
abbrev main_v139 : Ref sig .tc := ⟨.hbm, 238, rfl⟩
abbrev main_v140 : Ref sig .tc := ⟨.hbm, 239, rfl⟩
abbrev main_v141 : Ref sig .tc := ⟨.hbm, 240, rfl⟩
abbrev main_c_32 : Ref sig .tc := ⟨.hbm, 241, rfl⟩
abbrev main_v142 : Ref sig .tc := ⟨.hbm, 242, rfl⟩
abbrev main_v143 : Ref sig .tc := ⟨.hbm, 243, rfl⟩
abbrev main_c_33 : Ref sig .tc := ⟨.hbm, 244, rfl⟩
abbrev main_v144 : Ref sig .tc := ⟨.hbm, 245, rfl⟩
abbrev main_v145 : Ref sig .tc := ⟨.hbm, 246, rfl⟩
abbrev main_v146 : Ref sig .tc := ⟨.hbm, 247, rfl⟩
abbrev main_v147 : Ref sig .tc := ⟨.hbm, 248, rfl⟩
abbrev main_v148 : Ref sig .tc := ⟨.hbm, 249, rfl⟩
abbrev main_v149 : Ref sig .tc := ⟨.hbm, 250, rfl⟩
abbrev main_v150 : Ref sig .tc := ⟨.hbm, 251, rfl⟩
abbrev main_v151 : Ref sig .tc := ⟨.hbm, 252, rfl⟩
abbrev main_v152 : Ref sig .tc := ⟨.hbm, 253, rfl⟩
abbrev main_v153 : Ref sig .tc := ⟨.hbm, 254, rfl⟩
abbrev main_v154 : Ref sig .tc := ⟨.hbm, 255, rfl⟩
abbrev main_v155 : Ref sig .tc := ⟨.hbm, 256, rfl⟩
abbrev main_v156 : Ref sig .tc := ⟨.hbm, 257, rfl⟩
abbrev main_v157 : Ref sig .tc := ⟨.hbm, 258, rfl⟩
abbrev main_v158 : Ref sig .tc := ⟨.hbm, 259, rfl⟩
abbrev main_cst_34 : Ref sig .tc := ⟨.hbm, 260, rfl⟩
abbrev main_v159 : Ref sig .tc := ⟨.hbm, 261, rfl⟩
abbrev main_v160 : Ref sig .tc := ⟨.hbm, 262, rfl⟩
abbrev main_cst_35 : Ref sig .tc := ⟨.hbm, 263, rfl⟩
abbrev main_v161 : Ref sig .tc := ⟨.hbm, 264, rfl⟩
abbrev main_v162 : Ref sig .tc := ⟨.hbm, 265, rfl⟩
abbrev main_c_36 : Ref sig .tc := ⟨.hbm, 266, rfl⟩
abbrev main_call4_cst : Ref sig .tc := ⟨.hbm, 267, rfl⟩
abbrev main_call4_v0 : Ref sig .tc := ⟨.hbm, 268, rfl⟩
abbrev main_call4_v1 : Ref sig .tc := ⟨.hbm, 269, rfl⟩
abbrev main_call4_cst_0 : Ref sig .tc := ⟨.hbm, 270, rfl⟩
abbrev main_call4_v2 : Ref sig .tc := ⟨.hbm, 271, rfl⟩
abbrev main_call4_v3 : Ref sig .tc := ⟨.hbm, 272, rfl⟩
abbrev main_call4_v4 : Ref sig .tc := ⟨.hbm, 273, rfl⟩
abbrev main_call4_v5 : Ref sig .tc := ⟨.hbm, 274, rfl⟩
abbrev main_call4_v6 : Ref sig .tc := ⟨.hbm, 275, rfl⟩
abbrev main_call4_v7 : Ref sig .tc := ⟨.hbm, 276, rfl⟩
abbrev main_call4_cst_1 : Ref sig .tc := ⟨.hbm, 277, rfl⟩
abbrev main_call4_v8 : Ref sig .tc := ⟨.hbm, 278, rfl⟩
abbrev main_call4_cst_2 : Ref sig .tc := ⟨.hbm, 279, rfl⟩
abbrev main_call4_v9 : Ref sig .tc := ⟨.hbm, 280, rfl⟩
abbrev main_call4_v10 : Ref sig .tc := ⟨.hbm, 281, rfl⟩
abbrev main_call4_v11 : Ref sig .tc := ⟨.hbm, 282, rfl⟩
abbrev main_call4_v12 : Ref sig .tc := ⟨.hbm, 283, rfl⟩
abbrev main_call4_cst_3 : Ref sig .tc := ⟨.hbm, 284, rfl⟩
abbrev main_call4_v13 : Ref sig .tc := ⟨.hbm, 285, rfl⟩
abbrev main_call4_cst_4 : Ref sig .tc := ⟨.hbm, 286, rfl⟩
abbrev main_call4_call0_v0 : Ref sig .tc := ⟨.hbm, 287, rfl⟩
abbrev main_call4_call0_v1 : Ref sig .tc := ⟨.hbm, 288, rfl⟩
abbrev main_v163 : Ref sig .tc := ⟨.hbm, 289, rfl⟩
abbrev main_v164 : Ref sig .tc := ⟨.hbm, 290, rfl⟩
abbrev main_v165 : Ref sig .tc := ⟨.hbm, 291, rfl⟩
abbrev main_cst_37 : Ref sig .tc := ⟨.hbm, 292, rfl⟩
abbrev main_v166 : Ref sig .tc := ⟨.hbm, 293, rfl⟩
abbrev main_v167 : Ref sig .tc := ⟨.hbm, 294, rfl⟩
abbrev main_v168 : Ref sig .tc := ⟨.hbm, 295, rfl⟩
abbrev main_v169 : Ref sig .tc := ⟨.hbm, 296, rfl⟩
abbrev main_v170 : Ref sig .tc := ⟨.hbm, 297, rfl⟩
abbrev main_v171 : Ref sig .tc := ⟨.hbm, 298, rfl⟩
abbrev main_v172 : Ref sig .tc := ⟨.hbm, 299, rfl⟩
abbrev main_v173 : Ref sig .tc := ⟨.hbm, 300, rfl⟩
abbrev main_v174 : Ref sig .tc := ⟨.hbm, 301, rfl⟩
abbrev main_v175 : Ref sig .tc := ⟨.hbm, 302, rfl⟩
abbrev main_v176 : Ref sig .tc := ⟨.hbm, 303, rfl⟩
abbrev main_cst_38 : Ref sig .tc := ⟨.hbm, 304, rfl⟩
abbrev main_v177 : Ref sig .tc := ⟨.hbm, 305, rfl⟩
abbrev main_v178 : Ref sig .tc := ⟨.hbm, 306, rfl⟩
abbrev main_cst_39 : Ref sig .tc := ⟨.hbm, 307, rfl⟩
abbrev main_v179 : Ref sig .tc := ⟨.hbm, 308, rfl⟩
abbrev main_v180 : Ref sig .tc := ⟨.hbm, 309, rfl⟩
abbrev main_v181 : Ref sig .tc := ⟨.hbm, 310, rfl⟩
abbrev main_cst_40 : Ref sig .tc := ⟨.hbm, 311, rfl⟩
abbrev main_v182 : Ref sig .tc := ⟨.hbm, 312, rfl⟩
abbrev main_v183 : Ref sig .tc := ⟨.hbm, 313, rfl⟩
abbrev main_cst_41 : Ref sig .tc := ⟨.hbm, 314, rfl⟩
abbrev main_v184 : Ref sig .tc := ⟨.hbm, 315, rfl⟩
abbrev main_v185 : Ref sig .tc := ⟨.hbm, 316, rfl⟩
abbrev main_v186 : Ref sig .tc := ⟨.hbm, 317, rfl⟩
abbrev main_cst_42 : Ref sig .tc := ⟨.hbm, 318, rfl⟩
abbrev main_v187 : Ref sig .tc := ⟨.hbm, 319, rfl⟩
abbrev main_v188 : Ref sig .tc := ⟨.hbm, 320, rfl⟩
abbrev main_v189 : Ref sig .tc := ⟨.hbm, 321, rfl⟩
abbrev main_v190 : Ref sig .tc := ⟨.hbm, 322, rfl⟩
abbrev main_v191 : Ref sig .tc := ⟨.hbm, 323, rfl⟩
abbrev main_v192 : Ref sig .tc := ⟨.hbm, 324, rfl⟩
abbrev main_v193 : Ref sig .tc := ⟨.hbm, 325, rfl⟩
abbrev main_v194 : Ref sig .tc := ⟨.hbm, 326, rfl⟩
abbrev main_values_43 : Ref sig .tc := ⟨.hbm, 327, rfl⟩
abbrev main_indices_44 : Ref sig .tc := ⟨.hbm, 328, rfl⟩
abbrev main_v195 : Ref sig .tc := ⟨.hbm, 329, rfl⟩
abbrev main_v196 : Ref sig .tc := ⟨.hbm, 330, rfl⟩
abbrev main_v197 : Ref sig .tc := ⟨.hbm, 331, rfl⟩
abbrev main_c_45 : Ref sig .tc := ⟨.hbm, 332, rfl⟩
abbrev main_v198 : Ref sig .tc := ⟨.hbm, 333, rfl⟩
abbrev main_v199 : Ref sig .tc := ⟨.hbm, 334, rfl⟩
abbrev main_c_46 : Ref sig .tc := ⟨.hbm, 335, rfl⟩
abbrev main_v200 : Ref sig .tc := ⟨.hbm, 336, rfl⟩
abbrev main_v201 : Ref sig .tc := ⟨.hbm, 337, rfl⟩
abbrev main_v202 : Ref sig .tc := ⟨.hbm, 338, rfl⟩
abbrev main_c_47 : Ref sig .tc := ⟨.hbm, 339, rfl⟩
abbrev main_v203 : Ref sig .tc := ⟨.hbm, 340, rfl⟩
abbrev main_v204 : Ref sig .tc := ⟨.hbm, 341, rfl⟩
abbrev main_c_48 : Ref sig .tc := ⟨.hbm, 342, rfl⟩
abbrev main_v205 : Ref sig .tc := ⟨.hbm, 343, rfl⟩
abbrev main_v206 : Ref sig .tc := ⟨.hbm, 344, rfl⟩
abbrev main_v207 : Ref sig .tc := ⟨.hbm, 345, rfl⟩
abbrev main_v208 : Ref sig .tc := ⟨.hbm, 346, rfl⟩
abbrev main_v209 : Ref sig .tc := ⟨.hbm, 347, rfl⟩
abbrev main_v210 : Ref sig .tc := ⟨.hbm, 348, rfl⟩
abbrev main_v211 : Ref sig .tc := ⟨.hbm, 349, rfl⟩
abbrev main_v212 : Ref sig .tc := ⟨.hbm, 350, rfl⟩
abbrev main_v213 : Ref sig .tc := ⟨.hbm, 351, rfl⟩
abbrev main_v214 : Ref sig .tc := ⟨.hbm, 352, rfl⟩
abbrev main_v215 : Ref sig .tc := ⟨.hbm, 353, rfl⟩
abbrev main_v216 : Ref sig .tc := ⟨.hbm, 354, rfl⟩
abbrev main_v217 : Ref sig .tc := ⟨.hbm, 355, rfl⟩
abbrev main_v218 : Ref sig .tc := ⟨.hbm, 356, rfl⟩
abbrev main_v219 : Ref sig .tc := ⟨.hbm, 357, rfl⟩
abbrev main_cst_49 : Ref sig .tc := ⟨.hbm, 358, rfl⟩
abbrev main_v220 : Ref sig .tc := ⟨.hbm, 359, rfl⟩
abbrev main_v221 : Ref sig .tc := ⟨.hbm, 360, rfl⟩
abbrev main_cst_50 : Ref sig .tc := ⟨.hbm, 361, rfl⟩
abbrev main_v222 : Ref sig .tc := ⟨.hbm, 362, rfl⟩
abbrev main_v223 : Ref sig .tc := ⟨.hbm, 363, rfl⟩
abbrev main_c_51 : Ref sig .tc := ⟨.hbm, 364, rfl⟩
abbrev main_call6_cst : Ref sig .tc := ⟨.hbm, 365, rfl⟩
abbrev main_call6_v0 : Ref sig .tc := ⟨.hbm, 366, rfl⟩
abbrev main_call6_v1 : Ref sig .tc := ⟨.hbm, 367, rfl⟩
abbrev main_call6_cst_0 : Ref sig .tc := ⟨.hbm, 368, rfl⟩
abbrev main_call6_v2 : Ref sig .tc := ⟨.hbm, 369, rfl⟩
abbrev main_call6_v3 : Ref sig .tc := ⟨.hbm, 370, rfl⟩
abbrev main_call6_v4 : Ref sig .tc := ⟨.hbm, 371, rfl⟩
abbrev main_call6_v5 : Ref sig .tc := ⟨.hbm, 372, rfl⟩
abbrev main_call6_v6 : Ref sig .tc := ⟨.hbm, 373, rfl⟩
abbrev main_call6_v7 : Ref sig .tc := ⟨.hbm, 374, rfl⟩
abbrev main_call6_cst_1 : Ref sig .tc := ⟨.hbm, 375, rfl⟩
abbrev main_call6_v8 : Ref sig .tc := ⟨.hbm, 376, rfl⟩
abbrev main_call6_cst_2 : Ref sig .tc := ⟨.hbm, 377, rfl⟩
abbrev main_call6_v9 : Ref sig .tc := ⟨.hbm, 378, rfl⟩
abbrev main_call6_v10 : Ref sig .tc := ⟨.hbm, 379, rfl⟩
abbrev main_call6_v11 : Ref sig .tc := ⟨.hbm, 380, rfl⟩
abbrev main_call6_v12 : Ref sig .tc := ⟨.hbm, 381, rfl⟩
abbrev main_call6_cst_3 : Ref sig .tc := ⟨.hbm, 382, rfl⟩
abbrev main_call6_v13 : Ref sig .tc := ⟨.hbm, 383, rfl⟩
abbrev main_call6_cst_4 : Ref sig .tc := ⟨.hbm, 384, rfl⟩
abbrev main_call6_call0_v0 : Ref sig .tc := ⟨.hbm, 385, rfl⟩
abbrev main_call6_call0_v1 : Ref sig .tc := ⟨.hbm, 386, rfl⟩
abbrev main_v224 : Ref sig .tc := ⟨.hbm, 387, rfl⟩
abbrev main_v225 : Ref sig .tc := ⟨.hbm, 388, rfl⟩
abbrev main_v226 : Ref sig .tc := ⟨.hbm, 389, rfl⟩
abbrev main_cst_52 : Ref sig .tc := ⟨.hbm, 390, rfl⟩
abbrev main_v227 : Ref sig .tc := ⟨.hbm, 391, rfl⟩
abbrev main_v228 : Ref sig .tc := ⟨.hbm, 392, rfl⟩
abbrev main_v229 : Ref sig .tc := ⟨.hbm, 393, rfl⟩
abbrev main_v230 : Ref sig .tc := ⟨.hbm, 394, rfl⟩
abbrev main_v231 : Ref sig .tc := ⟨.hbm, 395, rfl⟩
abbrev main_v232 : Ref sig .tc := ⟨.hbm, 396, rfl⟩
abbrev main_v233 : Ref sig .tc := ⟨.hbm, 397, rfl⟩
abbrev main_v234 : Ref sig .tc := ⟨.hbm, 398, rfl⟩
abbrev main_v235 : Ref sig .tc := ⟨.hbm, 399, rfl⟩
abbrev main_v236 : Ref sig .tc := ⟨.hbm, 400, rfl⟩
abbrev main_v237 : Ref sig .tc := ⟨.hbm, 401, rfl⟩
abbrev main_cst_53 : Ref sig .tc := ⟨.hbm, 402, rfl⟩
abbrev main_v238 : Ref sig .tc := ⟨.hbm, 403, rfl⟩
abbrev main_v239 : Ref sig .tc := ⟨.hbm, 404, rfl⟩
abbrev main_cst_54 : Ref sig .tc := ⟨.hbm, 405, rfl⟩
abbrev main_v240 : Ref sig .tc := ⟨.hbm, 406, rfl⟩
abbrev main_v241 : Ref sig .tc := ⟨.hbm, 407, rfl⟩
abbrev main_v242 : Ref sig .tc := ⟨.hbm, 408, rfl⟩
abbrev main_cst_55 : Ref sig .tc := ⟨.hbm, 409, rfl⟩
abbrev main_v243 : Ref sig .tc := ⟨.hbm, 410, rfl⟩
abbrev main_v244 : Ref sig .tc := ⟨.hbm, 411, rfl⟩
abbrev main_v245 : Ref sig .tc := ⟨.hbm, 412, rfl⟩
abbrev main_v246 : Ref sig .tc := ⟨.hbm, 413, rfl⟩
abbrev main_cst_56 : Ref sig .tc := ⟨.hbm, 414, rfl⟩
abbrev main_v247 : Ref sig .tc := ⟨.hbm, 415, rfl⟩
abbrev main_v248 : Ref sig .tc := ⟨.hbm, 416, rfl⟩
abbrev main_cst_57 : Ref sig .tc := ⟨.hbm, 417, rfl⟩
abbrev main_v249 : Ref sig .tc := ⟨.hbm, 418, rfl⟩
abbrev main_v250 : Ref sig .tc := ⟨.hbm, 419, rfl⟩
abbrev main_c_58 : Ref sig .tc := ⟨.hbm, 420, rfl⟩
abbrev main_call8_cst : Ref sig .tc := ⟨.hbm, 421, rfl⟩
abbrev main_call8_v0 : Ref sig .tc := ⟨.hbm, 422, rfl⟩
abbrev main_call8_v1 : Ref sig .tc := ⟨.hbm, 423, rfl⟩
abbrev main_call8_cst_0 : Ref sig .tc := ⟨.hbm, 424, rfl⟩
abbrev main_call8_v2 : Ref sig .tc := ⟨.hbm, 425, rfl⟩
abbrev main_call8_v3 : Ref sig .tc := ⟨.hbm, 426, rfl⟩
abbrev main_call8_v4 : Ref sig .tc := ⟨.hbm, 427, rfl⟩
abbrev main_call8_v5 : Ref sig .tc := ⟨.hbm, 428, rfl⟩
abbrev main_call8_v6 : Ref sig .tc := ⟨.hbm, 429, rfl⟩
abbrev main_call8_v7 : Ref sig .tc := ⟨.hbm, 430, rfl⟩
abbrev main_call8_cst_1 : Ref sig .tc := ⟨.hbm, 431, rfl⟩
abbrev main_call8_v8 : Ref sig .tc := ⟨.hbm, 432, rfl⟩
abbrev main_call8_cst_2 : Ref sig .tc := ⟨.hbm, 433, rfl⟩
abbrev main_call8_v9 : Ref sig .tc := ⟨.hbm, 434, rfl⟩
abbrev main_call8_v10 : Ref sig .tc := ⟨.hbm, 435, rfl⟩
abbrev main_call8_v11 : Ref sig .tc := ⟨.hbm, 436, rfl⟩
abbrev main_call8_v12 : Ref sig .tc := ⟨.hbm, 437, rfl⟩
abbrev main_call8_cst_3 : Ref sig .tc := ⟨.hbm, 438, rfl⟩
abbrev main_call8_v13 : Ref sig .tc := ⟨.hbm, 439, rfl⟩
abbrev main_call8_cst_4 : Ref sig .tc := ⟨.hbm, 440, rfl⟩
abbrev main_call8_call0_v0 : Ref sig .tc := ⟨.hbm, 441, rfl⟩
abbrev main_call8_call0_v1 : Ref sig .tc := ⟨.hbm, 442, rfl⟩
abbrev main_v251 : Ref sig .tc := ⟨.hbm, 443, rfl⟩
abbrev main_v252 : Ref sig .tc := ⟨.hbm, 444, rfl⟩
abbrev main_v253 : Ref sig .tc := ⟨.hbm, 445, rfl⟩
abbrev main_cst_59 : Ref sig .tc := ⟨.hbm, 446, rfl⟩
abbrev main_v254 : Ref sig .tc := ⟨.hbm, 447, rfl⟩
abbrev main_v255 : Ref sig .tc := ⟨.hbm, 448, rfl⟩
abbrev main_v256 : Ref sig .tc := ⟨.hbm, 449, rfl⟩
abbrev main_v257 : Ref sig .tc := ⟨.hbm, 450, rfl⟩
abbrev main_v258 : Ref sig .tc := ⟨.hbm, 451, rfl⟩
abbrev main_v259 : Ref sig .tc := ⟨.hbm, 452, rfl⟩
abbrev main_v260 : Ref sig .tc := ⟨.hbm, 453, rfl⟩
abbrev main_v261 : Ref sig .tc := ⟨.hbm, 454, rfl⟩
abbrev main_v262 : Ref sig .tc := ⟨.hbm, 455, rfl⟩
abbrev main_v263 : Ref sig .tc := ⟨.hbm, 456, rfl⟩
abbrev main_v264 : Ref sig .tc := ⟨.hbm, 457, rfl⟩
abbrev main_cst_60 : Ref sig .tc := ⟨.hbm, 458, rfl⟩
abbrev main_v265 : Ref sig .tc := ⟨.hbm, 459, rfl⟩
abbrev main_v266 : Ref sig .tc := ⟨.hbm, 460, rfl⟩
abbrev main_cst_61 : Ref sig .tc := ⟨.hbm, 461, rfl⟩
abbrev main_v267 : Ref sig .tc := ⟨.hbm, 462, rfl⟩
abbrev main_v268 : Ref sig .tc := ⟨.hbm, 463, rfl⟩
abbrev main_v269 : Ref sig .tc := ⟨.hbm, 464, rfl⟩
abbrev main_cst_62 : Ref sig .tc := ⟨.hbm, 465, rfl⟩
abbrev main_v270 : Ref sig .tc := ⟨.hbm, 466, rfl⟩
abbrev main_cst_63 : Ref sig .tc := ⟨.hbm, 467, rfl⟩
abbrev main_v271 : Ref sig .tc := ⟨.hbm, 468, rfl⟩
abbrev main_cst_64 : Ref sig .tc := ⟨.hbm, 469, rfl⟩
abbrev main_v272 : Ref sig .tc := ⟨.hbm, 470, rfl⟩
abbrev main_v273 : Ref sig .tc := ⟨.hbm, 471, rfl⟩
abbrev main_v274 : Ref sig .tc := ⟨.hbm, 472, rfl⟩
abbrev main_v275 : Ref sig .tc := ⟨.hbm, 473, rfl⟩
abbrev main_v276 : Ref sig .tc := ⟨.hbm, 474, rfl⟩
abbrev main_cst_65 : Ref sig .tc := ⟨.hbm, 475, rfl⟩
abbrev main_v277 : Ref sig .tc := ⟨.hbm, 476, rfl⟩
abbrev main_v278 : Ref sig .tc := ⟨.hbm, 477, rfl⟩
abbrev main_cst_66 : Ref sig .tc := ⟨.hbm, 478, rfl⟩
abbrev main_v279 : Ref sig .tc := ⟨.hbm, 479, rfl⟩
abbrev main_v280 : Ref sig .tc := ⟨.hbm, 480, rfl⟩
abbrev main_c_67 : Ref sig .tc := ⟨.hbm, 481, rfl⟩
abbrev main_call10_cst : Ref sig .tc := ⟨.hbm, 482, rfl⟩
abbrev main_call10_v0 : Ref sig .tc := ⟨.hbm, 483, rfl⟩
abbrev main_call10_v1 : Ref sig .tc := ⟨.hbm, 484, rfl⟩
abbrev main_call10_cst_0 : Ref sig .tc := ⟨.hbm, 485, rfl⟩
abbrev main_call10_v2 : Ref sig .tc := ⟨.hbm, 486, rfl⟩
abbrev main_call10_v3 : Ref sig .tc := ⟨.hbm, 487, rfl⟩
abbrev main_call10_v4 : Ref sig .tc := ⟨.hbm, 488, rfl⟩
abbrev main_call10_v5 : Ref sig .tc := ⟨.hbm, 489, rfl⟩
abbrev main_call10_v6 : Ref sig .tc := ⟨.hbm, 490, rfl⟩
abbrev main_call10_v7 : Ref sig .tc := ⟨.hbm, 491, rfl⟩
abbrev main_call10_cst_1 : Ref sig .tc := ⟨.hbm, 492, rfl⟩
abbrev main_call10_v8 : Ref sig .tc := ⟨.hbm, 493, rfl⟩
abbrev main_call10_cst_2 : Ref sig .tc := ⟨.hbm, 494, rfl⟩
abbrev main_call10_v9 : Ref sig .tc := ⟨.hbm, 495, rfl⟩
abbrev main_call10_v10 : Ref sig .tc := ⟨.hbm, 496, rfl⟩
abbrev main_call10_v11 : Ref sig .tc := ⟨.hbm, 497, rfl⟩
abbrev main_call10_v12 : Ref sig .tc := ⟨.hbm, 498, rfl⟩
abbrev main_call10_cst_3 : Ref sig .tc := ⟨.hbm, 499, rfl⟩
abbrev main_call10_v13 : Ref sig .tc := ⟨.hbm, 500, rfl⟩
abbrev main_call10_cst_4 : Ref sig .tc := ⟨.hbm, 501, rfl⟩
abbrev main_call10_call0_v0 : Ref sig .tc := ⟨.hbm, 502, rfl⟩
abbrev main_call10_call0_v1 : Ref sig .tc := ⟨.hbm, 503, rfl⟩
abbrev main_v281 : Ref sig .tc := ⟨.hbm, 504, rfl⟩
abbrev main_v282 : Ref sig .tc := ⟨.hbm, 505, rfl⟩
abbrev main_v283 : Ref sig .tc := ⟨.hbm, 506, rfl⟩
abbrev main_cst_68 : Ref sig .tc := ⟨.hbm, 507, rfl⟩
abbrev main_v284 : Ref sig .tc := ⟨.hbm, 508, rfl⟩
abbrev main_v285 : Ref sig .tc := ⟨.hbm, 509, rfl⟩
abbrev main_v286 : Ref sig .tc := ⟨.hbm, 510, rfl⟩
abbrev main_v287 : Ref sig .tc := ⟨.hbm, 511, rfl⟩
abbrev main_v288 : Ref sig .tc := ⟨.hbm, 512, rfl⟩
abbrev main_v289 : Ref sig .tc := ⟨.hbm, 513, rfl⟩
abbrev main_v290 : Ref sig .tc := ⟨.hbm, 514, rfl⟩
abbrev main_v291 : Ref sig .tc := ⟨.hbm, 515, rfl⟩
abbrev main_v292 : Ref sig .tc := ⟨.hbm, 516, rfl⟩
abbrev main_v293 : Ref sig .tc := ⟨.hbm, 517, rfl⟩
abbrev main_v294 : Ref sig .tc := ⟨.hbm, 518, rfl⟩

abbrev nD : Nat := 1
abbrev τ : Topo := Topo.v7x

variable {F : FTy → Type} [FloatOps F]
-- ==== Proof.KernelRun.lean ====
/- The kernel's run: the array it returns ends at the last boundary's contents, and the arguments end as launched. -/
module

public import proofs.«01_k».proof.Proof.Gen.KernelIdeal.Frame

@[expose] public section

set_option maxRecDepth 16384

noncomputable section

namespace Cert.Proof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- Every run of the kernel ends with its result at the last boundary's contents and its arguments unchanged. -/
theorem run_value : θ_run defs (onTc (τ := τ) (main (F := F))) ⟨m, fun _ => 0, ρ⟩ (fun r => (∀ c : Dev nD,
      r.2.mem ((c.tc : Thread nD τ).loc main_v47) = W24 m ρ c (Proc.devRef .tc main_v47)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W24 m ρ c b)
    (hfin := fun c s' => by
      iintro ⟨⟨Hh, -⟩, HSI⟩
      unfold StableHlo.held
      imodintro
      iapply (pointsTo_read_all (Pipeline.ucRefs τ sig) (fun b => (((c : Thread nD τ)).1, b)) (W24 m ρ c) s')
      isplitl [Hh] <;> iassumption)
    (hQ := fun s h hz => ⟨(fun c =>
      ⟨h c _ (mem_uc main_v47 (by decide)),
       (h c _ (mem_uc main_arg0 (by decide))).trans (W24_main_arg0 m ρ c),
       (h c _ (mem_uc main_arg1 (by decide))).trans (W24_main_arg1 m ρ c),
       (h c _ (mem_uc main_arg2 (by decide))).trans (W24_main_arg2 m ρ c),
       (h c _ (mem_uc main_arg3 (by decide))).trans (W24_main_arg3 m ρ c),
       (h c _ (mem_uc main_arg4 (by decide))).trans (W24_main_arg4 m ρ c),
       (h c _ (mem_uc main_arg5 (by decide))).trans (W24_main_arg5 m ρ c),
       (h c _ (mem_uc main_arg6 (by decide))).trans (W24_main_arg6 m ρ c),
       (h c _ (mem_uc main_arg7 (by decide))).trans (W24_main_arg7 m ρ c),
       (h c _ (mem_uc main_arg8 (by decide))).trans (W24_main_arg8 m ρ c),
       (h c _ (mem_uc main_arg9 (by decide))).trans (W24_main_arg9 m ρ c),
       (h c _ (mem_uc main_arg10 (by decide))).trans (W24_main_arg10 m ρ c),
       (h c _ (mem_uc main_arg11 (by decide))).trans (W24_main_arg11 m ρ c),
       (h c _ (mem_uc main_arg12 (by decide))).trans (W24_main_arg12 m ρ c),
       (h c _ (mem_uc main_arg13 (by decide))).trans (W24_main_arg13 m ρ c),
       (h c _ (mem_uc main_arg14 (by decide))).trans (W24_main_arg14 m ρ c),
       (h c _ (mem_uc main_arg15 (by decide))).trans (W24_main_arg15 m ρ c),
       (h c _ (mem_uc main_arg16 (by decide))).trans (W24_main_arg16 m ρ c),
       (h c _ (mem_uc main_arg17 (by decide))).trans (W24_main_arg17 m ρ c),
       (h c _ (mem_uc main_arg18 (by decide))).trans (W24_main_arg18 m ρ c)⟩), funext fun g => hz g (.inr (no_unscoped g.2))⟩)

end Cert.Proof
end
-- ==== Proof.Select.lean ====
/- The twenty nearest neighbours, selected in two ways: by taking the first greatest entry twenty
   times, each time replacing it by −∞, and by sorting the row. On a row without −∞ both give the
   same positions. -/
module

public import Idealize.ShloMosaic.Lib.SortPrefix
public import Idealize.ShloMosaic.Lib.IdealHost

@[expose] public section

noncomputable section

namespace Cert.Proof

open Idealize.ShloMosaic

variable {N : Nat}

/-- The positions whose entry is greatest. -/
def maximizers (w : Fin N → EReal) : Finset (Fin N) := Finset.univ.filter fun j => ∀ j', w j' ≤ w j

theorem maximizers_nonempty [NeZero N] (w : Fin N → EReal) : (maximizers w).Nonempty := by
  obtain ⟨j, -, h⟩ := Finset.exists_max_image (Finset.univ : Finset (Fin N)) w ⟨0, Finset.mem_univ _⟩
  exact ⟨j, by simpa [maximizers] using fun j' => h j' (Finset.mem_univ _)⟩

/-- The first position whose entry is greatest. -/
def firstMax [NeZero N] (w : Fin N → EReal) : Fin N := (maximizers w).min' (maximizers_nonempty w)

theorem le_firstMax [NeZero N] (w : Fin N → EReal) (j : Fin N) : w j ≤ w (firstMax w) := by
  have h := Finset.min'_mem _ (maximizers_nonempty w)
  exact (Finset.mem_filter.mp h).2 j

theorem firstMax_le [NeZero N] (w : Fin N → EReal) (j : Fin N) (h : ∀ j', w j' ≤ w j) : firstMax w ≤ j :=
  Finset.min'_le _ _ (by simpa [maximizers] using h)

/-- The row with its first greatest entry replaced by −∞. -/
def maskMax [NeZero N] (w : Fin N → EReal) : Fin N → EReal := fun j => if j = firstMax w then ⊥ else w j

/-- The row after `t` such replacements. -/
def masked [NeZero N] (v : Fin N → EReal) : Nat → Fin N → EReal
  | 0 => v
  | t + 1 => maskMax (masked v t)

/-- The position selected at step `t`. -/
def picked [NeZero N] (v : Fin N → EReal) (t : Nat) : Fin N := firstMax (masked v t)

theorem masked_apply [NeZero N] (v : Fin N → EReal) (t : Nat) (j : Fin N) :
    masked v t j = if ∃ s < t, j = picked v s then ⊥ else v j := by
  induction t with
  | zero => simp [masked]
  | succ t ih =>
    simp only [masked, maskMax, ih]
    by_cases hj : j = firstMax (masked v t)
    · rw [if_pos hj, if_pos ⟨t, Nat.lt_succ_self t, hj⟩]
    · rw [if_neg hj]
      refine if_congr ⟨?_, ?_⟩ rfl rfl
      · rintro ⟨s, hs, e⟩; exact ⟨s, hs.trans (Nat.lt_succ_self t), e⟩
      · rintro ⟨s, hs, e⟩
        rcases Nat.lt_succ_iff_lt_or_eq.mp hs with h | rfl
        · exact ⟨s, h, e⟩
        · exact absurd e hj

section row

variable [NeZero N] (v : Fin N → EReal) (hv : ∀ j, v j ≠ ⊥)
include hv

/-- A step selects a position no earlier step selected. -/
theorem picked_fresh (t : Nat) (ht : t < N) : ∀ s < t, picked v t ≠ picked v s := by
  classical
  intro s hs e
  have hcard : ((Finset.range t).image (picked v)).card < (Finset.univ : Finset (Fin N)).card := by
    refine lt_of_le_of_lt Finset.card_image_le ?_
    simpa using ht
  obtain ⟨j, -, hj⟩ := Finset.exists_mem_notMem_of_card_lt_card hcard
  have hj' : masked v t j = v j := by
    rw [masked_apply, if_neg]
    rintro ⟨r, hr, er⟩
    exact hj (Finset.mem_image.mpr ⟨r, Finset.mem_range.mpr hr, er.symm⟩)
  have hbot : masked v t (picked v t) = ⊥ := by
    rw [masked_apply, if_pos ⟨s, hs, e⟩]
  have := le_firstMax (masked v t) j
  rw [hj'] at this
  change v j ≤ masked v t (picked v t) at this
  rw [hbot] at this
  exact hv j (le_bot_iff.mp this)

theorem masked_picked (t : Nat) (ht : t < N) : masked v t (picked v t) = v (picked v t) := by
  rw [masked_apply, if_neg]
  rintro ⟨s, hs, e⟩
  exact picked_fresh v hv t ht s hs e

theorem picked_inj {s t : Nat} (hs : s < N) (ht : t < N) (e : picked v s = picked v t) : s = t := by
  rcases lt_trichotomy s t with h | h | h
  · exact absurd e.symm (picked_fresh v hv t ht s h)
  · exact h
  · exact absurd e (picked_fresh v hv s hs t h)

/-- A position no step before `t` selected is not before the one step `t` selects, in the order "greater first,
    then the earlier position". -/
theorem not_before_picked (t : Nat) (ht : t < N) (p : Fin N) (hp : ∀ s < t, p ≠ picked v s) :
    ¬ (v (picked v t) < v p ∨ (v (picked v t) = v p ∧ p < picked v t)) := by
  have hmp : masked v t p = v p := by
    rw [masked_apply, if_neg]
    rintro ⟨s, hs, e⟩
    exact hp s hs e
  have hle := le_firstMax (masked v t) p
  change masked v t p ≤ masked v t (picked v t) at hle
  rw [hmp, masked_picked v hv t ht] at hle
  rintro (h | ⟨e, h⟩)
  · exact absurd hle (not_le.mpr h)
  · refine absurd (firstMax_le (masked v t) p fun j' => ?_) (not_le.mpr h)
    rw [hmp, ← e, ← masked_picked v hv t ht]
    exact le_firstMax _ _

end row

/-- Sorting by a comparator, an element enters a list of later ones: a tie broken by position changes nothing. -/
theorem stableSort_congr_of_sorted {ι : Type} [LinearOrder ι] (R R' : ι → ι → Bool) (l : List ι)
    (hl : l.Pairwise (· < ·)) (h : ∀ a b, a < b → R b a = R' b a) : stableSort R l = stableSort R' l := by
  induction l with
  | nil => rfl
  | cons a l ih =>
    rw [List.pairwise_cons] at hl
    unfold stableSort
    rw [ih hl.2]
    exact insertBefore_congr R R' a _ fun b hb => h a b (hl.1 b ((perm_stableSort R' l).mem_iff.mp hb))

/-- Greater entry first. -/
def greaterFirst (v : Fin N → EReal) (k k' : Fin N) : Bool := FloatOps.cmpfTotal (F := Ideal) (φ := .f32) .gt (v k) (v k') == 1#1

theorem greaterFirst_iff (v : Fin N → EReal) (k k' : Fin N) : greaterFirst v k k' = true ↔ v k' < v k := by
  change (BitVec.ofBool (decide (v k' < v k)) == 1#1) = true ↔ _
  by_cases h : v k' < v k <;> simp [h]

/-- The sort's position `t` comes from the position that step `t` of the repeated maximum selects. -/
theorem sortedFrom_eq_picked [NeZero N] (v : Fin N → EReal) (hv : ∀ j, v j ≠ ⊥) {k : Nat} (hk : k ≤ N) (t : Fin k) :
    sortedFrom (greaterFirst v) (t.castLE hk) = picked v t := by
  let lt : EReal → EReal → Bool := fun a b => decide (b < a)
  let B : Fin N → Fin N → Bool := fun k k' => lt (v k) (v k') || (decide (v k = v k') && decide (k < k'))
  have hB : StrictTotalBefore B := StrictTotalBefore.of_key_then_position lt v
    (fun a => by simp [lt]) (fun a b c h1 h2 => by simp only [lt, decide_eq_true_eq] at *; exact h2.trans h1)
    (fun a b => by simp only [lt, decide_eq_true_eq]; rcases lt_trichotomy a b with h | h | h <;> simp [h])
  have hBiff : ∀ a b, B a b = true ↔ (v b < v a ∨ (v b = v a ∧ a < b)) := fun a b => by
    simp only [B, lt, Bool.or_eq_true, Bool.and_eq_true, decide_eq_true_eq, @eq_comm _ (v a) (v b)]
  have hBf : ∀ a b, ¬ (v b < v a ∨ (v b = v a ∧ a < b)) → B a b = false := fun a b h => by
    rw [← Bool.not_eq_true, hBiff]; exact h
  have e : sortPositions N (greaterFirst v) = sortPositions N B := by
    refine stableSort_congr_of_sorted _ _ _ (List.pairwise_lt_finRange N) fun a b hab => ?_
    rw [Bool.eq_iff_iff, greaterFirst_iff, hBiff]
    constructor
    · exact Or.inl
    · rintro (h | ⟨-, h⟩)
      · exact h
      · exact absurd h (not_lt.mpr hab.le)
  have e' : sortedFrom (greaterFirst v) = sortedFrom B := by
    funext k
    unfold sortedFrom
    rw [List.get_of_eq e]
    rfl
  have hlt : ∀ i : Fin k, i.val < N := fun i => i.isLt.trans_le hk
  rw [e']
  refine hB.sortedFrom_eq_of_prefix hk (fun i => picked v i) ?_ ?_ ?_ t
  · intro i j hij
    exact Fin.ext (picked_inj v hv (hlt i) (hlt j) hij)
  · intro i j hij
    exact hBf _ _ (not_before_picked v hv i (hlt i) _ fun s hs =>
      picked_fresh v hv j (hlt j) s (hs.trans hij))
  · intro i p hp
    exact hBf _ _ (not_before_picked v hv i (hlt i) p fun s hs e =>
      hp ⟨s, hs.trans i.isLt⟩ e.symm)

end Cert.Proof

end
-- ==== Proof.Finite.lean ====
/- Finite extended reals: which operations keep an entry finite, and the two identities of the
   batch normalisation that need it. -/
module

public import Idealize.ShloMosaic.Lib.IdealHost
public import Mathlib.Data.EReal.Operations
public import Mathlib.Algebra.BigOperators.Field

@[expose] public section

noncomputable section

namespace Cert.Proof

open Idealize.ShloMosaic

/-- The entry is a real number: neither infinity. -/
def IsReal (x : EReal) : Prop := ∃ r : ℝ, x = (r : EReal)

namespace IsReal

theorem coe (r : ℝ) : IsReal (r : EReal) := ⟨r, rfl⟩

theorem zero : IsReal (0 : EReal) := ⟨0, rfl⟩

theorem add {x y : EReal} (hx : IsReal x) (hy : IsReal y) : IsReal (x + y) := by
  obtain ⟨a, rfl⟩ := hx; obtain ⟨b, rfl⟩ := hy
  exact ⟨a + b, (EReal.coe_add a b).symm⟩

theorem sub {x y : EReal} (hx : IsReal x) (hy : IsReal y) : IsReal (x - y) := by
  obtain ⟨a, rfl⟩ := hx; obtain ⟨b, rfl⟩ := hy
  exact ⟨a - b, (EReal.coe_sub a b).symm⟩

theorem neg {x : EReal} (hx : IsReal x) : IsReal (-x) := by
  obtain ⟨a, rfl⟩ := hx
  exact ⟨-a, (EReal.coe_neg a).symm⟩

theorem mul {x y : EReal} (hx : IsReal x) (hy : IsReal y) : IsReal (x * y) := by
  obtain ⟨a, rfl⟩ := hx; obtain ⟨b, rfl⟩ := hy
  exact ⟨a * b, (EReal.coe_mul a b).symm⟩

theorem sum {ι : Type} (s : Finset ι) {f : ι → EReal} (h : ∀ i, IsReal (f i)) : IsReal (∑ i ∈ s, f i) := by
  classical
  induction s using Finset.induction_on with
  | empty => simpa using zero
  | insert a s ha ih => rw [Finset.sum_insert ha]; exact (h a).add ih

theorem max {x y : EReal} (hx : IsReal x) (hy : IsReal y) : IsReal (x ⊔ y) := by
  rcases le_total x y with h | h
  · rwa [sup_eq_right.mpr h]
  · rwa [sup_eq_left.mpr h]

theorem ne_top {x : EReal} (hx : IsReal x) : x ≠ ⊤ := by
  obtain ⟨a, rfl⟩ := hx; exact EReal.coe_ne_top a

theorem ne_bot {x : EReal} (hx : IsReal x) : x ≠ ⊥ := by
  obtain ⟨a, rfl⟩ := hx; exact EReal.coe_ne_bot a

theorem of_ne {x : EReal} (h₁ : x ≠ ⊤) (h₂ : x ≠ ⊥) : IsReal x := ⟨x.toReal, (EReal.coe_toReal h₁ h₂).symm⟩

theorem sub_self {x : EReal} (hx : IsReal x) : x - x = 0 := by
  obtain ⟨a, rfl⟩ := hx
  rw [← EReal.coe_sub, _root_.sub_self, EReal.coe_zero]

end IsReal

/-- A finite sum of reals, as an extended real. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The mean square less the squared mean is the mean squared deviation, of finitely many reals whose number is `n`. -/
theorem real_variance {ι : Type} [Fintype ι] (y : ι → ℝ) (n : ℝ) (hn : n ≠ 0) (hcard : (Fintype.card ι : ℝ) = n) :
    (∑ i, y i * y i) / n - (∑ i, y i) / n * ((∑ i, y i) / n)
      = (∑ i, (y i - (∑ i, y i) / n) * (y i - (∑ i, y i) / n)) / n := by
  have e : ∑ i, (y i - (∑ i, y i) / n) * (y i - (∑ i, y i) / n)
      = (∑ i, y i * y i) - 2 * ((∑ i, y i) / n) * (∑ i, y i) + n * ((∑ i, y i) / n * ((∑ i, y i) / n)) := by
    simp only [sub_mul, mul_sub, Finset.sum_sub_distrib, ← Finset.mul_sum, ← Finset.sum_mul, Finset.sum_const,
      Finset.card_univ, nsmul_eq_mul, hcard]
    ring
  rw [e]
  field_simp
  ring

end Cert.Proof

end
-- ==== Proof.Layer.lean ====
/- The mathematics of one edge layer, for any number of channels: the scores of the pairs of points,
   the features of an edge, their convolution, and the loop that takes the twenty nearest points
   one after the other. -/
module

public import proofs.«01_k».proof.Proof.Select
public import proofs.«01_k».proof.Proof.Finite
public import Idealize.ShloMosaic.Lib.IdealHost

@[expose] public section

noncomputable section

namespace Cert.Proof

open Idealize.ShloMosaic

variable {c d co : Nat}

/-- The features of the edge from point `i` to point `j`: the difference of the two points' channels,
    then the channels of `i`. -/
def edgeFeat (hd : d = c + c) (X : Fin 1024 → Fin c → EReal) (i j : Fin 1024) (q : Fin d) : EReal :=
  if h : (q : Nat) < c then X j ⟨q, h⟩ - X i ⟨q, h⟩ else X i ⟨q - c, by omega⟩

/-- The convolution of an edge's features with the weights. -/
def edgeConv (hd : d = c + c) (X : Fin 1024 → Fin c → EReal) (W : Fin d → Fin co → EReal) (i j : Fin 1024) (o : Fin co) : EReal :=
  ∑ q, edgeFeat hd X i j q * W q o

/-- The sum of the squares of a point's channels. -/
def sqNorm (X : Fin 1024 → Fin c → EReal) (j : Fin 1024) : EReal := ∑ q, X j q * X j q

/-- The score of a pair of points: minus their squared distance. -/
def score (X : Fin 1024 → Fin c → EReal) (i j : Fin 1024) : EReal :=
  -sqNorm X j - Ideal.ofBits FTy.f32 3221225472#32 * (∑ q, X i q * X j q) - sqNorm X i

/-- The `k`-th nearest point of `i`. -/
def near (X : Fin 1024 → Fin c → EReal) (i : Fin 1024) (k : Fin 20) : Fin 1024 := picked (score X i) k

/-- The greatest convolution over a point's twenty neighbours. -/
def edgeMax (hd : d = c + c) (X : Fin 1024 → Fin c → EReal) (W : Fin d → Fin co → EReal) (i : Fin 1024) (o : Fin co) : EReal :=
  Finset.univ.sup fun k : Fin 20 => edgeConv hd X W i (near X i k) o

/-- The sum of the convolutions over all edges of one cloud. -/
def edgeSum (hd : d = c + c) (X : Fin 1024 → Fin c → EReal) (W : Fin d → Fin co → EReal) (o : Fin co) : EReal :=
  ∑ k : Fin 20, ∑ i, edgeConv hd X W i (near X i k) o

/-- The sum of their squares. -/
def edgeSq (hd : d = c + c) (X : Fin 1024 → Fin c → EReal) (W : Fin d → Fin co → EReal) (o : Fin co) : EReal :=
  ∑ k : Fin 20, ∑ i, edgeConv hd X W i (near X i k) o * edgeConv hd X W i (near X i k) o

/-- The leaky rectifier. -/
def lrelu (z : EReal) : EReal := if 0 ≤ z then z else Ideal.ofBits FTy.f32 1045220557#32 * z

/-- Normalisation by the mean and the variance of `n` values whose sum is `s₁` and whose squares' sum is `s₂`. -/
def norm (n s₁ s₂ g b y : EReal) : EReal :=
  Ideal.div (y - Ideal.div s₁ n)
    (Ideal.sqrt (Ideal.div s₂ n - Ideal.div s₁ n * Ideal.div s₁ n + Ideal.ofBits FTy.f32 925353388#32)) * g + b

/-- A whole edge layer on sixteen clouds: the greatest convolution over the neighbours, normalised over all edges
    of all clouds, and rectified. -/
def edgeLayer (hd : d = c + c) (X : Fin 16 → Fin 1024 → Fin c → EReal) (W : Fin d → Fin co → EReal) (g b : Fin co → EReal)
    (s : Fin 16) (i : Fin 1024) (o : Fin co) : EReal :=
  lrelu (norm (Ideal.ofBits FTy.f32 1218445312#32) (∑ s', edgeSum hd (X s') W o) (∑ s', edgeSq hd (X s') W o) (g o) (b o)
    (edgeMax hd (X s) W i o))

/-- Features with columns of zeros after them, up to 128 columns. -/
def widen {c : Nat} (f : Fin 16 → Fin 1024 → Fin c → EReal) (s : Fin 16) (i : Fin 1024) (q : Fin 128) : EReal :=
  if h : (q : Nat) < c then f s i ⟨q, h⟩ else 0

/-- The channels of all four layers side by side. -/
def headIn (x₁ x₂ : Fin 1024 → Fin 64 → EReal) (x₃ : Fin 1024 → Fin 128 → EReal) (x₄ : Fin 1024 → Fin 256 → EReal)
    (i : Fin 1024) (q : Fin 512) : EReal :=
  if h : (q : Nat) < 64 then x₁ i ⟨q, h⟩
  else if h : (q : Nat) - 64 < 64 then x₂ i ⟨q - 64, h⟩
  else if h : (q : Nat) - 64 - 64 < 128 then x₃ i ⟨q - 64 - 64, h⟩
  else x₄ i ⟨q - 64 - 64 - 128, by omega⟩

/-- Their convolution. -/
def headConv (x₁ x₂ : Fin 1024 → Fin 64 → EReal) (x₃ : Fin 1024 → Fin 128 → EReal) (x₄ : Fin 1024 → Fin 256 → EReal)
    (W : Fin 512 → Fin 1024 → EReal) (i : Fin 1024) (o : Fin 1024) : EReal :=
  ∑ q, headIn x₁ x₂ x₃ x₄ i q * W q o

/-- The greatest value of a column, then its mean. -/
def pool (z : Fin 1024 → Fin 1024 → EReal) (q : Fin 2048) : EReal :=
  if h : (q : Nat) < 1024 then Finset.univ.sup fun i => z i ⟨q, h⟩
  else Ideal.div (∑ i, z i ⟨q - 1024, by omega⟩) (Ideal.ofBits FTy.f32 1149239296#32)

/-- The last layer: a product with the weights, normalised over the sixteen clouds. -/
def lastLayer (z : Fin 16 → Fin 2048 → EReal) (W : Fin 2048 → Fin 256 → EReal) (g b : Fin 256 → EReal) (s : Fin 16) (o : Fin 256) : EReal :=
  Ideal.div
      (∑ q, z s q * W q o - Ideal.div (∑ s', ∑ q, z s' q * W q o) (Ideal.ofBits FTy.f32 1098907648#32))
      (Ideal.sqrt
        (Ideal.div
            (∑ t, (∑ q, z t q * W q o - Ideal.div (∑ s', ∑ q, z s' q * W q o) (Ideal.ofBits FTy.f32 1098907648#32))
              * (∑ q, z t q * W q o - Ideal.div (∑ s', ∑ q, z s' q * W q o) (Ideal.ofBits FTy.f32 1098907648#32)))
            (Ideal.ofBits FTy.f32 1098907648#32)
          + Ideal.ofBits FTy.f32 925353388#32)) * g o + b o

section loop

variable (y : Fin 1024 → Fin 1024 → Fin co → EReal) (v : Fin 1024 → Fin 1024 → EReal)

/-- What the loop over the twenty neighbours carries before step `t`: the score rows with the first
    `t` choices struck out, the maximum of the chosen convolutions, their sum and the sum of their squares. -/
theorem loop_state (w : Nat → Fin 1024 → Fin 1024 → EReal) (m : Nat → Fin 1024 → Fin co → EReal) (s₁ s₂ : Nat → Fin co → EReal)
    (w0 : ∀ i, w 0 i = v i) (m0 : ∀ i o, m 0 i o = ⊥) (s10 : ∀ o, s₁ 0 o = 0) (s20 : ∀ o, s₂ 0 o = 0)
    (hw : ∀ t < 20, ∀ i, w (t + 1) i = maskMax (w t i))
    (hm : ∀ t < 20, ∀ i o, m (t + 1) i o = m t i o ⊔ y i (firstMax (w t i)) o)
    (h₁ : ∀ t < 20, ∀ o, s₁ (t + 1) o = s₁ t o + ∑ i, y i (firstMax (w t i)) o)
    (h₂ : ∀ t < 20, ∀ o, s₂ (t + 1) o = s₂ t o + ∑ i, y i (firstMax (w t i)) o * y i (firstMax (w t i)) o) :
    ∀ t ≤ 20, (∀ i, w t i = masked (v i) t)
      ∧ (∀ i o, m t i o = (Finset.range t).sup fun k => y i (picked (v i) k) o)
      ∧ (∀ o, s₁ t o = ∑ k ∈ Finset.range t, ∑ i, y i (picked (v i) k) o)
      ∧ (∀ o, s₂ t o = ∑ k ∈ Finset.range t, ∑ i, y i (picked (v i) k) o * y i (picked (v i) k) o)
  | 0, _ => ⟨w0, by simpa using m0, by simpa using s10, by simpa using s20⟩
  | t + 1, ht => by
    obtain ⟨a, b, e₁, e₂⟩ := loop_state w m s₁ s₂ w0 m0 s10 s20 hw hm h₁ h₂ t (by omega)
    have ht' : t < 20 := by omega
    refine ⟨fun i => ?_, fun i o => ?_, fun o => ?_, fun o => ?_⟩
    · rw [hw t ht', a]; rfl
    · rw [hm t ht', a, b, Finset.range_add_one, Finset.sup_insert, sup_comm]; rfl
    · rw [h₁ t ht', e₁, Finset.sum_range_succ]; simp only [a]; rfl
    · rw [h₂ t ht', e₂, Finset.sum_range_succ]; simp only [a]; rfl

end loop

/-- A supremum over the first `n` numbers is one over `Fin n`. -/
theorem sup_range_eq (n : Nat) (f : Nat → EReal) : (Finset.range n).sup f = Finset.univ.sup fun k : Fin n => f k := by
  apply le_antisymm
  · exact Finset.sup_le fun k hk => Finset.le_sup (f := fun k : Fin n => f k) (Finset.mem_univ ⟨k, Finset.mem_range.mp hk⟩)
  · exact Finset.sup_le fun k _ => Finset.le_sup (f := f) (Finset.mem_range.mpr k.isLt)

/-- What the loop has after all twenty steps. -/
theorem loop_result (hd : d = c + c) (X : Fin 1024 → Fin c → EReal) (W : Fin d → Fin co → EReal)
    (w : Nat → Fin 1024 → Fin 1024 → EReal) (m : Nat → Fin 1024 → Fin co → EReal) (s₁ s₂ : Nat → Fin co → EReal)
    (w0 : ∀ i, w 0 i = score X i) (m0 : ∀ i o, m 0 i o = ⊥) (s10 : ∀ o, s₁ 0 o = 0) (s20 : ∀ o, s₂ 0 o = 0)
    (hw : ∀ t < 20, ∀ i, w (t + 1) i = maskMax (w t i))
    (hm : ∀ t < 20, ∀ i o, m (t + 1) i o = m t i o ⊔ edgeConv hd X W i (firstMax (w t i)) o)
    (h₁ : ∀ t < 20, ∀ o, s₁ (t + 1) o = s₁ t o + ∑ i, edgeConv hd X W i (firstMax (w t i)) o)
    (h₂ : ∀ t < 20, ∀ o, s₂ (t + 1) o = s₂ t o
      + ∑ i, edgeConv hd X W i (firstMax (w t i)) o * edgeConv hd X W i (firstMax (w t i)) o) :
    (∀ i o, m 20 i o = edgeMax hd X W i o) ∧ (∀ o, s₁ 20 o = edgeSum hd X W o) ∧ (∀ o, s₂ 20 o = edgeSq hd X W o) := by
  obtain ⟨-, b, e₁, e₂⟩ := loop_state (edgeConv hd X W) (score X) w m s₁ s₂ w0 m0 s10 s20 hw hm h₁ h₂ 20 le_rfl
  refine ⟨fun i o => ?_, fun o => ?_, fun o => ?_⟩
  · rw [b, sup_range_eq]; rfl
  · rw [e₁, Finset.sum_range]; rfl
  · rw [e₂, Finset.sum_range]; rfl

/-- A sum over `n` columns of which those from `c` on are zero. -/
theorem sum_padded {n : Nat} (hc : c ≤ n) (f : Fin n → EReal) (g : Fin c → EReal)
    (h : ∀ q : Fin n, f q = if h : (q : Nat) < c then g ⟨q, h⟩ else 0) : ∑ q, f q = ∑ q, g q := by
  obtain ⟨e, rfl⟩ := Nat.exists_eq_add_of_le hc
  rw [Fin.sum_univ_add, Finset.sum_congr rfl fun q _ => h (Fin.castAdd e q), Finset.sum_congr rfl fun q _ => h (Fin.natAdd c q)]
  simp

/-- The sum of a one-hot row against a column. -/
theorem sum_oneHot {n : Nat} (a : Fin n) (f : Fin n → EReal) :
    ∑ x, (if x = a then (1 : EReal) else 0) * f x = f a := by
  simp [ite_mul]

end Cert.Proof
end
-- ==== Proof.Consts.lean ====
/- The constants of the two programs as extended reals. -/
module

public import Idealize.ShloMosaic.Lib.IdealHost

@[expose] public section

noncomputable section

namespace Cert.Proof

open Idealize.ShloMosaic

/-- Minus infinity. -/
theorem ofBits_negInf : Ideal.ofBits FTy.f32 4286578688#32 = ⊥ := by simp [Ideal.ofBits, Ideal.ieee]

/-- The number of edges of all clouds. -/
theorem ofBits_edges : Ideal.ofBits FTy.f32 1218445312#32 = ((327680 : ℝ) : EReal) := by
  simp [Ideal.ofBits, Ideal.ieee, -EReal.coe_mul]; norm_num

/-- The number of points of all clouds. -/
theorem ofBits_points : Ideal.ofBits FTy.f32 1182793728#32 = ((16384 : ℝ) : EReal) := by
  simp [Ideal.ofBits, Ideal.ieee, -EReal.coe_mul]; norm_num

/-- The number of clouds. -/
theorem ofBits_clouds : Ideal.ofBits FTy.f32 1098907648#32 = ((16 : ℝ) : EReal) := by
  simp [Ideal.ofBits, Ideal.ieee, -EReal.coe_mul]; norm_num

/-- Minus two. -/
theorem ofBits_negTwo : Ideal.ofBits FTy.f32 3221225472#32 = ((-2 : ℝ) : EReal) := by
  simp [Ideal.ofBits, Ideal.ieee, -EReal.coe_mul]; norm_num

/-- The number added to a variance is a positive real. -/
theorem ofBits_eps : ∃ e : ℝ, 0 < e ∧ Ideal.ofBits FTy.f32 925353388#32 = (e : EReal) :=
  ⟨10995116 / 2 ^ 40, by norm_num, by simp [Ideal.ofBits, Ideal.ieee, -EReal.coe_mul]; norm_num⟩

/-- The slope of the rectifier below zero is a positive real. -/
theorem ofBits_slope : ∃ e : ℝ, 0 < e ∧ Ideal.ofBits FTy.f32 1045220557#32 = (e : EReal) :=
  ⟨13421773 / 2 ^ 26, by norm_num, by simp [Ideal.ofBits, Ideal.ieee, -EReal.coe_mul]; norm_num⟩

end Cert.Proof
end
-- ==== Proof.EdgeStep.lean ====
/- One step of the edge loop, entry by entry: the chosen position of every row, the row with that
   position struck out, and the convolution of the edges to the chosen points. -/
module

public import proofs.«01_k».proof.Proof.Gen.KernelIdeal.Skeleton
public import proofs.«01_k».proof.Proof.Layer
public import proofs.«01_k».proof.Proof.Consts
public import Idealize.ShloMosaic.Lib.Pointwise

@[expose] public section

set_option maxRecDepth 16384

noncomputable section

namespace Cert.Proof

open Idealize.ShloMosaic Cert.KernelIdeal Cert.KernelIdeal.Gen

/-- The least element of a set of numbers that are the greatest positions of a row. -/
theorem min_of_maximizers (S : Finset Nat) (v : Fin 1024 → EReal) (hS : ∀ n, n ∈ S ↔ ∃ j ∈ maximizers v, j.val = n) :
    S.min = ((firstMax v).val : WithTop Nat) := by
  apply le_antisymm
  · exact Finset.min_le ((hS _).mpr ⟨_, Finset.min'_mem _ _, rfl⟩)
  · refine Finset.le_min fun n hn => ?_
    obtain ⟨b, hb, rfl⟩ := (hS n).mp hn
    exact WithTop.coe_le_coe.mpr (Finset.min'_le _ _ hb)

/-- The position that the row-wise arg-max returns is the first greatest one. -/
theorem argMax_row (w : S1024x1024.Idx → EReal) (h : S1024x1024.Reduces [1] S1024) (i : Fin 1024) :
    Ideal.reduceIndex .argMax 1 h w (ix1 i) = BitVec.ofNat 32 (firstMax fun j => w (ix2 i j)).val := by
  have hdrop : ∀ a b : Fin 1024, h.drop (ix2 a b) = ix1 a := by
    intro a b
    funext x
    fin_cases x
    rfl
  have hfib : ∀ x : S1024x1024.Idx, h.drop x = ix1 i → ∃ b, x = ix2 i b := by
    intro x hx
    have hx' : x = ix2 (x 0) (x 1) := by
      funext a; fin_cases a <;> rfl
    have e := (hx.symm.trans (congrArg h.drop hx')).trans (hdrop (x 0) (x 1))
    have e' : i = x 0 := congrFun e 0
    refine ⟨x 1, ?_⟩
    rw [e']; exact hx'
  refine congrArg (BitVec.ofNat 32) (congrArg (fun o : Option Nat => o.getD 0) (min_of_maximizers _ (fun j => w (ix2 i j)) fun n => ?_))
  simp only [Finset.mem_image, Finset.mem_filter, Finset.mem_univ, true_and, maximizers, if_true, not_lt]
  constructor
  · rintro ⟨x, ⟨hx, hm⟩, rfl⟩
    obtain ⟨b, rfl⟩ := hfib x hx
    exact ⟨b, fun j' => hm (ix2 i j') (hdrop i j'), rfl⟩
  · rintro ⟨b, hm, rfl⟩
    refine ⟨ix2 i b, ⟨hdrop i b, fun x' hx' => ?_⟩, rfl⟩
    obtain ⟨b', rfl⟩ := hfib x' hx'
    exact hm b'

/-- The mask of the chosen position, one row at a time. -/
theorem sel_apply (w : Vec Ideal S1024x1024 .f32) (i j : Fin 1024) :
    k0_pay8 (F := Ideal) w (ix2 i j) = BitVec.ofBool (decide (j = firstMax fun j => w (ix2 i j))) := by
  pointwise [k0_pay8]
  refine (congrArg (IntOp.cmpi .eq _) (argMax_row w _ i)).trans ?_
  simp only [IntOp.cmpi]
  congr 1
  rw [beq_eq_decide]
  refine decide_eq_decide.mpr ⟨fun h => Fin.ext ?_, fun h => by rw [← h]⟩
  have := congrArg BitVec.toNat h
  simp only [BitVec.toNat_ofNat] at this
  omega

/-- Striking out the chosen position. -/
theorem strike_apply (w : Vec Ideal S1024x1024 .f32) (i j : Fin 1024) :
    k0_pay10 (F := Ideal) w (ix2 i j) = maskMax (fun j => w (ix2 i j)) j := by
  pointwise [k0_pay10]
  rw [sel_apply]
  unfold maskMax Scalar.select
  by_cases h : j = firstMax fun j => w (ix2 i j)
  · simp only [h, decide_true]; exact ofBits_negInf
  · simp [h]

/-- The mask as a number: one at the chosen position, zero elsewhere. -/
theorem hot_apply (w : Vec Ideal S1024x1024 .f32) (i j : Fin 1024) :
    (FloatOps.sitofp (F := Ideal) .f32 ((k0_pay8 (F := Ideal) w (ix2 i j)).setWidth 32) : EReal)
      = if j = firstMax fun j => w (ix2 i j) then 1 else 0 := by
  rw [sel_apply]
  by_cases h : j = firstMax fun j => w (ix2 i j)
  · rw [if_pos h, decide_eq_true h]; show ((((1#32 : BitVec 32).toInt : ℝ)) : EReal) = 1; simp
  · rw [if_neg h, decide_eq_false h]; show ((((0#32 : BitVec 32).toInt : ℝ)) : EReal) = 0; simp

theorem k2_sel (w : Vec Ideal S1024x1024 .f32) : k2_pay8 (F := Ideal) w = k0_pay8 (F := Ideal) w := rfl
theorem k4_sel (w : Vec Ideal S1024x1024 .f32) : k4_pay8 (F := Ideal) w = k0_pay8 (F := Ideal) w := rfl
theorem k6_sel (w : Vec Ideal S1024x1024 .f32) : k6_pay8 (F := Ideal) w = k0_pay8 (F := Ideal) w := rfl

/-- The edges' convolution with 3 channels in and 64 out. -/
theorem conv0_apply (v0 : Vec Ideal S1x1024x128 .f32) (w : Vec Ideal S1024x1024 .f32) (v56 : Vec Ideal S6x64 .f32)
    (hX : ∀ i q, IsReal (v0 (ix3 0 i q))) (i : Fin 1024) (o : Fin 64) :
    k0_pay9 (F := Ideal) v0 w v56 (ix2 i o)
      = edgeConv (c := 3) rfl (fun i q => v0 (ix3 0 i (q.castLE (by decide)))) (fun q o => v56 (ix2 q o)) i (firstMax fun j => w (ix2 i j)) o := by
  pointwise [k0_pay9, k0_pay3]
  unfold edgeConv edgeFeat
  refine Finset.sum_congr rfl fun q _ => congrArg (· * _) ?_
  by_cases h : (q : Nat) < 3
  · simp only [h, dif_pos, if_pos, hot_apply, sum_oneHot]
    rw [dif_neg (by omega), dif_neg (by omega)]
    simp only [(hX _ _).sub_self, add_zero, sub_zero]
    rfl
  · simp only [h, dif_neg, if_neg, not_false_iff]
    rfl

/-- The edges' convolution with 64 channels in and 64 out. -/
theorem conv2_apply (v0 : Vec Ideal S1x1024x128 .f32) (w : Vec Ideal S1024x1024 .f32) (v56 : Vec Ideal S128x64 .f32)
    (hX : ∀ i q, IsReal (v0 (ix3 0 i q))) (i : Fin 1024) (o : Fin 64) :
    k2_pay9 (F := Ideal) v0 w v56 (ix2 i o)
      = edgeConv (c := 64) rfl (fun i q => v0 (ix3 0 i (q.castLE (by decide)))) (fun q o => v56 (ix2 q o)) i (firstMax fun j => w (ix2 i j)) o := by
  pointwise [k2_pay9, k2_pay3]
  unfold edgeConv edgeFeat
  refine Finset.sum_congr rfl fun q _ => congrArg (· * _) ?_
  by_cases h : (q : Nat) < 64
  · simp only [k2_sel, h, dif_pos, if_pos, hot_apply, sum_oneHot]
    rw [dif_neg (by omega), dif_neg (by omega)]
    simp only [(hX _ _).sub_self, add_zero, sub_zero]
    rfl
  · simp only [h, dif_neg, if_neg, not_false_iff]
    rfl

/-- The edges' convolution with 64 channels in and 128 out. -/
theorem conv4_apply (v0 : Vec Ideal S1x1024x128 .f32) (w : Vec Ideal S1024x1024 .f32) (v56 : Vec Ideal S128x128 .f32)
    (hX : ∀ i q, IsReal (v0 (ix3 0 i q))) (i : Fin 1024) (o : Fin 128) :
    k4_pay9 (F := Ideal) v0 w v56 (ix2 i o)
      = edgeConv (c := 64) rfl (fun i q => v0 (ix3 0 i (q.castLE (by decide)))) (fun q o => v56 (ix2 q o)) i (firstMax fun j => w (ix2 i j)) o := by
  pointwise [k4_pay9, k4_pay3]
  unfold edgeConv edgeFeat
  refine Finset.sum_congr rfl fun q _ => congrArg (· * _) ?_
  by_cases h : (q : Nat) < 64
  · simp only [k4_sel, h, dif_pos, if_pos, hot_apply, sum_oneHot]
    rw [dif_neg (by omega), dif_neg (by omega)]
    simp only [(hX _ _).sub_self, add_zero, sub_zero]
    rfl
  · simp only [h, dif_neg, if_neg, not_false_iff]
    rfl

/-- The edges' convolution with 128 channels in and 256 out. -/
theorem conv6_apply (v0 : Vec Ideal S1x1024x128 .f32) (w : Vec Ideal S1024x1024 .f32) (v56 : Vec Ideal S256x256 .f32)
    (hX : ∀ i q, IsReal (v0 (ix3 0 i q))) (i : Fin 1024) (o : Fin 256) :
    k6_pay9 (F := Ideal) v0 w v56 (ix2 i o)
      = edgeConv (c := 128) rfl (fun i q => v0 (ix3 0 i q)) (fun q o => v56 (ix2 q o)) i (firstMax fun j => w (ix2 i j)) o := by
  pointwise [k6_pay9, k6_pay3]
  unfold edgeConv edgeFeat
  refine Finset.sum_congr rfl fun q _ => congrArg (· * _) ?_
  by_cases h : (q : Nat) < 128
  · simp only [k6_sel, h, dif_pos, if_pos, hot_apply, sum_oneHot]
    rw [dif_neg (by omega), dif_neg (by omega)]
    simp only [(hX _ _).sub_self, add_zero, sub_zero]
  · simp only [h, dif_neg, if_neg, not_false_iff]

end Cert.Proof
end
-- ==== Proof.Edge0.lean ====
/- What the first edge stage computes for one cloud of points: the greatest convolution over each
   point's twenty neighbours, and the sums of the convolutions and of their squares. -/
module

public import proofs.«01_k».proof.Proof.Gen.KernelIdeal.Frame.Region0
public import proofs.«01_k».proof.Proof.EdgeStep
public import Idealize.ShloMosaic.Lib.Pipeline.ValueKit

@[expose] public section

set_option maxRecDepth 16384

noncomputable section

namespace Cert.Proof

open Idealize.ShloMosaic Idealize.ShloMosaic.TcCoe Idealize.SL.Sem Cert.KernelIdeal Cert.KernelIdeal.Gen

section block0

variable (c : Dev nD) (t : Fin cfg0.N)

/-- One trip of the loop. -/
theorem trip0 (v0 : Vec Ideal S1x1024x128 .f32) (x2 : Vec Ideal S6x64 .f32) (k : Fin k0_t1_loop.trips) (acc) :
    tripR_k0_t1 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) v0 ((hs0_2 t).unread x2) k acc
      = (k0_pay10 acc.1, k0_pay11 v0 acc.1 acc.2.1 x2, k0_pay12 v0 acc.1 acc.2.2.1 x2, k0_pay13 v0 acc.1 acc.2.2.2 x2) := by
  unfold tripR_k0_t1 trip_k0_t1
  dsimp only
  frame_out

/-- The carried arrays before trip `n`. -/
abbrev carried0 (v0 : Vec Ideal S1x1024x128 .f32) (v5 : Vec Ideal S1x1x1024 .f32) (x2 : Vec Ideal S6x64 .f32) (n : Nat) :=
  st_k0_t1 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) v0 ((hs0_2 t).unread x2)
    (k0_pay4 v0 v5, k0_pay5, k0_pay6, k0_pay7) n

theorem carried0_succ (v0 : Vec Ideal S1x1024x128 .f32) (v5 : Vec Ideal S1x1x1024 .f32) (x2 : Vec Ideal S6x64 .f32) (n : Nat) (hn : n < 20) :
    carried0 c t v0 v5 x2 (n + 1) = (k0_pay10 (carried0 c t v0 v5 x2 n).1,
      k0_pay11 v0 (carried0 c t v0 v5 x2 n).1 (carried0 c t v0 v5 x2 n).2.1 x2,
      k0_pay12 v0 (carried0 c t v0 v5 x2 n).1 (carried0 c t v0 v5 x2 n).2.2.1 x2,
      k0_pay13 v0 (carried0 c t v0 v5 x2 n).1 (carried0 c t v0 v5 x2 n).2.2.2 x2) :=
  (st_k0_t1_succ Variants.none c none (grid0.coords t) (ms0_0 t) (hs0_0 t) (ms0_1 t) (hs0_1 t) (ms0_2 t) (hs0_2 t) (ms0_3 t) (hs0_3 t) (ms0_4 t) (hs0_4 t) (ms0_5 t) (hs0_5 t) v0 ((hs0_2 t).unread x2) _ ⟨n, hn⟩).trans (trip0 c t v0 x2 _ _)

variable (X : Fin 1024 → Fin 3 → EReal) (v0 : Vec Ideal S1x1024x128 .f32) (v5 : Vec Ideal S1x1x1024 .f32) (x2 : Vec Ideal S6x64 .f32)
  (hX : ∀ i q, IsReal (X i q)) (h0 : ∀ i q, v0 (ix3 0 i q) = if h : (q : Nat) < 3 then X i ⟨q, h⟩ else 0)
  (h5 : ∀ j, v5 (ix3 0 0 j) = sqNorm X j)
include h0 h5

omit c t in
/-- The scores of the pairs: the columns beyond the channels are zero. -/
theorem score0_apply (i j : Fin 1024) : k0_pay4 (F := Ideal) v0 v5 (ix2 i j) = score X i j := by
  pointwise [k0_pay4, k0_pay3]
  rw [h5, h5, zero_sub, sum_padded (c := 3) (by decide) _ (fun q => X i q * X j q)]
  · rfl
  · intro q; rw [h0, h0]; split <;> simp

include hX

/-- What the loop leaves after its last trip. -/
theorem carried0_last :
    (∀ i o, (carried0 c t v0 v5 x2 20).2.1 (ix2 i o) = edgeMax rfl X (fun q o => x2 (ix2 q o)) i o)
      ∧ (∀ o, (carried0 c t v0 v5 x2 20).2.2.1 (ix2 0 o) = edgeSum rfl X (fun q o => x2 (ix2 q o)) o)
      ∧ (∀ o, (carried0 c t v0 v5 x2 20).2.2.2 (ix2 0 o) = edgeSq rfl X (fun q o => x2 (ix2 q o)) o) := by
  have hv : ∀ i q, IsReal (v0 (ix3 0 i q)) := fun i q => by
    rw [h0]; split
    · exact hX _ _
    · exact IsReal.zero
  have hXe : (fun (i : Fin 1024) (q : Fin 3) => v0 (ix3 0 i (q.castLE (by decide)))) = X := by
    funext i q; rw [h0]; exact dif_pos q.isLt
  have hconv : ∀ w i o, k0_pay9 (F := Ideal) v0 w x2 (ix2 i o)
      = edgeConv rfl X (fun q o => x2 (ix2 q o)) i (firstMax fun j => w (ix2 i j)) o := fun w i o => by
    rw [conv0_apply v0 w x2 hv, hXe]
  refine loop_result rfl X (fun q o => x2 (ix2 q o)) (fun n i j => (carried0 c t v0 v5 x2 n).1 (ix2 i j))
    (fun n i o => (carried0 c t v0 v5 x2 n).2.1 (ix2 i o)) (fun n o => (carried0 c t v0 v5 x2 n).2.2.1 (ix2 0 o))
    (fun n o => (carried0 c t v0 v5 x2 n).2.2.2 (ix2 0 o)) ?_ ?_ ?_ ?_ ?_ ?_ ?_ ?_
  · exact fun i => funext fun j => score0_apply X v0 v5 h0 h5 i j
  · exact fun i o => ofBits_negInf
  · exact fun o => Ideal.ofBits_zero_f32
  · exact fun o => Ideal.ofBits_zero_f32
  · intro n hn i
    funext j
    rw [carried0_succ c t v0 v5 x2 n hn]
    exact strike_apply _ i j
  · intro n hn i o
    simp only [carried0_succ c t v0 v5 x2 n hn]
    rw [← hconv]; rfl
  · intro n hn o
    simp only [carried0_succ c t v0 v5 x2 n hn]
    simp only [← hconv]
    pointwise [k0_pay12]
  · intro n hn o
    simp only [carried0_succ c t v0 v5 x2 n hn]
    simp only [← hconv]
    pointwise [k0_pay13]

/-- The block of maxima. -/
theorem block0_max (i : Fin 1024) (o : Fin 64) :
    out0_A_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) v0 v5 x2 (ix3 0 i o) = edgeMax rfl X (fun q o => x2 (ix2 q o)) i o := by
  frame_out
  rw [← (carried0_last c t X v0 v5 x2 hX h0 h5).1]
  pointwise [k0_pay14]
  rfl

/-- The block of sums. -/
theorem block0_sum (o : Fin 64) :
    out0_A_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) v0 v5 x2 (ix3 0 0 o) = edgeSum rfl X (fun q o => x2 (ix2 q o)) o := by
  frame_out
  rw [← (carried0_last c t X v0 v5 x2 hX h0 h5).2.1]
  pointwise [k0_pay1, k0_pay15]
  rfl

/-- The block of sums of squares. -/
theorem block0_sq (o : Fin 64) :
    out0_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) v0 v5 x2 (ix3 0 0 o) = edgeSq rfl X (fun q o => x2 (ix2 q o)) o := by
  frame_out
  rw [← (carried0_last c t X v0 v5 x2 hX h0 h5).2.2]
  pointwise [k0_pay2]
  rfl

end block0

end Cert.Proof
end
-- ==== Proof.Place.lean ====
/- Indices of a block that is one slice of an array along its first axis. -/
module

public import Idealize.ShloMosaic.Lib.Pointwise

@[expose] public section

noncomputable section

namespace Cert.Proof

open Idealize.ShloMosaic

/-- An index of a block of one slice. -/
theorem block_idx {n k : Nat} (y : (⟨3, ![1, n, k]⟩ : Shape).Idx) : ∃ i o, y = ix3 0 i o := by
  refine ⟨y 1, y 2, funext fun a => ?_⟩
  fin_cases a
  · exact Subsingleton.elim (α := Fin 1) _ _
  · rfl
  · rfl

/-- An index of a block of one row of one slice. -/
theorem row_idx {k : Nat} (y : (⟨3, ![1, 1, k]⟩ : Shape).Idx) : ∃ o, y = ix3 0 0 o := by
  obtain ⟨i, o, rfl⟩ := block_idx y
  exact ⟨o, by rw [Subsingleton.elim (α := Fin 1) i 0]⟩

/-- The sum over all slices of an array of rows. -/
theorem reduceAdd_slices {k : Nat} (h : (⟨3, ![16, 1, k]⟩ : Shape).Reduces [0, 1] ⟨1, ![k]⟩)
    (v : (⟨3, ![16, 1, k]⟩ : Shape).Idx → EReal) (o : Fin k) :
    Ideal.reduceAdd h v (ix1 o) = ∑ b : Fin 16, v (ix3 b 0 o) := by
  have hdrop : ∀ (b : Fin 16) (a : Fin 1) (o : Fin k), h.drop (ix3 b a o) = ix1 o := by
    intro b a o; funext x; fin_cases x; rfl
  have hix : ∀ x : (⟨3, ![16, 1, k]⟩ : Shape).Idx, x = ix3 (x 0) 0 (x 2) := by
    intro x; funext a; fin_cases a
    · rfl
    · exact Subsingleton.elim (α := Fin 1) _ _
    · rfl
  unfold Ideal.reduceAdd
  refine Finset.sum_nbij' (fun x => x 0) (fun b => ix3 b 0 o) (fun _ _ => Finset.mem_univ _)
    (fun b _ => Finset.mem_filter.mpr ⟨Finset.mem_univ _, hdrop b 0 o⟩) ?_ (fun b _ => rfl) ?_ <;>
  · intro x hx
    have e := (Finset.mem_filter.mp hx).2
    have e' : x 2 = o := by
      have := congrFun (((congrArg h.drop (hix x)).symm.trans e)) 0
      exact this
    have hx' : x = ix3 (x 0) 0 o := (hix x).trans (congrArg (fun o : Fin k => ix3 (x 0) (0 : Fin 1) o) e')
    first | exact hx'.symm | exact congrArg v hx'

end Cert.Proof
end
-- ==== Proof.EdgeArr0.lean ====
/- The arrays that the first edge stage leaves: one block of each for every cloud of points. -/
module

public import proofs.«01_k».proof.Proof.Edge0
public import proofs.«01_k».proof.Proof.Place

@[expose] public section

set_option maxRecDepth 16384

noncomputable section

namespace Cert.Proof

open Idealize.ShloMosaic Idealize.ShloMosaic.TcCoe Idealize.SL.Sem Cert.KernelIdeal Cert.KernelIdeal.Gen
open Idealize.ShloMosaic.Pipeline (Dat)

/-! Where the blocks of grid point `t` lie in their arrays: slice `t`, or the whole of the weights. -/

theorem place0_0 (t : Fin cfg0.N) (i : Fin 1024) (q : Fin 128) :
    ((cfg0.win 0).blk t).view.emb (ix3 0 i q) = ix3 (t.cast N_0) i q := by
  have e : ∀ t : Fin cfg0.N, win0_0.index t = ![t.val, 0, 0] := by decide +kernel
  funext a
  apply Fin.ext
  fin_cases a <;> blk_simp [e] <;> simp

theorem place0_1 (t : Fin cfg0.N) (j : Fin 1024) :
    ((cfg0.win 1).blk t).view.emb (ix3 0 0 j) = ix3 (t.cast N_0) 0 j := by
  have e : ∀ t : Fin cfg0.N, win0_1.index t = ![t.val, 0, 0] := by decide +kernel
  funext a
  apply Fin.ext
  fin_cases a <;> blk_simp [e] <;> simp

theorem place0_2 (t : Fin cfg0.N) (q : Fin 6) (o : Fin 64) :
    ((cfg0.win 2).blk t).view.emb (ix2 q o) = ix2 q o := by
  have e : ∀ t : Fin cfg0.N, win0_2.index t = ![0, 0] := by decide +kernel
  funext a
  apply Fin.ext
  fin_cases a <;> blk_simp [e] <;> simp

theorem place0_3 (t : Fin cfg0.N) (i : Fin 1024) (o : Fin 64) :
    ((cfg0.win 3).blk t).view.emb (ix3 0 i o) = ix3 (t.cast N_0) i o := by
  have e : ∀ t : Fin cfg0.N, win0_3.index t = ![t.val, 0, 0] := by decide +kernel
  funext a
  apply Fin.ext
  fin_cases a <;> blk_simp [e] <;> simp

theorem place0_4 (t : Fin cfg0.N) (o : Fin 64) :
    ((cfg0.win 4).blk t).view.emb (ix3 0 0 o) = ix3 (t.cast N_0) 0 o := by
  have e : ∀ t : Fin cfg0.N, win0_4.index t = ![t.val, 0, 0] := by decide +kernel
  funext a
  apply Fin.ext
  fin_cases a <;> blk_simp [e] <;> simp

theorem place0_5 (t : Fin cfg0.N) (o : Fin 64) :
    ((cfg0.win 5).blk t).view.emb (ix3 0 0 o) = ix3 (t.cast N_0) 0 o := by
  have e : ∀ t : Fin cfg0.N, win0_5.index t = ![t.val, 0, 0] := by decide +kernel
  funext a
  apply Fin.ext
  fin_cases a <;> blk_simp [e] <;> simp

section arrays0

variable (V : (c : Dev nD) → (b : Ref sig .tc) → Buf (Elt Ideal) ((c : Thread nD τ).loc b)) (c : Dev nD)
  (X : Fin 16 → Fin 1024 → Fin 3 → EReal) (W : Fin 6 → Fin 64 → EReal) (hX : ∀ b i q, IsReal (X b i q))
  (hx : ∀ b i q, V c main_v1 (ix3 b i q) = if h : (q : Nat) < 3 then X b i ⟨q, h⟩ else 0)
  (hxx : ∀ b j, V c main_v4 (ix3 b 0 j) = sqNorm (X b) j)
  (hW : ∀ q o, V c main_v5 (ix2 q o) = W q o)
include hX hx hxx hW

/-- The array of the greatest convolutions. -/
theorem arr0_max : (dat0 (F := Ideal) V c).arrAt 3 cfg0.N = fun y : S16x1024x64.Idx => edgeMax rfl (X (y 0)) W (y 1) (y 2) := by
  refine (dat0 (F := Ideal) V c).arrAt_eq_of_covers 3 _ (by decide +kernel) fun t hf (y : S1x1024x64.Idx) => ?_
  obtain ⟨i, o, hy⟩ := block_idx y
  rw [after0_3]
  unfold outsAt0
  dsimp only
  blk_simp
  subst hy
  refine (block0_max c t (X (t.cast N_0)) (iblk0 V c 0 t) (iblk0 V c 1 t) (iblk0 V c 2 t) (hX _)
    (fun i q => (congrArg (V c main_v1) (place0_0 t i q)).trans (hx _ i q))
    (fun j => (congrArg (V c main_v4) (place0_1 t j)).trans (hxx _ j)) i o).trans ?_
  have hw : (fun q o => iblk0 V c 2 t (ix2 q o)) = W :=
    funext fun q => funext fun o => (congrArg (V c main_v5) (place0_2 t q o)).trans (hW q o)
  have hp : (win0_3.blk t).view.emb (ix3 0 i o) = ix3 (t.cast N_0) i o := place0_3 t i o
  rw [hw, hp]
  rfl

/-- The array of the sums of the convolutions. -/
theorem arr0_sum : (dat0 (F := Ideal) V c).arrAt 4 cfg0.N = fun y : S16x1x64.Idx => edgeSum rfl (X (y 0)) W (y 2) := by
  refine (dat0 (F := Ideal) V c).arrAt_eq_of_covers 4 _ (by decide +kernel) fun t hf (y : S1x1x64.Idx) => ?_
  obtain ⟨o, hy⟩ := row_idx y
  rw [after0_4]
  unfold outsAt0
  dsimp only
  blk_simp
  subst hy
  refine (block0_sum c t (X (t.cast N_0)) (iblk0 V c 0 t) (iblk0 V c 1 t) (iblk0 V c 2 t) (hX _)
    (fun i q => (congrArg (V c main_v1) (place0_0 t i q)).trans (hx _ i q))
    (fun j => (congrArg (V c main_v4) (place0_1 t j)).trans (hxx _ j)) o).trans ?_
  have hw : (fun q o => iblk0 V c 2 t (ix2 q o)) = W :=
    funext fun q => funext fun o => (congrArg (V c main_v5) (place0_2 t q o)).trans (hW q o)
  have hp : (win0_4.blk t).view.emb (ix3 0 0 o) = ix3 (t.cast N_0) 0 o := place0_4 t o
  rw [hw, hp]
  rfl

/-- The array of the sums of their squares. -/
theorem arr0_sq : (dat0 (F := Ideal) V c).arrAt 5 cfg0.N = fun y : S16x1x64.Idx => edgeSq rfl (X (y 0)) W (y 2) := by
  refine (dat0 (F := Ideal) V c).arrAt_eq_of_covers 5 _ (by decide +kernel) fun t hf (y : S1x1x64.Idx) => ?_
  obtain ⟨o, hy⟩ := row_idx y
  rw [after0_5]
  unfold outsAt0
  dsimp only
  blk_simp
  subst hy
  refine (block0_sq c t (X (t.cast N_0)) (iblk0 V c 0 t) (iblk0 V c 1 t) (iblk0 V c 2 t) (hX _)
    (fun i q => (congrArg (V c main_v1) (place0_0 t i q)).trans (hx _ i q))
    (fun j => (congrArg (V c main_v4) (place0_1 t j)).trans (hxx _ j)) o).trans ?_
  have hw : (fun q o => iblk0 V c 2 t (ix2 q o)) = W :=
    funext fun q => funext fun o => (congrArg (V c main_v5) (place0_2 t q o)).trans (hW q o)
  have hp : (win0_5.blk t).view.emb (ix3 0 0 o) = ix3 (t.cast N_0) 0 o := place0_5 t o
  rw [hw, hp]
  rfl

end arrays0

end Cert.Proof
end
-- ==== Proof.Edge2.lean ====
/- What the second edge stage computes for one cloud of points: the greatest convolution over each
   point's twenty neighbours, and the sums of the convolutions and of their squares. -/
module

public import proofs.«01_k».proof.Proof.Gen.KernelIdeal.Frame.Region2
public import proofs.«01_k».proof.Proof.EdgeStep
public import Idealize.ShloMosaic.Lib.Pipeline.ValueKit

@[expose] public section

set_option maxRecDepth 16384

noncomputable section

namespace Cert.Proof

open Idealize.ShloMosaic Idealize.ShloMosaic.TcCoe Idealize.SL.Sem Cert.KernelIdeal Cert.KernelIdeal.Gen

section block2

variable (c : Dev nD) (t : Fin cfg2.N)

/-- One trip of the loop. -/
theorem trip2 (v0 : Vec Ideal S1x1024x128 .f32) (x2 : Vec Ideal S128x64 .f32) (k : Fin k2_t1_loop.trips) (acc) :
    tripR_k2_t1 (F := Ideal) Variants.none c none (grid2.coords t) (ms2_0 t) (hs2_0 t) (ms2_1 t) (hs2_1 t) (ms2_2 t) (hs2_2 t) (ms2_3 t) (hs2_3 t) (ms2_4 t) (hs2_4 t) (ms2_5 t) (hs2_5 t) v0 ((hs2_2 t).unread x2) k acc
      = (k2_pay10 acc.1, k2_pay11 v0 acc.1 acc.2.1 x2, k2_pay12 v0 acc.1 acc.2.2.1 x2, k2_pay13 v0 acc.1 acc.2.2.2 x2) := by
  unfold tripR_k2_t1 trip_k2_t1
  dsimp only
  frame_out

/-- The carried arrays before trip `n`. -/
abbrev carried2 (v0 : Vec Ideal S1x1024x128 .f32) (v5 : Vec Ideal S1x1x1024 .f32) (x2 : Vec Ideal S128x64 .f32) (n : Nat) :=
  st_k2_t1 (F := Ideal) Variants.none c none (grid2.coords t) (ms2_0 t) (hs2_0 t) (ms2_1 t) (hs2_1 t) (ms2_2 t) (hs2_2 t) (ms2_3 t) (hs2_3 t) (ms2_4 t) (hs2_4 t) (ms2_5 t) (hs2_5 t) v0 ((hs2_2 t).unread x2)
    (k2_pay4 v0 v5, k2_pay5, k2_pay6, k2_pay7) n

theorem carried2_succ (v0 : Vec Ideal S1x1024x128 .f32) (v5 : Vec Ideal S1x1x1024 .f32) (x2 : Vec Ideal S128x64 .f32) (n : Nat) (hn : n < 20) :
    carried2 c t v0 v5 x2 (n + 1) = (k2_pay10 (carried2 c t v0 v5 x2 n).1,
      k2_pay11 v0 (carried2 c t v0 v5 x2 n).1 (carried2 c t v0 v5 x2 n).2.1 x2,
      k2_pay12 v0 (carried2 c t v0 v5 x2 n).1 (carried2 c t v0 v5 x2 n).2.2.1 x2,
      k2_pay13 v0 (carried2 c t v0 v5 x2 n).1 (carried2 c t v0 v5 x2 n).2.2.2 x2) :=
  (st_k2_t1_succ Variants.none c none (grid2.coords t) (ms2_0 t) (hs2_0 t) (ms2_1 t) (hs2_1 t) (ms2_2 t) (hs2_2 t) (ms2_3 t) (hs2_3 t) (ms2_4 t) (hs2_4 t) (ms2_5 t) (hs2_5 t) v0 ((hs2_2 t).unread x2) _ ⟨n, hn⟩).trans (trip2 c t v0 x2 _ _)

variable (X : Fin 1024 → Fin 64 → EReal) (v0 : Vec Ideal S1x1024x128 .f32) (v5 : Vec Ideal S1x1x1024 .f32) (x2 : Vec Ideal S128x64 .f32)
  (hX : ∀ i q, IsReal (X i q)) (h0 : ∀ i q, v0 (ix3 0 i q) = if h : (q : Nat) < 64 then X i ⟨q, h⟩ else 0)
  (h5 : ∀ j, v5 (ix3 0 0 j) = sqNorm X j)
include h0 h5

omit c t in
/-- The scores of the pairs: the columns beyond the channels are zero. -/
theorem score2_apply (i j : Fin 1024) : k2_pay4 (F := Ideal) v0 v5 (ix2 i j) = score X i j := by
  pointwise [k2_pay4, k2_pay3]
  rw [h5, h5, zero_sub, sum_padded (c := 64) (by decide) _ (fun q => X i q * X j q)]
  · rfl
  · intro q; rw [h0, h0]; split <;> simp

include hX

/-- What the loop leaves after its last trip. -/
theorem carried2_last :
    (∀ i o, (carried2 c t v0 v5 x2 20).2.1 (ix2 i o) = edgeMax rfl X (fun q o => x2 (ix2 q o)) i o)
      ∧ (∀ o, (carried2 c t v0 v5 x2 20).2.2.1 (ix2 0 o) = edgeSum rfl X (fun q o => x2 (ix2 q o)) o)
      ∧ (∀ o, (carried2 c t v0 v5 x2 20).2.2.2 (ix2 0 o) = edgeSq rfl X (fun q o => x2 (ix2 q o)) o) := by
  have hv : ∀ i q, IsReal (v0 (ix3 0 i q)) := fun i q => by
    rw [h0]; split
    · exact hX _ _
    · exact IsReal.zero
  have hXe : (fun (i : Fin 1024) (q : Fin 64) => v0 (ix3 0 i (q.castLE (by decide)))) = X := by
    funext i q; rw [h0]; exact dif_pos q.isLt
  have hconv : ∀ w i o, k2_pay9 (F := Ideal) v0 w x2 (ix2 i o)
      = edgeConv rfl X (fun q o => x2 (ix2 q o)) i (firstMax fun j => w (ix2 i j)) o := fun w i o => by
    rw [conv2_apply v0 w x2 hv, hXe]
  refine loop_result rfl X (fun q o => x2 (ix2 q o)) (fun n i j => (carried2 c t v0 v5 x2 n).1 (ix2 i j))
    (fun n i o => (carried2 c t v0 v5 x2 n).2.1 (ix2 i o)) (fun n o => (carried2 c t v0 v5 x2 n).2.2.1 (ix2 0 o))
    (fun n o => (carried2 c t v0 v5 x2 n).2.2.2 (ix2 0 o)) ?_ ?_ ?_ ?_ ?_ ?_ ?_ ?_
  · exact fun i => funext fun j => score2_apply X v0 v5 h0 h5 i j
  · exact fun i o => ofBits_negInf
  · exact fun o => Ideal.ofBits_zero_f32
  · exact fun o => Ideal.ofBits_zero_f32
  · intro n hn i
    funext j
    rw [carried2_succ c t v0 v5 x2 n hn]
    exact strike_apply _ i j
  · intro n hn i o
    simp only [carried2_succ c t v0 v5 x2 n hn]
    rw [← hconv]; rfl
  · intro n hn o
    simp only [carried2_succ c t v0 v5 x2 n hn]
    simp only [← hconv]
    pointwise [k2_pay12]
  · intro n hn o
    simp only [carried2_succ c t v0 v5 x2 n hn]
    simp only [← hconv]
    pointwise [k2_pay13]

/-- The block of maxima. -/
theorem block2_max (i : Fin 1024) (o : Fin 64) :
    out2_A_3 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) v0 v5 x2 (ix3 0 i o) = edgeMax rfl X (fun q o => x2 (ix2 q o)) i o := by
  frame_out
  rw [← (carried2_last c t X v0 v5 x2 hX h0 h5).1]
  pointwise [k2_pay14]
  rfl

/-- The block of sums. -/
theorem block2_sum (o : Fin 64) :
    out2_A_4 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) v0 v5 x2 (ix3 0 0 o) = edgeSum rfl X (fun q o => x2 (ix2 q o)) o := by
  frame_out
  rw [← (carried2_last c t X v0 v5 x2 hX h0 h5).2.1]
  pointwise [k2_pay1, k2_pay15]
  rfl

/-- The block of sums of squares. -/
theorem block2_sq (o : Fin 64) :
    out2_A_5 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) v0 v5 x2 (ix3 0 0 o) = edgeSq rfl X (fun q o => x2 (ix2 q o)) o := by
  frame_out
  rw [← (carried2_last c t X v0 v5 x2 hX h0 h5).2.2]
  pointwise [k2_pay2]
  rfl

end block2

end Cert.Proof
end
-- ==== Proof.EdgeArr2.lean ====
/- The arrays that the second edge stage leaves: one block of each for every cloud of points. -/
module

public import proofs.«01_k».proof.Proof.Edge2
public import proofs.«01_k».proof.Proof.Place

@[expose] public section

set_option maxRecDepth 16384

noncomputable section

namespace Cert.Proof

open Idealize.ShloMosaic Idealize.ShloMosaic.TcCoe Idealize.SL.Sem Cert.KernelIdeal Cert.KernelIdeal.Gen
open Idealize.ShloMosaic.Pipeline (Dat)

/-! Where the blocks of grid point `t` lie in their arrays: slice `t`, or the whole of the weights. -/

theorem place2_0 (t : Fin cfg2.N) (i : Fin 1024) (q : Fin 128) :
    ((cfg2.win 0).blk t).view.emb (ix3 0 i q) = ix3 (t.cast N_2) i q := by
  have e : ∀ t : Fin cfg2.N, win2_0.index t = ![t.val, 0, 0] := by decide +kernel
  funext a
  apply Fin.ext
  fin_cases a <;> blk_simp [e] <;> simp

theorem place2_1 (t : Fin cfg2.N) (j : Fin 1024) :
    ((cfg2.win 1).blk t).view.emb (ix3 0 0 j) = ix3 (t.cast N_2) 0 j := by
  have e : ∀ t : Fin cfg2.N, win2_1.index t = ![t.val, 0, 0] := by decide +kernel
  funext a
  apply Fin.ext
  fin_cases a <;> blk_simp [e] <;> simp

theorem place2_2 (t : Fin cfg2.N) (q : Fin 128) (o : Fin 64) :
    ((cfg2.win 2).blk t).view.emb (ix2 q o) = ix2 q o := by
  have e : ∀ t : Fin cfg2.N, win2_2.index t = ![0, 0] := by decide +kernel
  funext a
  apply Fin.ext
  fin_cases a <;> blk_simp [e] <;> simp

theorem place2_3 (t : Fin cfg2.N) (i : Fin 1024) (o : Fin 64) :
    ((cfg2.win 3).blk t).view.emb (ix3 0 i o) = ix3 (t.cast N_2) i o := by
  have e : ∀ t : Fin cfg2.N, win2_3.index t = ![t.val, 0, 0] := by decide +kernel
  funext a
  apply Fin.ext
  fin_cases a <;> blk_simp [e] <;> simp

theorem place2_4 (t : Fin cfg2.N) (o : Fin 64) :
    ((cfg2.win 4).blk t).view.emb (ix3 0 0 o) = ix3 (t.cast N_2) 0 o := by
  have e : ∀ t : Fin cfg2.N, win2_4.index t = ![t.val, 0, 0] := by decide +kernel
  funext a
  apply Fin.ext
  fin_cases a <;> blk_simp [e] <;> simp

theorem place2_5 (t : Fin cfg2.N) (o : Fin 64) :
    ((cfg2.win 5).blk t).view.emb (ix3 0 0 o) = ix3 (t.cast N_2) 0 o := by
  have e : ∀ t : Fin cfg2.N, win2_5.index t = ![t.val, 0, 0] := by decide +kernel
  funext a
  apply Fin.ext
  fin_cases a <;> blk_simp [e] <;> simp

section arrays2

variable (V : (c : Dev nD) → (b : Ref sig .tc) → Buf (Elt Ideal) ((c : Thread nD τ).loc b)) (c : Dev nD)
  (X : Fin 16 → Fin 1024 → Fin 64 → EReal) (W : Fin 128 → Fin 64 → EReal) (hX : ∀ b i q, IsReal (X b i q))
  (hx : ∀ b i q, V c main_v9 (ix3 b i q) = if h : (q : Nat) < 64 then X b i ⟨q, h⟩ else 0)
  (hxx : ∀ b j, V c main_v14 (ix3 b 0 j) = sqNorm (X b) j)
  (hW : ∀ q o, V c main_v15 (ix2 q o) = W q o)
include hX hx hxx hW

/-- The array of the greatest convolutions. -/
theorem arr2_max : (dat2 (F := Ideal) V c).arrAt 3 cfg2.N = fun y : S16x1024x64.Idx => edgeMax rfl (X (y 0)) W (y 1) (y 2) := by
  refine (dat2 (F := Ideal) V c).arrAt_eq_of_covers 3 _ (by decide +kernel) fun t hf (y : S1x1024x64.Idx) => ?_
  obtain ⟨i, o, hy⟩ := block_idx y
  rw [after2_3]
  unfold outsAt2
  dsimp only
  blk_simp
  subst hy
  refine (block2_max c t (X (t.cast N_2)) (iblk2 V c 0 t) (iblk2 V c 1 t) (iblk2 V c 2 t) (hX _)
    (fun i q => (congrArg (V c main_v9) (place2_0 t i q)).trans (hx _ i q))
    (fun j => (congrArg (V c main_v14) (place2_1 t j)).trans (hxx _ j)) i o).trans ?_
  have hw : (fun q o => iblk2 V c 2 t (ix2 q o)) = W :=
    funext fun q => funext fun o => (congrArg (V c main_v15) (place2_2 t q o)).trans (hW q o)
  have hp : (win2_3.blk t).view.emb (ix3 0 i o) = ix3 (t.cast N_2) i o := place2_3 t i o
  rw [hw, hp]
  rfl

/-- The array of the sums of the convolutions. -/
theorem arr2_sum : (dat2 (F := Ideal) V c).arrAt 4 cfg2.N = fun y : S16x1x64.Idx => edgeSum rfl (X (y 0)) W (y 2) := by
  refine (dat2 (F := Ideal) V c).arrAt_eq_of_covers 4 _ (by decide +kernel) fun t hf (y : S1x1x64.Idx) => ?_
  obtain ⟨o, hy⟩ := row_idx y
  rw [after2_4]
  unfold outsAt2
  dsimp only
  blk_simp
  subst hy
  refine (block2_sum c t (X (t.cast N_2)) (iblk2 V c 0 t) (iblk2 V c 1 t) (iblk2 V c 2 t) (hX _)
    (fun i q => (congrArg (V c main_v9) (place2_0 t i q)).trans (hx _ i q))
    (fun j => (congrArg (V c main_v14) (place2_1 t j)).trans (hxx _ j)) o).trans ?_
  have hw : (fun q o => iblk2 V c 2 t (ix2 q o)) = W :=
    funext fun q => funext fun o => (congrArg (V c main_v15) (place2_2 t q o)).trans (hW q o)
  have hp : (win2_4.blk t).view.emb (ix3 0 0 o) = ix3 (t.cast N_2) 0 o := place2_4 t o
  rw [hw, hp]
  rfl

/-- The array of the sums of their squares. -/
theorem arr2_sq : (dat2 (F := Ideal) V c).arrAt 5 cfg2.N = fun y : S16x1x64.Idx => edgeSq rfl (X (y 0)) W (y 2) := by
  refine (dat2 (F := Ideal) V c).arrAt_eq_of_covers 5 _ (by decide +kernel) fun t hf (y : S1x1x64.Idx) => ?_
  obtain ⟨o, hy⟩ := row_idx y
  rw [after2_5]
  unfold outsAt2
  dsimp only
  blk_simp
  subst hy
  refine (block2_sq c t (X (t.cast N_2)) (iblk2 V c 0 t) (iblk2 V c 1 t) (iblk2 V c 2 t) (hX _)
    (fun i q => (congrArg (V c main_v9) (place2_0 t i q)).trans (hx _ i q))
    (fun j => (congrArg (V c main_v14) (place2_1 t j)).trans (hxx _ j)) o).trans ?_
  have hw : (fun q o => iblk2 V c 2 t (ix2 q o)) = W :=
    funext fun q => funext fun o => (congrArg (V c main_v15) (place2_2 t q o)).trans (hW q o)
  have hp : (win2_5.blk t).view.emb (ix3 0 0 o) = ix3 (t.cast N_2) 0 o := place2_5 t o
  rw [hw, hp]
  rfl

end arrays2

end Cert.Proof
end
-- ==== Proof.Edge4.lean ====
/- What the third edge stage computes for one cloud of points: the greatest convolution over each
   point's twenty neighbours, and the sums of the convolutions and of their squares. -/
module

public import proofs.«01_k».proof.Proof.Gen.KernelIdeal.Frame.Region4
public import proofs.«01_k».proof.Proof.EdgeStep
public import Idealize.ShloMosaic.Lib.Pipeline.ValueKit

@[expose] public section

set_option maxRecDepth 16384

noncomputable section

namespace Cert.Proof

open Idealize.ShloMosaic Idealize.ShloMosaic.TcCoe Idealize.SL.Sem Cert.KernelIdeal Cert.KernelIdeal.Gen

section block4

variable (c : Dev nD) (t : Fin cfg4.N)

/-- One trip of the loop. -/
theorem trip4 (v0 : Vec Ideal S1x1024x128 .f32) (x2 : Vec Ideal S128x128 .f32) (k : Fin k4_t1_loop.trips) (acc) :
    tripR_k4_t1 (F := Ideal) Variants.none c none (grid4.coords t) (ms4_0 t) (hs4_0 t) (ms4_1 t) (hs4_1 t) (ms4_2 t) (hs4_2 t) (ms4_3 t) (hs4_3 t) (ms4_4 t) (hs4_4 t) (ms4_5 t) (hs4_5 t) v0 ((hs4_2 t).unread x2) k acc
      = (k4_pay10 acc.1, k4_pay11 v0 acc.1 acc.2.1 x2, k4_pay12 v0 acc.1 acc.2.2.1 x2, k4_pay13 v0 acc.1 acc.2.2.2 x2) := by
  unfold tripR_k4_t1 trip_k4_t1
  dsimp only
  frame_out

/-- The carried arrays before trip `n`. -/
abbrev carried4 (v0 : Vec Ideal S1x1024x128 .f32) (v5 : Vec Ideal S1x1x1024 .f32) (x2 : Vec Ideal S128x128 .f32) (n : Nat) :=
  st_k4_t1 (F := Ideal) Variants.none c none (grid4.coords t) (ms4_0 t) (hs4_0 t) (ms4_1 t) (hs4_1 t) (ms4_2 t) (hs4_2 t) (ms4_3 t) (hs4_3 t) (ms4_4 t) (hs4_4 t) (ms4_5 t) (hs4_5 t) v0 ((hs4_2 t).unread x2)
    (k4_pay4 v0 v5, k4_pay5, k4_pay6, k4_pay7) n

theorem carried4_succ (v0 : Vec Ideal S1x1024x128 .f32) (v5 : Vec Ideal S1x1x1024 .f32) (x2 : Vec Ideal S128x128 .f32) (n : Nat) (hn : n < 20) :
    carried4 c t v0 v5 x2 (n + 1) = (k4_pay10 (carried4 c t v0 v5 x2 n).1,
      k4_pay11 v0 (carried4 c t v0 v5 x2 n).1 (carried4 c t v0 v5 x2 n).2.1 x2,
      k4_pay12 v0 (carried4 c t v0 v5 x2 n).1 (carried4 c t v0 v5 x2 n).2.2.1 x2,
      k4_pay13 v0 (carried4 c t v0 v5 x2 n).1 (carried4 c t v0 v5 x2 n).2.2.2 x2) :=
  (st_k4_t1_succ Variants.none c none (grid4.coords t) (ms4_0 t) (hs4_0 t) (ms4_1 t) (hs4_1 t) (ms4_2 t) (hs4_2 t) (ms4_3 t) (hs4_3 t) (ms4_4 t) (hs4_4 t) (ms4_5 t) (hs4_5 t) v0 ((hs4_2 t).unread x2) _ ⟨n, hn⟩).trans (trip4 c t v0 x2 _ _)

variable (X : Fin 1024 → Fin 64 → EReal) (v0 : Vec Ideal S1x1024x128 .f32) (v5 : Vec Ideal S1x1x1024 .f32) (x2 : Vec Ideal S128x128 .f32)
  (hX : ∀ i q, IsReal (X i q)) (h0 : ∀ i q, v0 (ix3 0 i q) = if h : (q : Nat) < 64 then X i ⟨q, h⟩ else 0)
  (h5 : ∀ j, v5 (ix3 0 0 j) = sqNorm X j)
include h0 h5

omit c t in
/-- The scores of the pairs: the columns beyond the channels are zero. -/
theorem score4_apply (i j : Fin 1024) : k4_pay4 (F := Ideal) v0 v5 (ix2 i j) = score X i j := by
  pointwise [k4_pay4, k4_pay3]
  rw [h5, h5, zero_sub, sum_padded (c := 64) (by decide) _ (fun q => X i q * X j q)]
  · rfl
  · intro q; rw [h0, h0]; split <;> simp

include hX

/-- What the loop leaves after its last trip. -/
theorem carried4_last :
    (∀ i o, (carried4 c t v0 v5 x2 20).2.1 (ix2 i o) = edgeMax rfl X (fun q o => x2 (ix2 q o)) i o)
      ∧ (∀ o, (carried4 c t v0 v5 x2 20).2.2.1 (ix2 0 o) = edgeSum rfl X (fun q o => x2 (ix2 q o)) o)
      ∧ (∀ o, (carried4 c t v0 v5 x2 20).2.2.2 (ix2 0 o) = edgeSq rfl X (fun q o => x2 (ix2 q o)) o) := by
  have hv : ∀ i q, IsReal (v0 (ix3 0 i q)) := fun i q => by
    rw [h0]; split
    · exact hX _ _
    · exact IsReal.zero
  have hXe : (fun (i : Fin 1024) (q : Fin 64) => v0 (ix3 0 i (q.castLE (by decide)))) = X := by
    funext i q; rw [h0]; exact dif_pos q.isLt
  have hconv : ∀ w i o, k4_pay9 (F := Ideal) v0 w x2 (ix2 i o)
      = edgeConv rfl X (fun q o => x2 (ix2 q o)) i (firstMax fun j => w (ix2 i j)) o := fun w i o => by
    rw [conv4_apply v0 w x2 hv, hXe]
  refine loop_result rfl X (fun q o => x2 (ix2 q o)) (fun n i j => (carried4 c t v0 v5 x2 n).1 (ix2 i j))
    (fun n i o => (carried4 c t v0 v5 x2 n).2.1 (ix2 i o)) (fun n o => (carried4 c t v0 v5 x2 n).2.2.1 (ix2 0 o))
    (fun n o => (carried4 c t v0 v5 x2 n).2.2.2 (ix2 0 o)) ?_ ?_ ?_ ?_ ?_ ?_ ?_ ?_
  · exact fun i => funext fun j => score4_apply X v0 v5 h0 h5 i j
  · exact fun i o => ofBits_negInf
  · exact fun o => Ideal.ofBits_zero_f32
  · exact fun o => Ideal.ofBits_zero_f32
  · intro n hn i
    funext j
    rw [carried4_succ c t v0 v5 x2 n hn]
    exact strike_apply _ i j
  · intro n hn i o
    simp only [carried4_succ c t v0 v5 x2 n hn]
    rw [← hconv]; rfl
  · intro n hn o
    simp only [carried4_succ c t v0 v5 x2 n hn]
    simp only [← hconv]
    pointwise [k4_pay12]
  · intro n hn o
    simp only [carried4_succ c t v0 v5 x2 n hn]
    simp only [← hconv]
    pointwise [k4_pay13]

/-- The block of maxima. -/
theorem block4_max (i : Fin 1024) (o : Fin 128) :
    out4_A_3 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) v0 v5 x2 (ix3 0 i o) = edgeMax rfl X (fun q o => x2 (ix2 q o)) i o := by
  frame_out
  rw [← (carried4_last c t X v0 v5 x2 hX h0 h5).1]
  pointwise [k4_pay14]
  rfl

/-- The block of sums. -/
theorem block4_sum (o : Fin 128) :
    out4_A_4 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) v0 v5 x2 (ix3 0 0 o) = edgeSum rfl X (fun q o => x2 (ix2 q o)) o := by
  frame_out
  rw [← (carried4_last c t X v0 v5 x2 hX h0 h5).2.1]
  pointwise [k4_pay1, k4_pay15]
  rfl

/-- The block of sums of squares. -/
theorem block4_sq (o : Fin 128) :
    out4_A_5 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) v0 v5 x2 (ix3 0 0 o) = edgeSq rfl X (fun q o => x2 (ix2 q o)) o := by
  frame_out
  rw [← (carried4_last c t X v0 v5 x2 hX h0 h5).2.2]
  pointwise [k4_pay2]
  rfl

end block4

end Cert.Proof
end
-- ==== Proof.EdgeArr4.lean ====
/- The arrays that the third edge stage leaves: one block of each for every cloud of points. -/
module

public import proofs.«01_k».proof.Proof.Edge4
public import proofs.«01_k».proof.Proof.Place

@[expose] public section

set_option maxRecDepth 16384

noncomputable section

namespace Cert.Proof

open Idealize.ShloMosaic Idealize.ShloMosaic.TcCoe Idealize.SL.Sem Cert.KernelIdeal Cert.KernelIdeal.Gen
open Idealize.ShloMosaic.Pipeline (Dat)

/-! Where the blocks of grid point `t` lie in their arrays: slice `t`, or the whole of the weights. -/

theorem place4_0 (t : Fin cfg4.N) (i : Fin 1024) (q : Fin 128) :
    ((cfg4.win 0).blk t).view.emb (ix3 0 i q) = ix3 (t.cast N_4) i q := by
  have e : ∀ t : Fin cfg4.N, win4_0.index t = ![t.val, 0, 0] := by decide +kernel
  funext a
  apply Fin.ext
  fin_cases a <;> blk_simp [e] <;> simp

theorem place4_1 (t : Fin cfg4.N) (j : Fin 1024) :
    ((cfg4.win 1).blk t).view.emb (ix3 0 0 j) = ix3 (t.cast N_4) 0 j := by
  have e : ∀ t : Fin cfg4.N, win4_1.index t = ![t.val, 0, 0] := by decide +kernel
  funext a
  apply Fin.ext
  fin_cases a <;> blk_simp [e] <;> simp

theorem place4_2 (t : Fin cfg4.N) (q : Fin 128) (o : Fin 128) :
    ((cfg4.win 2).blk t).view.emb (ix2 q o) = ix2 q o := by
  have e : ∀ t : Fin cfg4.N, win4_2.index t = ![0, 0] := by decide +kernel
  funext a
  apply Fin.ext
  fin_cases a <;> blk_simp [e] <;> simp

theorem place4_3 (t : Fin cfg4.N) (i : Fin 1024) (o : Fin 128) :
    ((cfg4.win 3).blk t).view.emb (ix3 0 i o) = ix3 (t.cast N_4) i o := by
  have e : ∀ t : Fin cfg4.N, win4_3.index t = ![t.val, 0, 0] := by decide +kernel
  funext a
  apply Fin.ext
  fin_cases a <;> blk_simp [e] <;> simp

theorem place4_4 (t : Fin cfg4.N) (o : Fin 128) :
    ((cfg4.win 4).blk t).view.emb (ix3 0 0 o) = ix3 (t.cast N_4) 0 o := by
  have e : ∀ t : Fin cfg4.N, win4_4.index t = ![t.val, 0, 0] := by decide +kernel
  funext a
  apply Fin.ext
  fin_cases a <;> blk_simp [e] <;> simp

theorem place4_5 (t : Fin cfg4.N) (o : Fin 128) :
    ((cfg4.win 5).blk t).view.emb (ix3 0 0 o) = ix3 (t.cast N_4) 0 o := by
  have e : ∀ t : Fin cfg4.N, win4_5.index t = ![t.val, 0, 0] := by decide +kernel
  funext a
  apply Fin.ext
  fin_cases a <;> blk_simp [e] <;> simp

section arrays4

variable (V : (c : Dev nD) → (b : Ref sig .tc) → Buf (Elt Ideal) ((c : Thread nD τ).loc b)) (c : Dev nD)
  (X : Fin 16 → Fin 1024 → Fin 64 → EReal) (W : Fin 128 → Fin 128 → EReal) (hX : ∀ b i q, IsReal (X b i q))
  (hx : ∀ b i q, V c main_v19 (ix3 b i q) = if h : (q : Nat) < 64 then X b i ⟨q, h⟩ else 0)
  (hxx : ∀ b j, V c main_v24 (ix3 b 0 j) = sqNorm (X b) j)
  (hW : ∀ q o, V c main_v25 (ix2 q o) = W q o)
include hX hx hxx hW

/-- The array of the greatest convolutions. -/
theorem arr4_max : (dat4 (F := Ideal) V c).arrAt 3 cfg4.N = fun y : S16x1024x128.Idx => edgeMax rfl (X (y 0)) W (y 1) (y 2) := by
  refine (dat4 (F := Ideal) V c).arrAt_eq_of_covers 3 _ (by decide +kernel) fun t hf (y : S1x1024x128.Idx) => ?_
  obtain ⟨i, o, hy⟩ := block_idx y
  rw [after4_3]
  unfold outsAt4
  dsimp only
  blk_simp
  subst hy
  refine (block4_max c t (X (t.cast N_4)) (iblk4 V c 0 t) (iblk4 V c 1 t) (iblk4 V c 2 t) (hX _)
    (fun i q => (congrArg (V c main_v19) (place4_0 t i q)).trans (hx _ i q))
    (fun j => (congrArg (V c main_v24) (place4_1 t j)).trans (hxx _ j)) i o).trans ?_
  have hw : (fun q o => iblk4 V c 2 t (ix2 q o)) = W :=
    funext fun q => funext fun o => (congrArg (V c main_v25) (place4_2 t q o)).trans (hW q o)
  have hp : (win4_3.blk t).view.emb (ix3 0 i o) = ix3 (t.cast N_4) i o := place4_3 t i o
  rw [hw, hp]
  rfl

/-- The array of the sums of the convolutions. -/
theorem arr4_sum : (dat4 (F := Ideal) V c).arrAt 4 cfg4.N = fun y : S16x1x128.Idx => edgeSum rfl (X (y 0)) W (y 2) := by
  refine (dat4 (F := Ideal) V c).arrAt_eq_of_covers 4 _ (by decide +kernel) fun t hf (y : S1x1x128.Idx) => ?_
  obtain ⟨o, hy⟩ := row_idx y
  rw [after4_4]
  unfold outsAt4
  dsimp only
  blk_simp
  subst hy
  refine (block4_sum c t (X (t.cast N_4)) (iblk4 V c 0 t) (iblk4 V c 1 t) (iblk4 V c 2 t) (hX _)
    (fun i q => (congrArg (V c main_v19) (place4_0 t i q)).trans (hx _ i q))
    (fun j => (congrArg (V c main_v24) (place4_1 t j)).trans (hxx _ j)) o).trans ?_
  have hw : (fun q o => iblk4 V c 2 t (ix2 q o)) = W :=
    funext fun q => funext fun o => (congrArg (V c main_v25) (place4_2 t q o)).trans (hW q o)
  have hp : (win4_4.blk t).view.emb (ix3 0 0 o) = ix3 (t.cast N_4) 0 o := place4_4 t o
  rw [hw, hp]
  rfl

/-- The array of the sums of their squares. -/
theorem arr4_sq : (dat4 (F := Ideal) V c).arrAt 5 cfg4.N = fun y : S16x1x128.Idx => edgeSq rfl (X (y 0)) W (y 2) := by
  refine (dat4 (F := Ideal) V c).arrAt_eq_of_covers 5 _ (by decide +kernel) fun t hf (y : S1x1x128.Idx) => ?_
  obtain ⟨o, hy⟩ := row_idx y
  rw [after4_5]
  unfold outsAt4
  dsimp only
  blk_simp
  subst hy
  refine (block4_sq c t (X (t.cast N_4)) (iblk4 V c 0 t) (iblk4 V c 1 t) (iblk4 V c 2 t) (hX _)
    (fun i q => (congrArg (V c main_v19) (place4_0 t i q)).trans (hx _ i q))
    (fun j => (congrArg (V c main_v24) (place4_1 t j)).trans (hxx _ j)) o).trans ?_
  have hw : (fun q o => iblk4 V c 2 t (ix2 q o)) = W :=
    funext fun q => funext fun o => (congrArg (V c main_v25) (place4_2 t q o)).trans (hW q o)
  have hp : (win4_5.blk t).view.emb (ix3 0 0 o) = ix3 (t.cast N_4) 0 o := place4_5 t o
  rw [hw, hp]
  rfl

end arrays4

end Cert.Proof
end
-- ==== Proof.Edge6.lean ====
/- What the fourth edge stage computes for one cloud of points: the greatest convolution over each
   point's twenty neighbours, and the sums of the convolutions and of their squares. -/
module

public import proofs.«01_k».proof.Proof.Gen.KernelIdeal.Frame.Region6
public import proofs.«01_k».proof.Proof.EdgeStep
public import Idealize.ShloMosaic.Lib.Pipeline.ValueKit

@[expose] public section

set_option maxRecDepth 16384

noncomputable section

namespace Cert.Proof

open Idealize.ShloMosaic Idealize.ShloMosaic.TcCoe Idealize.SL.Sem Cert.KernelIdeal Cert.KernelIdeal.Gen

section block6

variable (c : Dev nD) (t : Fin cfg6.N)

/-- One trip of the loop. -/
theorem trip6 (v0 : Vec Ideal S1x1024x128 .f32) (x2 : Vec Ideal S256x256 .f32) (k : Fin k6_t1_loop.trips) (acc) :
    tripR_k6_t1 (F := Ideal) Variants.none c none (grid6.coords t) (ms6_0 t) (hs6_0 t) (ms6_1 t) (hs6_1 t) (ms6_2 t) (hs6_2 t) (ms6_3 t) (hs6_3 t) (ms6_4 t) (hs6_4 t) (ms6_5 t) (hs6_5 t) v0 ((hs6_2 t).unread x2) k acc
      = (k6_pay10 acc.1, k6_pay11 v0 acc.1 acc.2.1 x2, k6_pay12 v0 acc.1 acc.2.2.1 x2, k6_pay13 v0 acc.1 acc.2.2.2 x2) := by
  unfold tripR_k6_t1 trip_k6_t1
  dsimp only
  frame_out

/-- The carried arrays before trip `n`. -/
abbrev carried6 (v0 : Vec Ideal S1x1024x128 .f32) (v5 : Vec Ideal S1x1x1024 .f32) (x2 : Vec Ideal S256x256 .f32) (n : Nat) :=
  st_k6_t1 (F := Ideal) Variants.none c none (grid6.coords t) (ms6_0 t) (hs6_0 t) (ms6_1 t) (hs6_1 t) (ms6_2 t) (hs6_2 t) (ms6_3 t) (hs6_3 t) (ms6_4 t) (hs6_4 t) (ms6_5 t) (hs6_5 t) v0 ((hs6_2 t).unread x2)
    (k6_pay4 v0 v5, k6_pay5, k6_pay6, k6_pay7) n

theorem carried6_succ (v0 : Vec Ideal S1x1024x128 .f32) (v5 : Vec Ideal S1x1x1024 .f32) (x2 : Vec Ideal S256x256 .f32) (n : Nat) (hn : n < 20) :
    carried6 c t v0 v5 x2 (n + 1) = (k6_pay10 (carried6 c t v0 v5 x2 n).1,
      k6_pay11 v0 (carried6 c t v0 v5 x2 n).1 (carried6 c t v0 v5 x2 n).2.1 x2,
      k6_pay12 v0 (carried6 c t v0 v5 x2 n).1 (carried6 c t v0 v5 x2 n).2.2.1 x2,
      k6_pay13 v0 (carried6 c t v0 v5 x2 n).1 (carried6 c t v0 v5 x2 n).2.2.2 x2) :=
  (st_k6_t1_succ Variants.none c none (grid6.coords t) (ms6_0 t) (hs6_0 t) (ms6_1 t) (hs6_1 t) (ms6_2 t) (hs6_2 t) (ms6_3 t) (hs6_3 t) (ms6_4 t) (hs6_4 t) (ms6_5 t) (hs6_5 t) v0 ((hs6_2 t).unread x2) _ ⟨n, hn⟩).trans (trip6 c t v0 x2 _ _)

variable (X : Fin 1024 → Fin 128 → EReal) (v0 : Vec Ideal S1x1024x128 .f32) (v5 : Vec Ideal S1x1x1024 .f32) (x2 : Vec Ideal S256x256 .f32)
  (hX : ∀ i q, IsReal (X i q)) (h0 : ∀ i q, v0 (ix3 0 i q) = if h : (q : Nat) < 128 then X i ⟨q, h⟩ else 0)
  (h5 : ∀ j, v5 (ix3 0 0 j) = sqNorm X j)
include h0 h5

omit c t in
/-- The scores of the pairs: the columns beyond the channels are zero. -/
theorem score6_apply (i j : Fin 1024) : k6_pay4 (F := Ideal) v0 v5 (ix2 i j) = score X i j := by
  pointwise [k6_pay4, k6_pay3]
  rw [h5, h5, zero_sub, sum_padded (c := 128) (by decide) _ (fun q => X i q * X j q)]
  · rfl
  · intro q; rw [h0, h0]; split <;> simp

include hX

/-- What the loop leaves after its last trip. -/
theorem carried6_last :
    (∀ i o, (carried6 c t v0 v5 x2 20).2.1 (ix2 i o) = edgeMax rfl X (fun q o => x2 (ix2 q o)) i o)
      ∧ (∀ o, (carried6 c t v0 v5 x2 20).2.2.1 (ix2 0 o) = edgeSum rfl X (fun q o => x2 (ix2 q o)) o)
      ∧ (∀ o, (carried6 c t v0 v5 x2 20).2.2.2 (ix2 0 o) = edgeSq rfl X (fun q o => x2 (ix2 q o)) o) := by
  have hv : ∀ i q, IsReal (v0 (ix3 0 i q)) := fun i q => by
    rw [h0]; split
    · exact hX _ _
    · exact IsReal.zero
  have hXe : (fun (i : Fin 1024) (q : Fin 128) => v0 (ix3 0 i q)) = X := by
    funext i q; rw [h0]; exact dif_pos q.isLt
  have hconv : ∀ w i o, k6_pay9 (F := Ideal) v0 w x2 (ix2 i o)
      = edgeConv rfl X (fun q o => x2 (ix2 q o)) i (firstMax fun j => w (ix2 i j)) o := fun w i o => by
    rw [conv6_apply v0 w x2 hv, hXe]
  refine loop_result rfl X (fun q o => x2 (ix2 q o)) (fun n i j => (carried6 c t v0 v5 x2 n).1 (ix2 i j))
    (fun n i o => (carried6 c t v0 v5 x2 n).2.1 (ix2 i o)) (fun n o => (carried6 c t v0 v5 x2 n).2.2.1 (ix2 0 o))
    (fun n o => (carried6 c t v0 v5 x2 n).2.2.2 (ix2 0 o)) ?_ ?_ ?_ ?_ ?_ ?_ ?_ ?_
  · exact fun i => funext fun j => score6_apply X v0 v5 h0 h5 i j
  · exact fun i o => ofBits_negInf
  · exact fun o => Ideal.ofBits_zero_f32
  · exact fun o => Ideal.ofBits_zero_f32
  · intro n hn i
    funext j
    rw [carried6_succ c t v0 v5 x2 n hn]
    exact strike_apply _ i j
  · intro n hn i o
    simp only [carried6_succ c t v0 v5 x2 n hn]
    rw [← hconv]; rfl
  · intro n hn o
    simp only [carried6_succ c t v0 v5 x2 n hn]
    simp only [← hconv]
    pointwise [k6_pay12]
  · intro n hn o
    simp only [carried6_succ c t v0 v5 x2 n hn]
    simp only [← hconv]
    pointwise [k6_pay13]

/-- The block of maxima. -/
theorem block6_max (i : Fin 1024) (o : Fin 256) :
    out6_A_3 (F := Ideal) c (grid6.coords t) (ms6_0 t) (hs6_0 t) (ms6_1 t) (hs6_1 t) (ms6_2 t) (hs6_2 t) (ms6_3 t) (hs6_3 t) (ms6_4 t) (hs6_4 t) (ms6_5 t) (hs6_5 t) v0 v5 x2 (ix3 0 i o) = edgeMax rfl X (fun q o => x2 (ix2 q o)) i o := by
  frame_out
  rw [← (carried6_last c t X v0 v5 x2 hX h0 h5).1]
  pointwise [k6_pay14]
  rfl

/-- The block of sums. -/
theorem block6_sum (o : Fin 256) :
    out6_A_4 (F := Ideal) c (grid6.coords t) (ms6_0 t) (hs6_0 t) (ms6_1 t) (hs6_1 t) (ms6_2 t) (hs6_2 t) (ms6_3 t) (hs6_3 t) (ms6_4 t) (hs6_4 t) (ms6_5 t) (hs6_5 t) v0 v5 x2 (ix3 0 0 o) = edgeSum rfl X (fun q o => x2 (ix2 q o)) o := by
  frame_out
  rw [← (carried6_last c t X v0 v5 x2 hX h0 h5).2.1]
  pointwise [k6_pay1, k6_pay15]
  rfl

/-- The block of sums of squares. -/
theorem block6_sq (o : Fin 256) :
    out6_A_5 (F := Ideal) c (grid6.coords t) (ms6_0 t) (hs6_0 t) (ms6_1 t) (hs6_1 t) (ms6_2 t) (hs6_2 t) (ms6_3 t) (hs6_3 t) (ms6_4 t) (hs6_4 t) (ms6_5 t) (hs6_5 t) v0 v5 x2 (ix3 0 0 o) = edgeSq rfl X (fun q o => x2 (ix2 q o)) o := by
  frame_out
  rw [← (carried6_last c t X v0 v5 x2 hX h0 h5).2.2]
  pointwise [k6_pay2]
  rfl

end block6

end Cert.Proof
end
-- ==== Proof.EdgeArr6.lean ====
/- The arrays that the fourth edge stage leaves: one block of each for every cloud of points. -/
module

public import proofs.«01_k».proof.Proof.Edge6
public import proofs.«01_k».proof.Proof.Place

@[expose] public section

set_option maxRecDepth 16384

noncomputable section

namespace Cert.Proof

open Idealize.ShloMosaic Idealize.ShloMosaic.TcCoe Idealize.SL.Sem Cert.KernelIdeal Cert.KernelIdeal.Gen
open Idealize.ShloMosaic.Pipeline (Dat)

/-! Where the blocks of grid point `t` lie in their arrays: slice `t`, or the whole of the weights. -/

theorem place6_0 (t : Fin cfg6.N) (i : Fin 1024) (q : Fin 128) :
    ((cfg6.win 0).blk t).view.emb (ix3 0 i q) = ix3 (t.cast N_6) i q := by
  have e : ∀ t : Fin cfg6.N, win6_0.index t = ![t.val, 0, 0] := by decide +kernel
  funext a
  apply Fin.ext
  fin_cases a <;> blk_simp [e] <;> simp

theorem place6_1 (t : Fin cfg6.N) (j : Fin 1024) :
    ((cfg6.win 1).blk t).view.emb (ix3 0 0 j) = ix3 (t.cast N_6) 0 j := by
  have e : ∀ t : Fin cfg6.N, win6_1.index t = ![t.val, 0, 0] := by decide +kernel
  funext a
  apply Fin.ext
  fin_cases a <;> blk_simp [e] <;> simp

theorem place6_2 (t : Fin cfg6.N) (q : Fin 256) (o : Fin 256) :
    ((cfg6.win 2).blk t).view.emb (ix2 q o) = ix2 q o := by
  have e : ∀ t : Fin cfg6.N, win6_2.index t = ![0, 0] := by decide +kernel
  funext a
  apply Fin.ext
  fin_cases a <;> blk_simp [e] <;> simp

theorem place6_3 (t : Fin cfg6.N) (i : Fin 1024) (o : Fin 256) :
    ((cfg6.win 3).blk t).view.emb (ix3 0 i o) = ix3 (t.cast N_6) i o := by
  have e : ∀ t : Fin cfg6.N, win6_3.index t = ![t.val, 0, 0] := by decide +kernel
  funext a
  apply Fin.ext
  fin_cases a <;> blk_simp [e] <;> simp

theorem place6_4 (t : Fin cfg6.N) (o : Fin 256) :
    ((cfg6.win 4).blk t).view.emb (ix3 0 0 o) = ix3 (t.cast N_6) 0 o := by
  have e : ∀ t : Fin cfg6.N, win6_4.index t = ![t.val, 0, 0] := by decide +kernel
  funext a
  apply Fin.ext
  fin_cases a <;> blk_simp [e] <;> simp

theorem place6_5 (t : Fin cfg6.N) (o : Fin 256) :
    ((cfg6.win 5).blk t).view.emb (ix3 0 0 o) = ix3 (t.cast N_6) 0 o := by
  have e : ∀ t : Fin cfg6.N, win6_5.index t = ![t.val, 0, 0] := by decide +kernel
  funext a
  apply Fin.ext
  fin_cases a <;> blk_simp [e] <;> simp

section arrays6

variable (V : (c : Dev nD) → (b : Ref sig .tc) → Buf (Elt Ideal) ((c : Thread nD τ).loc b)) (c : Dev nD)
  (X : Fin 16 → Fin 1024 → Fin 128 → EReal) (W : Fin 256 → Fin 256 → EReal) (hX : ∀ b i q, IsReal (X b i q))
  (hx : ∀ b i q, V c main_v29 (ix3 b i q) = if h : (q : Nat) < 128 then X b i ⟨q, h⟩ else 0)
  (hxx : ∀ b j, V c main_v33 (ix3 b 0 j) = sqNorm (X b) j)
  (hW : ∀ q o, V c main_v34 (ix2 q o) = W q o)
include hX hx hxx hW

/-- The array of the greatest convolutions. -/
theorem arr6_max : (dat6 (F := Ideal) V c).arrAt 3 cfg6.N = fun y : S16x1024x256.Idx => edgeMax rfl (X (y 0)) W (y 1) (y 2) := by
  refine (dat6 (F := Ideal) V c).arrAt_eq_of_covers 3 _ (by decide +kernel) fun t hf (y : S1x1024x256.Idx) => ?_
  obtain ⟨i, o, hy⟩ := block_idx y
  rw [after6_3]
  unfold outsAt6
  dsimp only
  blk_simp
  subst hy
  refine (block6_max c t (X (t.cast N_6)) (iblk6 V c 0 t) (iblk6 V c 1 t) (iblk6 V c 2 t) (hX _)
    (fun i q => (congrArg (V c main_v29) (place6_0 t i q)).trans (hx _ i q))
    (fun j => (congrArg (V c main_v33) (place6_1 t j)).trans (hxx _ j)) i o).trans ?_
  have hw : (fun q o => iblk6 V c 2 t (ix2 q o)) = W :=
    funext fun q => funext fun o => (congrArg (V c main_v34) (place6_2 t q o)).trans (hW q o)
  have hp : (win6_3.blk t).view.emb (ix3 0 i o) = ix3 (t.cast N_6) i o := place6_3 t i o
  rw [hw, hp]
  rfl

/-- The array of the sums of the convolutions. -/
theorem arr6_sum : (dat6 (F := Ideal) V c).arrAt 4 cfg6.N = fun y : S16x1x256.Idx => edgeSum rfl (X (y 0)) W (y 2) := by
  refine (dat6 (F := Ideal) V c).arrAt_eq_of_covers 4 _ (by decide +kernel) fun t hf (y : S1x1x256.Idx) => ?_
  obtain ⟨o, hy⟩ := row_idx y
  rw [after6_4]
  unfold outsAt6
  dsimp only
  blk_simp
  subst hy
  refine (block6_sum c t (X (t.cast N_6)) (iblk6 V c 0 t) (iblk6 V c 1 t) (iblk6 V c 2 t) (hX _)
    (fun i q => (congrArg (V c main_v29) (place6_0 t i q)).trans (hx _ i q))
    (fun j => (congrArg (V c main_v33) (place6_1 t j)).trans (hxx _ j)) o).trans ?_
  have hw : (fun q o => iblk6 V c 2 t (ix2 q o)) = W :=
    funext fun q => funext fun o => (congrArg (V c main_v34) (place6_2 t q o)).trans (hW q o)
  have hp : (win6_4.blk t).view.emb (ix3 0 0 o) = ix3 (t.cast N_6) 0 o := place6_4 t o
  rw [hw, hp]
  rfl

/-- The array of the sums of their squares. -/
theorem arr6_sq : (dat6 (F := Ideal) V c).arrAt 5 cfg6.N = fun y : S16x1x256.Idx => edgeSq rfl (X (y 0)) W (y 2) := by
  refine (dat6 (F := Ideal) V c).arrAt_eq_of_covers 5 _ (by decide +kernel) fun t hf (y : S1x1x256.Idx) => ?_
  obtain ⟨o, hy⟩ := row_idx y
  rw [after6_5]
  unfold outsAt6
  dsimp only
  blk_simp
  subst hy
  refine (block6_sq c t (X (t.cast N_6)) (iblk6 V c 0 t) (iblk6 V c 1 t) (iblk6 V c 2 t) (hX _)
    (fun i q => (congrArg (V c main_v29) (place6_0 t i q)).trans (hx _ i q))
    (fun j => (congrArg (V c main_v33) (place6_1 t j)).trans (hxx _ j)) o).trans ?_
  have hw : (fun q o => iblk6 V c 2 t (ix2 q o)) = W :=
    funext fun q => funext fun o => (congrArg (V c main_v34) (place6_2 t q o)).trans (hW q o)
  have hp : (win6_5.blk t).view.emb (ix3 0 0 o) = ix3 (t.cast N_6) 0 o := place6_5 t o
  rw [hw, hp]
  rfl

end arrays6

end Cert.Proof
end
-- ==== Proof.BnArr1.lean ====
/- The array that the first normalisation stage leaves: the rectified, normalised maxima, then columns of zeros. -/
module

public import proofs.«01_k».proof.Proof.Gen.KernelIdeal.Frame.Region1
public import proofs.«01_k».proof.Proof.Layer
public import proofs.«01_k».proof.Proof.Place
public import Idealize.ShloMosaic.Lib.Pipeline.ValueKit

@[expose] public section

set_option maxRecDepth 16384

noncomputable section

namespace Cert.Proof

open Idealize.ShloMosaic Idealize.ShloMosaic.TcCoe Idealize.SL.Sem Cert.KernelIdeal Cert.KernelIdeal.Gen
open Idealize.ShloMosaic.Pipeline (Dat)

/-- The block that one grid point stores. -/
theorem bn1_apply (y : Vec Ideal S1x1024x64 .f32) (s₁ s₂ : Vec Ideal S16x1x64 .f32) (g b : Vec Ideal S1x1x64 .f32)
    (Y : Fin 1024 → Fin 64 → EReal) (S₁ S₂ : Fin 16 → Fin 64 → EReal) (G B : Fin 64 → EReal)
    (hy : ∀ i o, y (ix3 0 i o) = Y i o) (h₁ : ∀ s o, s₁ (ix3 s 0 o) = S₁ s o) (h₂ : ∀ s o, s₂ (ix3 s 0 o) = S₂ s o)
    (hg : ∀ o, g (ix3 0 0 o) = G o) (hb : ∀ o, b (ix3 0 0 o) = B o) (i : Fin 1024) (o : Fin 128) :
    (k1_pay1 (F := Ideal) (k1_pay2 s₁ s₂ g b y) (Scalar.ofBits .f32 0x00000000#32)) (ix3 0 i o) = if h : (o : Nat) < 64 then lrelu (norm (Ideal.ofBits FTy.f32 1218445312#32) (∑ s, S₁ s ⟨o, h⟩) (∑ s, S₂ s ⟨o, h⟩) (G ⟨o, h⟩) (B ⟨o, h⟩) (Y i ⟨o, h⟩)) else 0 := by
  pointwise [k1_pay1, k1_pay2]
  simp only [reduceAdd_slices, hy, h₁, h₂, hg, hb]
  rfl

/-! Where the blocks of grid point `t` lie in their arrays. -/

theorem place1_0 (t : Fin cfg1.N) (i : Fin 1024) (o : Fin 64) :
    ((cfg1.win 0).blk t).view.emb (ix3 0 i o) = ix3 (t.cast N_1) i o := by
  have e : ∀ t : Fin cfg1.N, win1_0.index t = ![t.val, 0, 0] := by decide +kernel
  funext a
  apply Fin.ext
  fin_cases a <;> blk_simp [e] <;> simp

theorem place1_1 (t : Fin cfg1.N) (s : Fin 16) (o : Fin 64) :
    ((cfg1.win 1).blk t).view.emb (ix3 s 0 o) = ix3 s 0 o := by
  have e : ∀ t : Fin cfg1.N, win1_1.index t = ![0, 0, 0] := by decide +kernel
  funext a
  apply Fin.ext
  fin_cases a <;> blk_simp [e] <;> simp

theorem place1_2 (t : Fin cfg1.N) (s : Fin 16) (o : Fin 64) :
    ((cfg1.win 2).blk t).view.emb (ix3 s 0 o) = ix3 s 0 o := by
  have e : ∀ t : Fin cfg1.N, win1_2.index t = ![0, 0, 0] := by decide +kernel
  funext a
  apply Fin.ext
  fin_cases a <;> blk_simp [e] <;> simp

theorem place1_3 (t : Fin cfg1.N) (o : Fin 64) :
    ((cfg1.win 3).blk t).view.emb (ix3 0 0 o) = ix3 0 0 o := by
  have e : ∀ t : Fin cfg1.N, win1_3.index t = ![0, 0, 0] := by decide +kernel
  funext a
  apply Fin.ext
  fin_cases a <;> blk_simp [e] <;> simp

theorem place1_4 (t : Fin cfg1.N) (o : Fin 64) :
    ((cfg1.win 4).blk t).view.emb (ix3 0 0 o) = ix3 0 0 o := by
  have e : ∀ t : Fin cfg1.N, win1_4.index t = ![0, 0, 0] := by decide +kernel
  funext a
  apply Fin.ext
  fin_cases a <;> blk_simp [e] <;> simp

theorem place1_5 (t : Fin cfg1.N) (i : Fin 1024) (o : Fin 128) :
    ((cfg1.win 5).blk t).view.emb (ix3 0 i o) = ix3 (t.cast N_1) i o := by
  have e : ∀ t : Fin cfg1.N, win1_5.index t = ![t.val, 0, 0] := by decide +kernel
  funext a
  apply Fin.ext
  fin_cases a <;> blk_simp [e] <;> simp

variable (V : (c : Dev nD) → (b : Ref sig .tc) → Buf (Elt Ideal) ((c : Thread nD τ).loc b)) (c : Dev nD)
  (Y : Fin 16 → Fin 1024 → Fin 64 → EReal) (S₁ S₂ : Fin 16 → Fin 64 → EReal) (G B : Fin 64 → EReal)
  (hy : ∀ s i o, V c main_v6_0 (ix3 s i o) = Y s i o)
  (h₁ : ∀ s o, V c main_v6_1 (ix3 s 0 o) = S₁ s o) (h₂ : ∀ s o, V c main_v6_2 (ix3 s 0 o) = S₂ s o)
  (hg : ∀ o, V c main_v7 (ix3 0 0 o) = G o) (hb : ∀ o, V c main_v8 (ix3 0 0 o) = B o)
include hy h₁ h₂ hg hb

set_option maxHeartbeats 2000000 in
theorem arr1 : (dat1 (F := Ideal) V c).arrAt 5 cfg1.N = fun z : S16x1024x128.Idx => widen (fun s i o => lrelu (norm (Ideal.ofBits FTy.f32 1218445312#32) (∑ s, S₁ s o) (∑ s, S₂ s o) (G o) (B o) (Y s i o))) (z 0) (z 1) (z 2) := by
  refine (dat1 (F := Ideal) V c).arrAt_eq_of_covers 5 _ (by decide +kernel) fun t hf (y : S1x1024x128.Idx) => ?_
  obtain ⟨i, o, hz⟩ := block_idx y
  rw [after1_5]
  frame_out
  blk_simp
  subst hz
  refine (bn1_apply (iblk1 V c 0 t) (iblk1 V c 1 t) (iblk1 V c 2 t) (iblk1 V c 3 t) (iblk1 V c 4 t) (Y (t.cast N_1)) S₁ S₂ G B
    (fun i o => (congrArg (V c main_v6_0) (place1_0 t i o)).trans (hy _ i o))
    (fun s o => (congrArg (V c main_v6_1) (place1_1 t s o)).trans (h₁ s o))
    (fun s o => (congrArg (V c main_v6_2) (place1_2 t s o)).trans (h₂ s o))
    (fun o => (congrArg (V c main_v7) (place1_3 t o)).trans (hg o))
    (fun o => (congrArg (V c main_v8) (place1_4 t o)).trans (hb o)) i o).trans ?_
  have hp : (win1_5.blk t).view.emb (ix3 0 i o) = ix3 (t.cast N_1) i o := place1_5 t i o
  rw [hp]
  rfl

end Cert.Proof
end
-- ==== Proof.BnArr3.lean ====
/- The array that the second normalisation stage leaves: the rectified, normalised maxima, then columns of zeros. -/
module

public import proofs.«01_k».proof.Proof.Gen.KernelIdeal.Frame.Region3
public import proofs.«01_k».proof.Proof.Layer
public import proofs.«01_k».proof.Proof.Place
public import Idealize.ShloMosaic.Lib.Pipeline.ValueKit

@[expose] public section

set_option maxRecDepth 16384

noncomputable section

namespace Cert.Proof

open Idealize.ShloMosaic Idealize.ShloMosaic.TcCoe Idealize.SL.Sem Cert.KernelIdeal Cert.KernelIdeal.Gen
open Idealize.ShloMosaic.Pipeline (Dat)

/-- The block that one grid point stores. -/
theorem bn3_apply (y : Vec Ideal S1x1024x64 .f32) (s₁ s₂ : Vec Ideal S16x1x64 .f32) (g b : Vec Ideal S1x1x64 .f32)
    (Y : Fin 1024 → Fin 64 → EReal) (S₁ S₂ : Fin 16 → Fin 64 → EReal) (G B : Fin 64 → EReal)
    (hy : ∀ i o, y (ix3 0 i o) = Y i o) (h₁ : ∀ s o, s₁ (ix3 s 0 o) = S₁ s o) (h₂ : ∀ s o, s₂ (ix3 s 0 o) = S₂ s o)
    (hg : ∀ o, g (ix3 0 0 o) = G o) (hb : ∀ o, b (ix3 0 0 o) = B o) (i : Fin 1024) (o : Fin 128) :
    (k3_pay1 (F := Ideal) (k3_pay2 s₁ s₂ g b y) (Scalar.ofBits .f32 0x00000000#32)) (ix3 0 i o) = if h : (o : Nat) < 64 then lrelu (norm (Ideal.ofBits FTy.f32 1218445312#32) (∑ s, S₁ s ⟨o, h⟩) (∑ s, S₂ s ⟨o, h⟩) (G ⟨o, h⟩) (B ⟨o, h⟩) (Y i ⟨o, h⟩)) else 0 := by
  pointwise [k3_pay1, k3_pay2]
  simp only [reduceAdd_slices, hy, h₁, h₂, hg, hb]
  rfl

/-! Where the blocks of grid point `t` lie in their arrays. -/

theorem place3_0 (t : Fin cfg3.N) (i : Fin 1024) (o : Fin 64) :
    ((cfg3.win 0).blk t).view.emb (ix3 0 i o) = ix3 (t.cast N_3) i o := by
  have e : ∀ t : Fin cfg3.N, win3_0.index t = ![t.val, 0, 0] := by decide +kernel
  funext a
  apply Fin.ext
  fin_cases a <;> blk_simp [e] <;> simp

theorem place3_1 (t : Fin cfg3.N) (s : Fin 16) (o : Fin 64) :
    ((cfg3.win 1).blk t).view.emb (ix3 s 0 o) = ix3 s 0 o := by
  have e : ∀ t : Fin cfg3.N, win3_1.index t = ![0, 0, 0] := by decide +kernel
  funext a
  apply Fin.ext
  fin_cases a <;> blk_simp [e] <;> simp

theorem place3_2 (t : Fin cfg3.N) (s : Fin 16) (o : Fin 64) :
    ((cfg3.win 2).blk t).view.emb (ix3 s 0 o) = ix3 s 0 o := by
  have e : ∀ t : Fin cfg3.N, win3_2.index t = ![0, 0, 0] := by decide +kernel
  funext a
  apply Fin.ext
  fin_cases a <;> blk_simp [e] <;> simp

theorem place3_3 (t : Fin cfg3.N) (o : Fin 64) :
    ((cfg3.win 3).blk t).view.emb (ix3 0 0 o) = ix3 0 0 o := by
  have e : ∀ t : Fin cfg3.N, win3_3.index t = ![0, 0, 0] := by decide +kernel
  funext a
  apply Fin.ext
  fin_cases a <;> blk_simp [e] <;> simp

theorem place3_4 (t : Fin cfg3.N) (o : Fin 64) :
    ((cfg3.win 4).blk t).view.emb (ix3 0 0 o) = ix3 0 0 o := by
  have e : ∀ t : Fin cfg3.N, win3_4.index t = ![0, 0, 0] := by decide +kernel
  funext a
  apply Fin.ext
  fin_cases a <;> blk_simp [e] <;> simp

theorem place3_5 (t : Fin cfg3.N) (i : Fin 1024) (o : Fin 128) :
    ((cfg3.win 5).blk t).view.emb (ix3 0 i o) = ix3 (t.cast N_3) i o := by
  have e : ∀ t : Fin cfg3.N, win3_5.index t = ![t.val, 0, 0] := by decide +kernel
  funext a
  apply Fin.ext
  fin_cases a <;> blk_simp [e] <;> simp

variable (V : (c : Dev nD) → (b : Ref sig .tc) → Buf (Elt Ideal) ((c : Thread nD τ).loc b)) (c : Dev nD)
  (Y : Fin 16 → Fin 1024 → Fin 64 → EReal) (S₁ S₂ : Fin 16 → Fin 64 → EReal) (G B : Fin 64 → EReal)
  (hy : ∀ s i o, V c main_v16_0 (ix3 s i o) = Y s i o)
  (h₁ : ∀ s o, V c main_v16_1 (ix3 s 0 o) = S₁ s o) (h₂ : ∀ s o, V c main_v16_2 (ix3 s 0 o) = S₂ s o)
  (hg : ∀ o, V c main_v17 (ix3 0 0 o) = G o) (hb : ∀ o, V c main_v18 (ix3 0 0 o) = B o)
include hy h₁ h₂ hg hb

set_option maxHeartbeats 2000000 in
theorem arr3 : (dat3 (F := Ideal) V c).arrAt 5 cfg3.N = fun z : S16x1024x128.Idx => widen (fun s i o => lrelu (norm (Ideal.ofBits FTy.f32 1218445312#32) (∑ s, S₁ s o) (∑ s, S₂ s o) (G o) (B o) (Y s i o))) (z 0) (z 1) (z 2) := by
  refine (dat3 (F := Ideal) V c).arrAt_eq_of_covers 5 _ (by decide +kernel) fun t hf (y : S1x1024x128.Idx) => ?_
  obtain ⟨i, o, hz⟩ := block_idx y
  rw [after3_5]
  frame_out
  blk_simp
  subst hz
  refine (bn3_apply (iblk3 V c 0 t) (iblk3 V c 1 t) (iblk3 V c 2 t) (iblk3 V c 3 t) (iblk3 V c 4 t) (Y (t.cast N_3)) S₁ S₂ G B
    (fun i o => (congrArg (V c main_v16_0) (place3_0 t i o)).trans (hy _ i o))
    (fun s o => (congrArg (V c main_v16_1) (place3_1 t s o)).trans (h₁ s o))
    (fun s o => (congrArg (V c main_v16_2) (place3_2 t s o)).trans (h₂ s o))
    (fun o => (congrArg (V c main_v17) (place3_3 t o)).trans (hg o))
    (fun o => (congrArg (V c main_v18) (place3_4 t o)).trans (hb o)) i o).trans ?_
  have hp : (win3_5.blk t).view.emb (ix3 0 i o) = ix3 (t.cast N_3) i o := place3_5 t i o
  rw [hp]
  rfl

end Cert.Proof
end
-- ==== Proof.BnArr5.lean ====
/- The array that the third normalisation stage leaves: the rectified, normalised maxima. -/
module

public import proofs.«01_k».proof.Proof.Gen.KernelIdeal.Frame.Region5
public import proofs.«01_k».proof.Proof.Layer
public import proofs.«01_k».proof.Proof.Place
public import Idealize.ShloMosaic.Lib.Pipeline.ValueKit

@[expose] public section

set_option maxRecDepth 16384

noncomputable section

namespace Cert.Proof

open Idealize.ShloMosaic Idealize.ShloMosaic.TcCoe Idealize.SL.Sem Cert.KernelIdeal Cert.KernelIdeal.Gen
open Idealize.ShloMosaic.Pipeline (Dat)

/-- The block that one grid point stores. -/
theorem bn5_apply (y : Vec Ideal S1x1024x128 .f32) (s₁ s₂ : Vec Ideal S16x1x128 .f32) (g b : Vec Ideal S1x1x128 .f32)
    (Y : Fin 1024 → Fin 128 → EReal) (S₁ S₂ : Fin 16 → Fin 128 → EReal) (G B : Fin 128 → EReal)
    (hy : ∀ i o, y (ix3 0 i o) = Y i o) (h₁ : ∀ s o, s₁ (ix3 s 0 o) = S₁ s o) (h₂ : ∀ s o, s₂ (ix3 s 0 o) = S₂ s o)
    (hg : ∀ o, g (ix3 0 0 o) = G o) (hb : ∀ o, b (ix3 0 0 o) = B o) (i : Fin 1024) (o : Fin 128) :
    (k5_pay1 (F := Ideal) (k5_pay2 s₁ s₂ g b y)) (ix3 0 i o) = lrelu (norm (Ideal.ofBits FTy.f32 1218445312#32) (∑ s, S₁ s o) (∑ s, S₂ s o) (G o) (B o) (Y i o)) := by
  pointwise [k5_pay1, k5_pay2]
  simp only [reduceAdd_slices, hy, h₁, h₂, hg, hb]
  rfl

/-! Where the blocks of grid point `t` lie in their arrays. -/

theorem place5_0 (t : Fin cfg5.N) (i : Fin 1024) (o : Fin 128) :
    ((cfg5.win 0).blk t).view.emb (ix3 0 i o) = ix3 (t.cast N_5) i o := by
  have e : ∀ t : Fin cfg5.N, win5_0.index t = ![t.val, 0, 0] := by decide +kernel
  funext a
  apply Fin.ext
  fin_cases a <;> blk_simp [e] <;> simp

theorem place5_1 (t : Fin cfg5.N) (s : Fin 16) (o : Fin 128) :
    ((cfg5.win 1).blk t).view.emb (ix3 s 0 o) = ix3 s 0 o := by
  have e : ∀ t : Fin cfg5.N, win5_1.index t = ![0, 0, 0] := by decide +kernel
  funext a
  apply Fin.ext
  fin_cases a <;> blk_simp [e] <;> simp

theorem place5_2 (t : Fin cfg5.N) (s : Fin 16) (o : Fin 128) :
    ((cfg5.win 2).blk t).view.emb (ix3 s 0 o) = ix3 s 0 o := by
  have e : ∀ t : Fin cfg5.N, win5_2.index t = ![0, 0, 0] := by decide +kernel
  funext a
  apply Fin.ext
  fin_cases a <;> blk_simp [e] <;> simp

theorem place5_3 (t : Fin cfg5.N) (o : Fin 128) :
    ((cfg5.win 3).blk t).view.emb (ix3 0 0 o) = ix3 0 0 o := by
  have e : ∀ t : Fin cfg5.N, win5_3.index t = ![0, 0, 0] := by decide +kernel
  funext a
  apply Fin.ext
  fin_cases a <;> blk_simp [e] <;> simp

theorem place5_4 (t : Fin cfg5.N) (o : Fin 128) :
    ((cfg5.win 4).blk t).view.emb (ix3 0 0 o) = ix3 0 0 o := by
  have e : ∀ t : Fin cfg5.N, win5_4.index t = ![0, 0, 0] := by decide +kernel
  funext a
  apply Fin.ext
  fin_cases a <;> blk_simp [e] <;> simp

theorem place5_5 (t : Fin cfg5.N) (i : Fin 1024) (o : Fin 128) :
    ((cfg5.win 5).blk t).view.emb (ix3 0 i o) = ix3 (t.cast N_5) i o := by
  have e : ∀ t : Fin cfg5.N, win5_5.index t = ![t.val, 0, 0] := by decide +kernel
  funext a
  apply Fin.ext
  fin_cases a <;> blk_simp [e] <;> simp

variable (V : (c : Dev nD) → (b : Ref sig .tc) → Buf (Elt Ideal) ((c : Thread nD τ).loc b)) (c : Dev nD)
  (Y : Fin 16 → Fin 1024 → Fin 128 → EReal) (S₁ S₂ : Fin 16 → Fin 128 → EReal) (G B : Fin 128 → EReal)
  (hy : ∀ s i o, V c main_v26_0 (ix3 s i o) = Y s i o)
  (h₁ : ∀ s o, V c main_v26_1 (ix3 s 0 o) = S₁ s o) (h₂ : ∀ s o, V c main_v26_2 (ix3 s 0 o) = S₂ s o)
  (hg : ∀ o, V c main_v27 (ix3 0 0 o) = G o) (hb : ∀ o, V c main_v28 (ix3 0 0 o) = B o)
include hy h₁ h₂ hg hb

set_option maxHeartbeats 2000000 in
theorem arr5 : (dat5 (F := Ideal) V c).arrAt 5 cfg5.N = fun z : S16x1024x128.Idx => lrelu (norm (Ideal.ofBits FTy.f32 1218445312#32) (∑ s, S₁ s (z 2)) (∑ s, S₂ s (z 2)) (G (z 2)) (B (z 2)) (Y (z 0) (z 1) (z 2))) := by
  refine (dat5 (F := Ideal) V c).arrAt_eq_of_covers 5 _ (by decide +kernel) fun t hf (y : S1x1024x128.Idx) => ?_
  obtain ⟨i, o, hz⟩ := block_idx y
  rw [after5_5]
  frame_out
  blk_simp
  subst hz
  refine (bn5_apply (iblk5 V c 0 t) (iblk5 V c 1 t) (iblk5 V c 2 t) (iblk5 V c 3 t) (iblk5 V c 4 t) (Y (t.cast N_5)) S₁ S₂ G B
    (fun i o => (congrArg (V c main_v26_0) (place5_0 t i o)).trans (hy _ i o))
    (fun s o => (congrArg (V c main_v26_1) (place5_1 t s o)).trans (h₁ s o))
    (fun s o => (congrArg (V c main_v26_2) (place5_2 t s o)).trans (h₂ s o))
    (fun o => (congrArg (V c main_v27) (place5_3 t o)).trans (hg o))
    (fun o => (congrArg (V c main_v28) (place5_4 t o)).trans (hb o)) i o).trans ?_
  have hp : (win5_5.blk t).view.emb (ix3 0 i o) = ix3 (t.cast N_5) i o := place5_5 t i o
  rw [hp]
  rfl

end Cert.Proof
end
-- ==== Proof.BnArr7.lean ====
/- The array that the fourth normalisation stage leaves: the rectified, normalised maxima. -/
module

public import proofs.«01_k».proof.Proof.Gen.KernelIdeal.Frame.Region7
public import proofs.«01_k».proof.Proof.Layer
public import proofs.«01_k».proof.Proof.Place
public import Idealize.ShloMosaic.Lib.Pipeline.ValueKit

@[expose] public section

set_option maxRecDepth 16384

noncomputable section

namespace Cert.Proof

open Idealize.ShloMosaic Idealize.ShloMosaic.TcCoe Idealize.SL.Sem Cert.KernelIdeal Cert.KernelIdeal.Gen
open Idealize.ShloMosaic.Pipeline (Dat)

/-- The block that one grid point stores. -/
theorem bn7_apply (y : Vec Ideal S1x1024x256 .f32) (s₁ s₂ : Vec Ideal S16x1x256 .f32) (g b : Vec Ideal S1x1x256 .f32)
    (Y : Fin 1024 → Fin 256 → EReal) (S₁ S₂ : Fin 16 → Fin 256 → EReal) (G B : Fin 256 → EReal)
    (hy : ∀ i o, y (ix3 0 i o) = Y i o) (h₁ : ∀ s o, s₁ (ix3 s 0 o) = S₁ s o) (h₂ : ∀ s o, s₂ (ix3 s 0 o) = S₂ s o)
    (hg : ∀ o, g (ix3 0 0 o) = G o) (hb : ∀ o, b (ix3 0 0 o) = B o) (i : Fin 1024) (o : Fin 256) :
    (k7_pay1 (F := Ideal) (k7_pay2 s₁ s₂ g b y)) (ix3 0 i o) = lrelu (norm (Ideal.ofBits FTy.f32 1218445312#32) (∑ s, S₁ s o) (∑ s, S₂ s o) (G o) (B o) (Y i o)) := by
  pointwise [k7_pay1, k7_pay2]
  simp only [reduceAdd_slices, hy, h₁, h₂, hg, hb]
  rfl

/-! Where the blocks of grid point `t` lie in their arrays. -/

theorem place7_0 (t : Fin cfg7.N) (i : Fin 1024) (o : Fin 256) :
    ((cfg7.win 0).blk t).view.emb (ix3 0 i o) = ix3 (t.cast N_7) i o := by
  have e : ∀ t : Fin cfg7.N, win7_0.index t = ![t.val, 0, 0] := by decide +kernel
  funext a
  apply Fin.ext
  fin_cases a <;> blk_simp [e] <;> simp

theorem place7_1 (t : Fin cfg7.N) (s : Fin 16) (o : Fin 256) :
    ((cfg7.win 1).blk t).view.emb (ix3 s 0 o) = ix3 s 0 o := by
  have e : ∀ t : Fin cfg7.N, win7_1.index t = ![0, 0, 0] := by decide +kernel
  funext a
  apply Fin.ext
  fin_cases a <;> blk_simp [e] <;> simp

theorem place7_2 (t : Fin cfg7.N) (s : Fin 16) (o : Fin 256) :
    ((cfg7.win 2).blk t).view.emb (ix3 s 0 o) = ix3 s 0 o := by
  have e : ∀ t : Fin cfg7.N, win7_2.index t = ![0, 0, 0] := by decide +kernel
  funext a
  apply Fin.ext
  fin_cases a <;> blk_simp [e] <;> simp

theorem place7_3 (t : Fin cfg7.N) (o : Fin 256) :
    ((cfg7.win 3).blk t).view.emb (ix3 0 0 o) = ix3 0 0 o := by
  have e : ∀ t : Fin cfg7.N, win7_3.index t = ![0, 0, 0] := by decide +kernel
  funext a
  apply Fin.ext
  fin_cases a <;> blk_simp [e] <;> simp

theorem place7_4 (t : Fin cfg7.N) (o : Fin 256) :
    ((cfg7.win 4).blk t).view.emb (ix3 0 0 o) = ix3 0 0 o := by
  have e : ∀ t : Fin cfg7.N, win7_4.index t = ![0, 0, 0] := by decide +kernel
  funext a
  apply Fin.ext
  fin_cases a <;> blk_simp [e] <;> simp

theorem place7_5 (t : Fin cfg7.N) (i : Fin 1024) (o : Fin 256) :
    ((cfg7.win 5).blk t).view.emb (ix3 0 i o) = ix3 (t.cast N_7) i o := by
  have e : ∀ t : Fin cfg7.N, win7_5.index t = ![t.val, 0, 0] := by decide +kernel
  funext a
  apply Fin.ext
  fin_cases a <;> blk_simp [e] <;> simp

variable (V : (c : Dev nD) → (b : Ref sig .tc) → Buf (Elt Ideal) ((c : Thread nD τ).loc b)) (c : Dev nD)
  (Y : Fin 16 → Fin 1024 → Fin 256 → EReal) (S₁ S₂ : Fin 16 → Fin 256 → EReal) (G B : Fin 256 → EReal)
  (hy : ∀ s i o, V c main_v35_0 (ix3 s i o) = Y s i o)
  (h₁ : ∀ s o, V c main_v35_1 (ix3 s 0 o) = S₁ s o) (h₂ : ∀ s o, V c main_v35_2 (ix3 s 0 o) = S₂ s o)
  (hg : ∀ o, V c main_v36 (ix3 0 0 o) = G o) (hb : ∀ o, V c main_v37 (ix3 0 0 o) = B o)
include hy h₁ h₂ hg hb

set_option maxHeartbeats 2000000 in
theorem arr7 : (dat7 (F := Ideal) V c).arrAt 5 cfg7.N = fun z : S16x1024x256.Idx => lrelu (norm (Ideal.ofBits FTy.f32 1218445312#32) (∑ s, S₁ s (z 2)) (∑ s, S₂ s (z 2)) (G (z 2)) (B (z 2)) (Y (z 0) (z 1) (z 2))) := by
  refine (dat7 (F := Ideal) V c).arrAt_eq_of_covers 5 _ (by decide +kernel) fun t hf (y : S1x1024x256.Idx) => ?_
  obtain ⟨i, o, hz⟩ := block_idx y
  rw [after7_5]
  frame_out
  blk_simp
  subst hz
  refine (bn7_apply (iblk7 V c 0 t) (iblk7 V c 1 t) (iblk7 V c 2 t) (iblk7 V c 3 t) (iblk7 V c 4 t) (Y (t.cast N_7)) S₁ S₂ G B
    (fun i o => (congrArg (V c main_v35_0) (place7_0 t i o)).trans (hy _ i o))
    (fun s o => (congrArg (V c main_v35_1) (place7_1 t s o)).trans (h₁ s o))
    (fun s o => (congrArg (V c main_v35_2) (place7_2 t s o)).trans (h₂ s o))
    (fun o => (congrArg (V c main_v36) (place7_3 t o)).trans (hg o))
    (fun o => (congrArg (V c main_v37) (place7_4 t o)).trans (hb o)) i o).trans ?_
  have hp : (win7_5.blk t).view.emb (ix3 0 i o) = ix3 (t.cast N_7) i o := place7_5 t i o
  rw [hp]
  rfl

end Cert.Proof
end
-- ==== Proof.Head1.lean ====
/- The arrays that the first head stage leaves: the convolution of all layers' channels, its sums and the sums of its squares. -/
module

public import proofs.«01_k».proof.Proof.Gen.KernelIdeal.Frame.Region8
public import proofs.«01_k».proof.Proof.Layer
public import proofs.«01_k».proof.Proof.Place
public import Idealize.ShloMosaic.Lib.Pipeline.ValueKit

@[expose] public section

set_option maxRecDepth 16384

noncomputable section

namespace Cert.Proof

open Idealize.ShloMosaic Idealize.ShloMosaic.TcCoe Idealize.SL.Sem Cert.KernelIdeal Cert.KernelIdeal.Gen
open Idealize.ShloMosaic.Pipeline (Dat)

/-- The convolution that one grid point computes. -/
theorem head1_apply (v₁ v₂ v₃ : Vec Ideal S1x1024x128 .f32) (v₄ : Vec Ideal S1x1024x256 .f32) (w : Vec Ideal S512x1024 .f32)
    (x₁ x₂ : Fin 1024 → Fin 64 → EReal) (x₃ : Fin 1024 → Fin 128 → EReal) (x₄ : Fin 1024 → Fin 256 → EReal) (W : Fin 512 → Fin 1024 → EReal)
    (h₁ : ∀ i (q : Fin 128), v₁ (ix3 0 i q) = if h : (q : Nat) < 64 then x₁ i ⟨q, h⟩ else 0)
    (h₂ : ∀ i (q : Fin 128), v₂ (ix3 0 i q) = if h : (q : Nat) < 64 then x₂ i ⟨q, h⟩ else 0)
    (h₃ : ∀ i q, v₃ (ix3 0 i q) = x₃ i q) (h₄ : ∀ i q, v₄ (ix3 0 i q) = x₄ i q) (hW : ∀ q o, w (ix2 q o) = W q o) (i o : Fin 1024) :
    k8_pay1 (F := Ideal) v₁ v₂ v₃ v₄ w (ix2 i o) = headConv x₁ x₂ x₃ x₄ W i o := by
  pointwise [k8_pay1]
  unfold headConv headIn
  refine Finset.sum_congr rfl fun q _ => ?_
  rw [hW]
  refine congrArg (· * _) ?_
  split
  · next h => rw [h₁]; exact dif_pos h
  · split
    · next h => rw [h₂]; exact dif_pos h
    · split
      · rw [h₃]
      · rw [h₄]

/-! Where the blocks of grid point `t` lie in their arrays. -/

theorem place8_0 (t : Fin cfg8.N) (i : Fin 1024) (q : Fin 128) :
    ((cfg8.win 0).blk t).view.emb (ix3 0 i q) = ix3 (t.cast N_8) i q := by
  have e : ∀ t : Fin cfg8.N, win8_0.index t = ![t.val, 0, 0] := by decide +kernel
  funext a
  apply Fin.ext
  fin_cases a <;> blk_simp [e] <;> simp

theorem place8_1 (t : Fin cfg8.N) (i : Fin 1024) (q : Fin 128) :
    ((cfg8.win 1).blk t).view.emb (ix3 0 i q) = ix3 (t.cast N_8) i q := by
  have e : ∀ t : Fin cfg8.N, win8_1.index t = ![t.val, 0, 0] := by decide +kernel
  funext a
  apply Fin.ext
  fin_cases a <;> blk_simp [e] <;> simp

theorem place8_2 (t : Fin cfg8.N) (i : Fin 1024) (q : Fin 128) :
    ((cfg8.win 2).blk t).view.emb (ix3 0 i q) = ix3 (t.cast N_8) i q := by
  have e : ∀ t : Fin cfg8.N, win8_2.index t = ![t.val, 0, 0] := by decide +kernel
  funext a
  apply Fin.ext
  fin_cases a <;> blk_simp [e] <;> simp

theorem place8_3 (t : Fin cfg8.N) (i : Fin 1024) (q : Fin 256) :
    ((cfg8.win 3).blk t).view.emb (ix3 0 i q) = ix3 (t.cast N_8) i q := by
  have e : ∀ t : Fin cfg8.N, win8_3.index t = ![t.val, 0, 0] := by decide +kernel
  funext a
  apply Fin.ext
  fin_cases a <;> blk_simp [e] <;> simp

theorem place8_4 (t : Fin cfg8.N) (q : Fin 512) (o : Fin 1024) :
    ((cfg8.win 4).blk t).view.emb (ix2 q o) = ix2 q o := by
  have e : ∀ t : Fin cfg8.N, win8_4.index t = ![0, 0] := by decide +kernel
  funext a
  apply Fin.ext
  fin_cases a <;> blk_simp [e] <;> simp

theorem place8_5 (t : Fin cfg8.N) (i o : Fin 1024) :
    ((cfg8.win 5).blk t).view.emb (ix3 0 i o) = ix3 (t.cast N_8) i o := by
  have e : ∀ t : Fin cfg8.N, win8_5.index t = ![t.val, 0, 0] := by decide +kernel
  funext a
  apply Fin.ext
  fin_cases a <;> blk_simp [e] <;> simp

theorem place8_6 (t : Fin cfg8.N) (o : Fin 1024) :
    ((cfg8.win 6).blk t).view.emb (ix3 0 0 o) = ix3 (t.cast N_8) 0 o := by
  have e : ∀ t : Fin cfg8.N, win8_6.index t = ![t.val, 0, 0] := by decide +kernel
  funext a
  apply Fin.ext
  fin_cases a <;> blk_simp [e] <;> simp

theorem place8_7 (t : Fin cfg8.N) (o : Fin 1024) :
    ((cfg8.win 7).blk t).view.emb (ix3 0 0 o) = ix3 (t.cast N_8) 0 o := by
  have e : ∀ t : Fin cfg8.N, win8_7.index t = ![t.val, 0, 0] := by decide +kernel
  funext a
  apply Fin.ext
  fin_cases a <;> blk_simp [e] <;> simp

variable (V : (c : Dev nD) → (b : Ref sig .tc) → Buf (Elt Ideal) ((c : Thread nD τ).loc b)) (c : Dev nD)
  (x₁ x₂ : Fin 16 → Fin 1024 → Fin 64 → EReal) (x₃ : Fin 16 → Fin 1024 → Fin 128 → EReal) (x₄ : Fin 16 → Fin 1024 → Fin 256 → EReal)
  (W : Fin 512 → Fin 1024 → EReal)
  (h₁ : ∀ s i q, V c main_v9 (ix3 s i q) = if h : (q : Nat) < 64 then x₁ s i ⟨q, h⟩ else 0)
  (h₂ : ∀ s i q, V c main_v19 (ix3 s i q) = if h : (q : Nat) < 64 then x₂ s i ⟨q, h⟩ else 0)
  (h₃ : ∀ s i q, V c main_v29 (ix3 s i q) = x₃ s i q) (h₄ : ∀ s i q, V c main_v38 (ix3 s i q) = x₄ s i q)
  (hW : ∀ q o, V c main_v39 (ix2 q o) = W q o)
include h₁ h₂ h₃ h₄ hW

/-- The convolution of one grid point, in terms of the arrays. -/
theorem head1_block (t : Fin cfg8.N) (i o : Fin 1024) :
    k8_pay1 (F := Ideal) (iblk8 V c 0 t) (iblk8 V c 1 t) (iblk8 V c 2 t) (iblk8 V c 3 t) (iblk8 V c 4 t) (ix2 i o)
      = headConv (x₁ (t.cast N_8)) (x₂ (t.cast N_8)) (x₃ (t.cast N_8)) (x₄ (t.cast N_8)) W i o :=
  head1_apply _ _ _ _ _ _ _ _ _ _
    (fun i q => (congrArg (V c main_v9) (place8_0 t i q)).trans (h₁ _ i q))
    (fun i q => (congrArg (V c main_v19) (place8_1 t i q)).trans (h₂ _ i q))
    (fun i q => (congrArg (V c main_v29) (place8_2 t i q)).trans (h₃ _ i q))
    (fun i q => (congrArg (V c main_v38) (place8_3 t i q)).trans (h₄ _ i q))
    (fun q o => (congrArg (V c main_v39) (place8_4 t q o)).trans (hW q o)) i o

set_option maxHeartbeats 2000000 in
/-- The array of the convolution. -/
theorem arr8_y : (dat8 (F := Ideal) V c).arrAt 5 cfg8.N = fun z : S16x1024x1024.Idx => headConv (x₁ (z 0)) (x₂ (z 0)) (x₃ (z 0)) (x₄ (z 0)) W (z 1) (z 2) := by
  refine (dat8 (F := Ideal) V c).arrAt_eq_of_covers 5 _ (by decide +kernel) fun t hf (y : S1x1024x1024.Idx) => ?_
  obtain ⟨i, o, hz⟩ := block_idx y
  rw [after8_5]
  frame_out
  blk_simp
  subst hz
  have hp : (win8_5.blk t).view.emb (ix3 0 i o) = ix3 (t.cast N_8) i o := place8_5 t i o
  rw [hp]
  pointwise [k8_pay2]
  simp only [head1_block V c x₁ x₂ x₃ x₄ W h₁ h₂ h₃ h₄ hW t]
  rfl

set_option maxHeartbeats 2000000 in
/-- The array of its sums. -/
theorem arr8_sum : (dat8 (F := Ideal) V c).arrAt 6 cfg8.N = fun z : S16x1x1024.Idx => ∑ i, headConv (x₁ (z 0)) (x₂ (z 0)) (x₃ (z 0)) (x₄ (z 0)) W i (z 2) := by
  refine (dat8 (F := Ideal) V c).arrAt_eq_of_covers 6 _ (by decide +kernel) fun t hf (y : S1x1x1024.Idx) => ?_
  obtain ⟨o, hz⟩ := row_idx y
  rw [after8_6]
  frame_out
  blk_simp
  subst hz
  have hp : (win8_6.blk t).view.emb (ix3 0 0 o) = ix3 (t.cast N_8) 0 o := place8_6 t o
  rw [hp]
  pointwise [k8_pay3]
  simp only [head1_block V c x₁ x₂ x₃ x₄ W h₁ h₂ h₃ h₄ hW t]
  rfl

set_option maxHeartbeats 2000000 in
/-- The array of the sums of its squares. -/
theorem arr8_sq : (dat8 (F := Ideal) V c).arrAt 7 cfg8.N = fun z : S16x1x1024.Idx => ∑ i, headConv (x₁ (z 0)) (x₂ (z 0)) (x₃ (z 0)) (x₄ (z 0)) W i (z 2) * headConv (x₁ (z 0)) (x₂ (z 0)) (x₃ (z 0)) (x₄ (z 0)) W i (z 2) := by
  refine (dat8 (F := Ideal) V c).arrAt_eq_of_covers 7 _ (by decide +kernel) fun t hf (y : S1x1x1024.Idx) => ?_
  obtain ⟨o, hz⟩ := row_idx y
  rw [after8_7]
  frame_out
  blk_simp
  subst hz
  have hp : (win8_7.blk t).view.emb (ix3 0 0 o) = ix3 (t.cast N_8) 0 o := place8_7 t o
  rw [hp]
  pointwise [k8_pay4]
  simp only [head1_block V c x₁ x₂ x₃ x₄ W h₁ h₂ h₃ h₄ hW t]
  rfl

end Cert.Proof
end
-- ==== Proof.Head2.lean ====
/- The array that the second head stage leaves: every channel's maximum over the points, then every channel's mean. -/
module

public import proofs.«01_k».proof.Proof.Gen.KernelIdeal.Frame.Region9
public import proofs.«01_k».proof.Proof.Layer
public import proofs.«01_k».proof.Proof.Place
public import proofs.«01_k».proof.Proof.EdgeStep
public import Idealize.ShloMosaic.Lib.Pipeline.ValueKit

@[expose] public section

set_option maxRecDepth 16384

noncomputable section

namespace Cert.Proof

open Idealize.ShloMosaic Idealize.ShloMosaic.TcCoe Idealize.SL.Sem Cert.KernelIdeal Cert.KernelIdeal.Gen
open Idealize.ShloMosaic.Pipeline (Dat)

/-- Where column `r` of a half that starts at column `o` lies. -/
theorem half_emb (o : Nat) (inb : ∀ a, (![0, 0, o] : Fin 3 → Nat) a + S1x1x1024.size a ≤ S1x1x2048.size a) (r : Fin 1024) (q : Fin 2048)
    (h : o + r = (q : Nat)) : (Rect.unit (s := S1x1x2048) ![0, 0, o] S1x1x1024.size inb).emb (ix3 0 0 r) = ix3 0 0 q := by
  refine funext fun a => Fin.ext ((Rect.emb_apply _ _ a).trans ?_)
  fin_cases a
  · rfl
  · rfl
  · exact (congrArg (o + ·) (one_mul _)).trans h

/-- Under the last store, a buffer holds what was stored. -/
theorem canon_at {s : Shape} (r : Rect s) (w : r.shape.Idx → Elt Ideal .f32) (L : List (View.Piece (Elt Ideal) s .f32)) (x : r.shape.Idx) (y : s.Idx)
    (h : r.emb x = y) : View.canon (Val := Elt Ideal) (⟨r, w⟩ :: L) y = w x :=
  h ▸ View.canon_cons_emb r w L x

/-- Beside it, the buffer holds what the earlier stores left. -/
theorem canon_off {s : Shape} (r : Rect s) (w : r.shape.Idx → Elt Ideal .f32) (L : List (View.Piece (Elt Ideal) s .f32)) (y : s.Idx)
    (h : y ∉ r.set) : View.canon (Val := Elt Ideal) (⟨r, w⟩ :: L) y = View.canon L y :=
  View.canon_cons_of_not_mem _ _ h

/-- Two stored halves, read at one column. -/
theorem halves_apply (p₁ p₂ : FVec Ideal S1x1x1024 .f32) (q : Fin 2048) :
    View.canon (Val := Elt Ideal) (s := S1x1x2048) (e := .f32) [⟨r9_4, p₂⟩, ⟨r9_3, p₁⟩] (ix3 0 0 q)
      = if h : (q : Nat) < 1024 then p₁ (ix3 0 0 ⟨q, h⟩) else p₂ (ix3 0 0 ⟨q - 1024, by omega⟩) := by
  split
  · next h =>
    have e : r9_3.emb (ix3 0 0 (⟨q, h⟩ : Fin 1024)) = (ix3 0 0 q : S1x1x2048.Idx) := half_emb 0 _ _ _ (Nat.zero_add _)
    have hn : (ix3 0 0 q : S1x1x2048.Idx) ∉ r9_4.set := by
      intro hm
      obtain ⟨x, hx⟩ := r9_4.exists_idx_of_mem hm
      obtain ⟨x', hx'⟩ := row_idx (x : S1x1x1024.Idx)
      have h2 := congrArg (fun y : S1x1x2048.Idx => (y 2 : Nat)) ((congrArg r9_4.emb hx').symm.trans hx)
      have h3 := congrArg (fun y : S1x1x2048.Idx => (y 2 : Nat)) (half_emb 1024 inb_S1x1x2048_S1x1x1024_0_0_1024 x' ⟨1024 + x', by omega⟩ rfl)
      have h4 : (q : Nat) = 1024 + x' := h2.symm.trans h3
      omega
    refine (canon_off r9_4 p₂ [⟨r9_3, p₁⟩] _ hn).trans ?_
    exact canon_at r9_3 p₁ [] (ix3 0 0 (⟨q, h⟩ : Fin 1024)) _ e
  · next h =>
    have e : r9_4.emb (ix3 0 0 (⟨q - 1024, by omega⟩ : Fin 1024)) = (ix3 0 0 q : S1x1x2048.Idx) :=
      half_emb 1024 _ _ _ (Nat.add_sub_cancel' (not_lt.mp h))
    exact canon_at r9_4 p₂ [⟨r9_3, p₁⟩] (ix3 0 0 (⟨q - 1024, by omega⟩ : Fin 1024)) _ e

/-- The halves that the stage stores are the two halves of the pooled values. -/
theorem pool_apply (w : FVec Ideal S1024x1024 .f32) (z : Fin 1024 → Fin 1024 → EReal) (hw : ∀ i o, w (ix2 i o) = z i o) (q : Fin 2048) :
    View.canon (Val := Elt Ideal) (s := S1x1x2048) (e := .f32) [⟨r9_4, k9_pay2 (F := Ideal) w⟩, ⟨r9_3, k9_pay1 (F := Ideal) w⟩] (ix3 0 0 q)
      = pool z q := by
  have h₁ : ∀ o : Fin 1024, k9_pay1 (F := Ideal) w (ix3 0 0 o) = Finset.univ.sup fun i => z i o := by
    intro o
    pointwise [k9_pay1]
    simp only [hw, ofBits_negInf]
    rfl
  have h₂ : ∀ o : Fin 1024, k9_pay2 (F := Ideal) w (ix3 0 0 o) = Ideal.div (∑ i, z i o) (Ideal.ofBits FTy.f32 1149239296#32) := by
    intro o
    pointwise [k9_pay2]
    simp only [hw]
  rw [halves_apply]
  unfold pool
  simp only [h₁, h₂]

/-- The rectified, normalised convolution. -/
theorem head2_apply (s₁ s₂ : Vec Ideal S16x1x1024 .f32) (y : Vec Ideal S1x1024x1024 .f32) (g b : Vec Ideal S1x1x1024 .f32)
    (Y : Fin 1024 → Fin 1024 → EReal) (S₁ S₂ : Fin 16 → Fin 1024 → EReal) (G B : Fin 1024 → EReal)
    (hy : ∀ i o, y (ix3 0 i o) = Y i o) (h₁ : ∀ s o, s₁ (ix3 s 0 o) = S₁ s o) (h₂ : ∀ s o, s₂ (ix3 s 0 o) = S₂ s o)
    (hg : ∀ o, g (ix3 0 0 o) = G o) (hb : ∀ o, b (ix3 0 0 o) = B o) (i o : Fin 1024) :
    k9_pay3 (F := Ideal) s₁ s₂ y g b (ix2 i o)
      = lrelu (norm (Ideal.ofBits FTy.f32 1182793728#32) (∑ s, S₁ s o) (∑ s, S₂ s o) (G o) (B o) (Y i o)) := by
  pointwise [k9_pay3]
  simp only [reduceAdd_slices, hy, h₁, h₂, hg, hb]
  rfl

/-! Where the blocks of grid point `t` lie in their arrays. -/

theorem place9_0 (t : Fin cfg9.N) (i o : Fin 1024) :
    ((cfg9.win 0).blk t).view.emb (ix3 0 i o) = ix3 (t.cast N_9) i o := by
  have e : ∀ t : Fin cfg9.N, win9_0.index t = ![t.val, 0, 0] := by decide +kernel
  funext a
  apply Fin.ext
  fin_cases a <;> blk_simp [e] <;> simp

theorem place9_1 (t : Fin cfg9.N) (s : Fin 16) (o : Fin 1024) :
    ((cfg9.win 1).blk t).view.emb (ix3 s 0 o) = ix3 s 0 o := by
  have e : ∀ t : Fin cfg9.N, win9_1.index t = ![0, 0, 0] := by decide +kernel
  funext a
  apply Fin.ext
  fin_cases a <;> blk_simp [e] <;> simp

theorem place9_2 (t : Fin cfg9.N) (s : Fin 16) (o : Fin 1024) :
    ((cfg9.win 2).blk t).view.emb (ix3 s 0 o) = ix3 s 0 o := by
  have e : ∀ t : Fin cfg9.N, win9_2.index t = ![0, 0, 0] := by decide +kernel
  funext a
  apply Fin.ext
  fin_cases a <;> blk_simp [e] <;> simp

theorem place9_3 (t : Fin cfg9.N) (o : Fin 1024) :
    ((cfg9.win 3).blk t).view.emb (ix3 0 0 o) = ix3 0 0 o := by
  have e : ∀ t : Fin cfg9.N, win9_3.index t = ![0, 0, 0] := by decide +kernel
  funext a
  apply Fin.ext
  fin_cases a <;> blk_simp [e] <;> simp

theorem place9_4 (t : Fin cfg9.N) (o : Fin 1024) :
    ((cfg9.win 4).blk t).view.emb (ix3 0 0 o) = ix3 0 0 o := by
  have e : ∀ t : Fin cfg9.N, win9_4.index t = ![0, 0, 0] := by decide +kernel
  funext a
  apply Fin.ext
  fin_cases a <;> blk_simp [e] <;> simp

theorem place9_5 (t : Fin cfg9.N) (q : Fin 2048) :
    ((cfg9.win 5).blk t).view.emb (ix3 0 0 q) = ix3 (t.cast N_9) 0 q := by
  have e : ∀ t : Fin cfg9.N, win9_5.index t = ![t.val, 0, 0] := by decide +kernel
  funext a
  apply Fin.ext
  fin_cases a <;> blk_simp [e] <;> simp

variable (V : (c : Dev nD) → (b : Ref sig .tc) → Buf (Elt Ideal) ((c : Thread nD τ).loc b)) (c : Dev nD)
  (Y : Fin 16 → Fin 1024 → Fin 1024 → EReal) (S₁ S₂ : Fin 16 → Fin 1024 → EReal) (G B : Fin 1024 → EReal)
  (hy : ∀ s i o, V c main_v40_0 (ix3 s i o) = Y s i o)
  (h₁ : ∀ s o, V c main_v40_1 (ix3 s 0 o) = S₁ s o) (h₂ : ∀ s o, V c main_v40_2 (ix3 s 0 o) = S₂ s o)
  (hg : ∀ o, V c main_v41 (ix3 0 0 o) = G o) (hb : ∀ o, V c main_v42 (ix3 0 0 o) = B o)
include hy h₁ h₂ hg hb

set_option maxHeartbeats 2000000 in
theorem arr9 : (dat9 (F := Ideal) V c).arrAt 5 cfg9.N = fun z : S16x1x2048.Idx =>
    pool (fun i o => lrelu (norm (Ideal.ofBits FTy.f32 1182793728#32) (∑ s, S₁ s o) (∑ s, S₂ s o) (G o) (B o) (Y (z 0) i o))) (z 2) := by
  refine (dat9 (F := Ideal) V c).arrAt_eq_of_covers 5 _ (by decide +kernel) fun t hf (y : S1x1x2048.Idx) => ?_
  obtain ⟨q, hz⟩ := row_idx y
  rw [after9_5]
  unfold out9_5
  blk_simp
  subst hz
  have hv : ∀ i o, k9_pay4 (F := Ideal) (iblk9 V c 0 t) (iblk9 V c 1 t) (iblk9 V c 2 t) (iblk9 V c 3 t) (iblk9 V c 4 t) (ix2 i o)
      = lrelu (norm (Ideal.ofBits FTy.f32 1182793728#32) (∑ s, S₁ s o) (∑ s, S₂ s o) (G o) (B o) (Y (t.cast N_9) i o)) := by
    intro i o
    unfold k9_pay4
    frame_out
    exact head2_apply (iblk9 V c 1 t) (iblk9 V c 2 t) (iblk9 V c 0 t) (iblk9 V c 3 t) (iblk9 V c 4 t) (Y (t.cast N_9)) S₁ S₂ G B
      (fun i o => (congrArg (V c main_v40_0) (place9_0 t i o)).trans (hy _ i o))
      (fun s o => (congrArg (V c main_v40_1) (place9_1 t s o)).trans (h₁ s o))
      (fun s o => (congrArg (V c main_v40_2) (place9_2 t s o)).trans (h₂ s o))
      (fun o => (congrArg (V c main_v41) (place9_3 t o)).trans (hg o))
      (fun o => (congrArg (V c main_v42) (place9_4 t o)).trans (hb o)) i o
  refine (pool_apply _ _ hv q).trans ?_
  have hp : (win9_5.blk t).view.emb (ix3 0 0 q) = ix3 (t.cast N_9) 0 q := place9_5 t q
  rw [hp]
  rfl

end Cert.Proof
end
-- ==== Proof.Head3.lean ====
/- The result array: the last layer's product with the weights, normalised over the sixteen clouds. -/
module

public import proofs.«01_k».proof.Proof.Gen.KernelIdeal.Frame.Region10
public import proofs.«01_k».proof.Proof.Layer
public import proofs.«01_k».proof.Proof.Place
public import Idealize.ShloMosaic.Lib.Pipeline.ValueKit

@[expose] public section

set_option maxRecDepth 16384

noncomputable section

namespace Cert.Proof

open Idealize.ShloMosaic Idealize.ShloMosaic.TcCoe Idealize.SL.Sem Cert.KernelIdeal Cert.KernelIdeal.Gen
open Idealize.ShloMosaic.Pipeline (Dat)

/-- The values that the stage computes. -/
theorem head3_apply (v : Vec Ideal S16x1x2048 .f32) (w : Vec Ideal S2048x256 .f32) (g b : Vec Ideal S1x1x256 .f32)
    (z : Fin 16 → Fin 2048 → EReal) (W : Fin 2048 → Fin 256 → EReal) (G B : Fin 256 → EReal)
    (hz : ∀ s q, v (ix3 s 0 q) = z s q) (hW : ∀ q o, w (ix2 q o) = W q o) (hg : ∀ o, g (ix3 0 0 o) = G o) (hb : ∀ o, b (ix3 0 0 o) = B o)
    (s : Fin 16) (o : Fin 256) : k10_pay1 (F := Ideal) v w g b (ix2 s o) = lastLayer z W G B s o := by
  pointwise [k10_pay1]
  simp only [hz, hW, hg, hb]
  rfl

/-! Every block is its whole array. -/

theorem place10_0 (t : Fin cfg10.N) (s : Fin 16) (q : Fin 2048) :
    ((cfg10.win 0).blk t).view.emb (ix3 s 0 q) = ix3 s 0 q := by
  have e : ∀ t : Fin cfg10.N, win10_0.index t = ![0, 0, 0] := by decide +kernel
  funext a
  apply Fin.ext
  fin_cases a <;> blk_simp [e] <;> simp

theorem place10_1 (t : Fin cfg10.N) (q : Fin 2048) (o : Fin 256) :
    ((cfg10.win 1).blk t).view.emb (ix2 q o) = ix2 q o := by
  have e : ∀ t : Fin cfg10.N, win10_1.index t = ![0, 0] := by decide +kernel
  funext a
  apply Fin.ext
  fin_cases a <;> blk_simp [e] <;> simp

theorem place10_2 (t : Fin cfg10.N) (o : Fin 256) :
    ((cfg10.win 2).blk t).view.emb (ix3 0 0 o) = ix3 0 0 o := by
  have e : ∀ t : Fin cfg10.N, win10_2.index t = ![0, 0, 0] := by decide +kernel
  funext a
  apply Fin.ext
  fin_cases a <;> blk_simp [e] <;> simp

theorem place10_3 (t : Fin cfg10.N) (o : Fin 256) :
    ((cfg10.win 3).blk t).view.emb (ix3 0 0 o) = ix3 0 0 o := by
  have e : ∀ t : Fin cfg10.N, win10_3.index t = ![0, 0, 0] := by decide +kernel
  funext a
  apply Fin.ext
  fin_cases a <;> blk_simp [e] <;> simp

theorem place10_4 (t : Fin cfg10.N) (s : Fin 16) (o : Fin 256) :
    ((cfg10.win 4).blk t).view.emb (ix2 s o) = ix2 s o := by
  have e : ∀ t : Fin cfg10.N, win10_4.index t = ![0, 0] := by decide +kernel
  funext a
  apply Fin.ext
  fin_cases a <;> blk_simp [e] <;> simp

variable (V : (c : Dev nD) → (b : Ref sig .tc) → Buf (Elt Ideal) ((c : Thread nD τ).loc b)) (c : Dev nD)
  (z : Fin 16 → Fin 2048 → EReal) (W : Fin 2048 → Fin 256 → EReal) (G B : Fin 256 → EReal)
  (hz : ∀ s q, V c main_v43 (ix3 s 0 q) = z s q) (hW : ∀ q o, V c main_v44 (ix2 q o) = W q o)
  (hg : ∀ o, V c main_v45 (ix3 0 0 o) = G o) (hb : ∀ o, V c main_v46 (ix3 0 0 o) = B o)
include hz hW hg hb

set_option maxHeartbeats 2000000 in
theorem arr10 : (dat10 (F := Ideal) V c).arrAt 4 cfg10.N = fun y : S16x256.Idx => lastLayer z W G B (y 0) (y 1) := by
  refine (dat10 (F := Ideal) V c).arrAt_eq_of_covers 4 _ (by decide +kernel) fun t hf (y : S16x256.Idx) => ?_
  have hy : ∃ s o, y = ix2 s o := ⟨y 0, y 1, funext fun a => by fin_cases a <;> rfl⟩
  obtain ⟨s, o, hy⟩ := hy
  rw [after10_4]
  frame_out
  blk_simp
  subst hy
  refine (head3_apply (iblk10 V c 0 t) (iblk10 V c 1 t) (iblk10 V c 2 t) (iblk10 V c 3 t) z W G B
    (fun s q => (congrArg (V c main_v43) (place10_0 t s q)).trans (hz s q))
    (fun q o => (congrArg (V c main_v44) (place10_1 t q o)).trans (hW q o))
    (fun o => (congrArg (V c main_v45) (place10_2 t o)).trans (hg o))
    (fun o => (congrArg (V c main_v46) (place10_3 t o)).trans (hb o)) s o).trans ?_
  have hp : (win10_4.blk t).view.emb (ix2 s o) = ix2 s o := place10_4 t s o
  rw [hp]
  rfl

end Cert.Proof
end
-- ==== Proof.HostOps.lean ====
/- What the host operations between the stages compute: padded and transposed features, squared lengths, transposed weights, reshaped scales and shifts. -/
module

public import proofs.«01_k».proof.Proof.Gen.KernelIdeal.Launch
public import proofs.«01_k».proof.Proof.Layer
public import Idealize.ShloMosaic.Lib.Pointwise
public import Idealize.ShloMosaic.Lib.StableHlo.Run

@[expose] public section

set_option maxRecDepth 16384

noncomputable section

namespace Cert.Proof

open Idealize.ShloMosaic Idealize.ShloMosaic.TcCoe Idealize.SL.Sem Cert.KernelIdeal Cert.KernelIdeal.Gen

variable (W : Valuation τ sig (Elt Ideal))

/-- The points, one per row, with columns of zeros after the coordinates. -/
theorem host_v1 (b : Fin 16) (i : Fin 1024) (q : Fin 128) :
    StableHlo.after hostOps0_1 (StableHlo.after hostOps0 W) (Proc.devRef .tc main_v1) (ix3 b i q)
      = if h : (q : Nat) < 3 then W (Proc.devRef .tc main_arg0) (ix3 b ⟨q, h⟩ i) else (0 : EReal) := by
  after_results
  change pad S16x1024x128 ![0, 0, 0] ![0, 0, 125] ![0, 0, 0]
    (transpose S16x1024x3 [0, 2, 1] (W (Proc.devRef .tc main_arg0)) transposes_S16x3x1024_S16x1024x3_0_2_1)
    (sitofp (F := Ideal) FTy.f32 (constantI S_ 32 0#32)) pads_S16x1024x3_S16x1024x128_000_000_01250 h_S_ (ix3 b i q) = _
  pointwise []
  have e : (FloatOps.sitofp (F := Ideal) FTy.f32 (0#32 : BitVec 32) : EReal) = 0 := by
    change (((0#32 : BitVec 32).toInt : ℝ) : EReal) = 0
    simp
  rw [e]

/-- The squared lengths of the points. -/
theorem host_v4 (b : Fin 16) (j : Fin 1024) : StableHlo.after hostOps0_2 W (Proc.devRef .tc main_v4) (ix3 b 0 j)
    = sqNorm (fun i q => W (Proc.devRef .tc main_arg0) (ix3 b q i)) j := by
  after_results
  pointwise []
  rfl

/-- The squared lengths of the features in `v9`. -/
theorem host_v14 (X : Fin 16 → Fin 1024 → Fin 64 → EReal)
    (h : ∀ s i (q : Fin 128), W (Proc.devRef .tc main_v9) (ix3 s i q) = widen X s i q) (b : Fin 16) (j : Fin 1024) :
    StableHlo.after hostOps2 W (Proc.devRef .tc main_v14) (ix3 b 0 j) = sqNorm (X b) j := by
  after_results
  pointwise []
  have e : ∀ q : Fin 64, (W (Proc.devRef .tc main_v9) (ix3 b j ⟨q, by omega⟩) : EReal) = X b j q := fun q =>
    (h b j ⟨q, by omega⟩).trans (dif_pos q.2)
  exact Finset.sum_congr (M := EReal) rfl fun q _ => congrArg₂ (fun a a' : EReal => a * a') (e q) (e q)

/-- The squared lengths of the features in `v19`. -/
theorem host_v24 (X : Fin 16 → Fin 1024 → Fin 64 → EReal)
    (h : ∀ s i (q : Fin 128), W (Proc.devRef .tc main_v19) (ix3 s i q) = widen X s i q) (b : Fin 16) (j : Fin 1024) :
    StableHlo.after hostOps4 W (Proc.devRef .tc main_v24) (ix3 b 0 j) = sqNorm (X b) j := by
  after_results
  pointwise []
  have e : ∀ q : Fin 64, (W (Proc.devRef .tc main_v19) (ix3 b j ⟨q, by omega⟩) : EReal) = X b j q := fun q =>
    (h b j ⟨q, by omega⟩).trans (dif_pos q.2)
  exact Finset.sum_congr (M := EReal) rfl fun q _ => congrArg₂ (fun a a' : EReal => a * a') (e q) (e q)

/-- The squared lengths of the features in `v29`. -/
theorem host_v33 (X : Fin 16 → Fin 1024 → Fin 128 → EReal)
    (h : ∀ s i (q : Fin 128), W (Proc.devRef .tc main_v29) (ix3 s i q) = X s i q) (b : Fin 16) (j : Fin 1024) :
    StableHlo.after hostOps6 W (Proc.devRef .tc main_v33) (ix3 b 0 j) = sqNorm (X b) j := by
  after_results
  pointwise []
  have e : ∀ q : Fin 128, (W (Proc.devRef .tc main_v29) (ix3 b j ⟨q, by omega⟩) : EReal) = X b j q := fun q =>
    (h b j ⟨q, by omega⟩).trans rfl
  exact Finset.sum_congr (M := EReal) rfl fun q _ => congrArg₂ (fun a a' : EReal => a * a') (e q) (e q)

/-! The transposed weights. -/

theorem host_v5 (q : Fin 6) (o : Fin 64) :
    StableHlo.after hostOps0_2 W (Proc.devRef .tc main_v5) (ix2 q o) = W (Proc.devRef .tc main_arg1) (ix2 o q) := by
  after_results
  pointwise []

theorem host_v15 (q : Fin 128) (o : Fin 64) :
    StableHlo.after hostOps2 W (Proc.devRef .tc main_v15) (ix2 q o) = W (Proc.devRef .tc main_arg4) (ix2 o q) := by
  after_results
  pointwise []

theorem host_v25 (q : Fin 128) (o : Fin 128) :
    StableHlo.after hostOps4 W (Proc.devRef .tc main_v25) (ix2 q o) = W (Proc.devRef .tc main_arg7) (ix2 o q) := by
  after_results
  pointwise []

theorem host_v34 (q : Fin 256) (o : Fin 256) :
    StableHlo.after hostOps6 W (Proc.devRef .tc main_v34) (ix2 q o) = W (Proc.devRef .tc main_arg10) (ix2 o q) := by
  after_results
  pointwise []

theorem host_v39 (q : Fin 512) (o : Fin 1024) :
    StableHlo.after hostOps8 W (Proc.devRef .tc main_v39) (ix2 q o) = W (Proc.devRef .tc main_arg13) (ix2 o q) := by
  after_results
  pointwise []

theorem host_v44 (q : Fin 2048) (o : Fin 256) :
    StableHlo.after hostOps10 W (Proc.devRef .tc main_v44) (ix2 q o) = W (Proc.devRef .tc main_arg16) (ix2 o q) := by
  after_results
  pointwise []

/-! The reshaped scales and shifts. -/

theorem host_v7 (o : Fin 64) : StableHlo.after hostOps1 W (Proc.devRef .tc main_v7) (ix3 0 0 o) = W (Proc.devRef .tc main_arg2) (ix1 o) := by
  after_results
  pointwise []

theorem host_v8 (o : Fin 64) : StableHlo.after hostOps1 W (Proc.devRef .tc main_v8) (ix3 0 0 o) = W (Proc.devRef .tc main_arg3) (ix1 o) := by
  after_results
  pointwise []

theorem host_v17 (o : Fin 64) : StableHlo.after hostOps3 W (Proc.devRef .tc main_v17) (ix3 0 0 o) = W (Proc.devRef .tc main_arg5) (ix1 o) := by
  after_results
  pointwise []

theorem host_v18 (o : Fin 64) : StableHlo.after hostOps3 W (Proc.devRef .tc main_v18) (ix3 0 0 o) = W (Proc.devRef .tc main_arg6) (ix1 o) := by
  after_results
  pointwise []

theorem host_v27 (o : Fin 128) : StableHlo.after hostOps5 W (Proc.devRef .tc main_v27) (ix3 0 0 o) = W (Proc.devRef .tc main_arg8) (ix1 o) := by
  after_results
  pointwise []

theorem host_v28 (o : Fin 128) : StableHlo.after hostOps5 W (Proc.devRef .tc main_v28) (ix3 0 0 o) = W (Proc.devRef .tc main_arg9) (ix1 o) := by
  after_results
  pointwise []

theorem host_v36 (o : Fin 256) : StableHlo.after hostOps7 W (Proc.devRef .tc main_v36) (ix3 0 0 o) = W (Proc.devRef .tc main_arg11) (ix1 o) := by
  after_results
  pointwise []

theorem host_v37 (o : Fin 256) : StableHlo.after hostOps7 W (Proc.devRef .tc main_v37) (ix3 0 0 o) = W (Proc.devRef .tc main_arg12) (ix1 o) := by
  after_results
  pointwise []

theorem host_v41 (o : Fin 1024) : StableHlo.after hostOps9 W (Proc.devRef .tc main_v41) (ix3 0 0 o) = W (Proc.devRef .tc main_arg14) (ix1 o) := by
  after_results
  pointwise []

theorem host_v42 (o : Fin 1024) : StableHlo.after hostOps9 W (Proc.devRef .tc main_v42) (ix3 0 0 o) = W (Proc.devRef .tc main_arg15) (ix1 o) := by
  after_results
  pointwise []

theorem host_v45 (o : Fin 256) : StableHlo.after hostOps10 W (Proc.devRef .tc main_v45) (ix3 0 0 o) = W (Proc.devRef .tc main_arg17) (ix1 o) := by
  after_results
  pointwise []

theorem host_v46 (o : Fin 256) : StableHlo.after hostOps10 W (Proc.devRef .tc main_v46) (ix3 0 0 o) = W (Proc.devRef .tc main_arg18) (ix1 o) := by
  after_results
  pointwise []

end Cert.Proof
end
-- ==== Proof.Net.lean ====
/- The network's function of its arguments: four edge layers, the head convolution, the pooling and the last layer. -/
module

public import proofs.«01_k».proof.Proof.Layer
public import Idealize.ShloMosaic.Lib.Pointwise

@[expose] public section

noncomputable section

namespace Cert.Proof

open Idealize.ShloMosaic

/-- The arguments of the network, each at its coordinates: the points of every cloud, then for every layer the weights (input
channel first), the scales and the shifts. -/
structure Params where
  x : Fin 16 → Fin 1024 → Fin 3 → EReal
  W₁ : Fin 6 → Fin 64 → EReal
  g₁ : Fin 64 → EReal
  b₁ : Fin 64 → EReal
  W₂ : Fin 128 → Fin 64 → EReal
  g₂ : Fin 64 → EReal
  b₂ : Fin 64 → EReal
  W₃ : Fin 128 → Fin 128 → EReal
  g₃ : Fin 128 → EReal
  b₃ : Fin 128 → EReal
  W₄ : Fin 256 → Fin 256 → EReal
  g₄ : Fin 256 → EReal
  b₄ : Fin 256 → EReal
  W₅ : Fin 512 → Fin 1024 → EReal
  g₅ : Fin 1024 → EReal
  b₅ : Fin 1024 → EReal
  W₆ : Fin 2048 → Fin 256 → EReal
  g₆ : Fin 256 → EReal
  b₆ : Fin 256 → EReal

/-- The arguments read off the nineteen arrays. -/
def Params.of (a₀ : Shape.Idx ⟨3, ![16, 3, 1024]⟩ → EReal)
    (a₁ : Shape.Idx ⟨2, ![64, 6]⟩ → EReal) (a₂ a₃ : Shape.Idx ⟨1, ![64]⟩ → EReal)
    (a₄ : Shape.Idx ⟨2, ![64, 128]⟩ → EReal) (a₅ a₆ : Shape.Idx ⟨1, ![64]⟩ → EReal)
    (a₇ : Shape.Idx ⟨2, ![128, 128]⟩ → EReal) (a₈ a₉ : Shape.Idx ⟨1, ![128]⟩ → EReal)
    (a₁₀ : Shape.Idx ⟨2, ![256, 256]⟩ → EReal) (a₁₁ a₁₂ : Shape.Idx ⟨1, ![256]⟩ → EReal)
    (a₁₃ : Shape.Idx ⟨2, ![1024, 512]⟩ → EReal) (a₁₄ a₁₅ : Shape.Idx ⟨1, ![1024]⟩ → EReal)
    (a₁₆ : Shape.Idx ⟨2, ![256, 2048]⟩ → EReal) (a₁₇ a₁₈ : Shape.Idx ⟨1, ![256]⟩ → EReal) : Params where
  x s i q := a₀ (ix3 s q i)
  W₁ q o := a₁ (ix2 o q)
  g₁ o := a₂ (ix1 o)
  b₁ o := a₃ (ix1 o)
  W₂ q o := a₄ (ix2 o q)
  g₂ o := a₅ (ix1 o)
  b₂ o := a₆ (ix1 o)
  W₃ q o := a₇ (ix2 o q)
  g₃ o := a₈ (ix1 o)
  b₃ o := a₉ (ix1 o)
  W₄ q o := a₁₀ (ix2 o q)
  g₄ o := a₁₁ (ix1 o)
  b₄ o := a₁₂ (ix1 o)
  W₅ q o := a₁₃ (ix2 o q)
  g₅ o := a₁₄ (ix1 o)
  b₅ o := a₁₅ (ix1 o)
  W₆ q o := a₁₆ (ix2 o q)
  g₆ o := a₁₇ (ix1 o)
  b₆ o := a₁₈ (ix1 o)

namespace Params

variable (P : Params)

/-- The four edge layers, each from the features before it. -/
def layer₁ := edgeLayer rfl P.x P.W₁ P.g₁ P.b₁
@[inherit_doc layer₁] def layer₂ := edgeLayer rfl P.layer₁ P.W₂ P.g₂ P.b₂
@[inherit_doc layer₁] def layer₃ := edgeLayer rfl P.layer₂ P.W₃ P.g₃ P.b₃
@[inherit_doc layer₁] def layer₄ := edgeLayer rfl P.layer₃ P.W₄ P.g₄ P.b₄

/-- The head convolution of all four layers' features. -/
def conv (s : Fin 16) : Fin 1024 → Fin 1024 → EReal := headConv (P.layer₁ s) (P.layer₂ s) (P.layer₃ s) (P.layer₄ s) P.W₅

/-- The head convolution normalised over all points of all clouds, then rectified. -/
def act (s : Fin 16) (i o : Fin 1024) : EReal :=
  lrelu (norm (Ideal.ofBits FTy.f32 1182793728#32) (∑ s', ∑ i', P.conv s' i' o) (∑ s', ∑ i', P.conv s' i' o * P.conv s' i' o)
    (P.g₅ o) (P.b₅ o) (P.conv s i o))

/-- The network's result. -/
def result : Fin 16 → Fin 256 → EReal := lastLayer (fun s => pool (P.act s)) P.W₆ P.g₆ P.b₆

/-- What the proof needs of the arguments: the points, the weights of the convolutions and the scales and shifts of the edge
layers are real numbers, and those scales are not negative. -/
structure Regular : Prop where
  x : ∀ s i q, IsReal (P.x s i q)
  W₁ : ∀ q o, IsReal (P.W₁ q o)
  g₁ : ∀ o, IsReal (P.g₁ o) ∧ 0 ≤ P.g₁ o
  b₁ : ∀ o, IsReal (P.b₁ o)
  W₂ : ∀ q o, IsReal (P.W₂ q o)
  g₂ : ∀ o, IsReal (P.g₂ o) ∧ 0 ≤ P.g₂ o
  b₂ : ∀ o, IsReal (P.b₂ o)
  W₃ : ∀ q o, IsReal (P.W₃ q o)
  g₃ : ∀ o, IsReal (P.g₃ o) ∧ 0 ≤ P.g₃ o
  b₃ : ∀ o, IsReal (P.b₃ o)
  W₄ : ∀ q o, IsReal (P.W₄ q o)
  g₄ : ∀ o, IsReal (P.g₄ o) ∧ 0 ≤ P.g₄ o
  b₄ : ∀ o, IsReal (P.b₄ o)
  W₅ : ∀ q o, IsReal (P.W₅ q o)

end Params

end Cert.Proof
end
-- ==== Proof.Norm.lean ====
/- Batch normalisation of real entries: the two ways of writing the variance agree, the normalised values are real, and
   normalising with a scale that is not negative and then rectifying keeps the order, so that it passes through a maximum. -/
module

public import proofs.«01_k».proof.Proof.Layer
public import proofs.«01_k».proof.Proof.Consts

@[expose] public section

noncomputable section

namespace Cert.Proof

open Idealize.ShloMosaic

/-- A quotient of reals. -/
theorem div_real (a : ℝ) {r : ℝ} (hr : r ≠ 0) : Ideal.div (a : EReal) (r : EReal) = ((a / r : ℝ) : EReal) := by
  rw [Ideal.div_coe hr, ← EReal.coe_mul, mul_one_div]

/-- The root of a real that is not negative. -/
theorem sqrt_real {a : ℝ} (ha : 0 ≤ a) : Ideal.sqrt (a : EReal) = ((Real.sqrt a : ℝ) : EReal) := by
  rw [Ideal.sqrt_coe, if_neg (not_lt.mpr ha)]

/-- The mean and the positive deviation of real entries, the deviation from either form of the variance. -/
theorem normal {ι : Type} [Fintype ι] (y : ι → EReal) (hy : ∀ i, IsReal (y i)) (r : ℝ) (hr : 0 < r) (hcard : (Fintype.card ι : ℝ) = r) :
    ∃ μ σ : ℝ, 0 < σ ∧ Ideal.div (∑ i, y i) (r : EReal) = μ
      ∧ Ideal.sqrt (Ideal.div (∑ i, y i * y i) (r : EReal) - Ideal.div (∑ i, y i) (r : EReal) * Ideal.div (∑ i, y i) (r : EReal)
          + Ideal.ofBits FTy.f32 925353388#32) = σ
      ∧ Ideal.sqrt (Ideal.div (∑ i, (y i - Ideal.div (∑ i, y i) (r : EReal)) * (y i - Ideal.div (∑ i, y i) (r : EReal))) (r : EReal)
          + Ideal.ofBits FTy.f32 925353388#32) = σ := by
  choose f hf using hy
  obtain rfl : y = fun i => (f i : EReal) := funext hf
  obtain ⟨e, he, hE⟩ := ofBits_eps
  have hv : 0 ≤ (∑ i, (f i - (∑ i, f i) / r) * (f i - (∑ i, f i) / r)) / r :=
    div_nonneg (Finset.sum_nonneg fun i _ => mul_self_nonneg _) hr.le
  have hp : 0 < (∑ i, (f i - (∑ i, f i) / r) * (f i - (∑ i, f i) / r)) / r + e := by positivity
  have hμ : Ideal.div (∑ i, (f i : EReal)) (r : EReal) = (((∑ i, f i) / r : ℝ) : EReal) := by
    rw [← coe_sum, div_real _ hr.ne']
  refine ⟨(∑ i, f i) / r, Real.sqrt ((∑ i, (f i - (∑ i, f i) / r) * (f i - (∑ i, f i) / r)) / r + e), Real.sqrt_pos.mpr hp, hμ, ?_, ?_⟩
  · rw [hμ, hE, ← real_variance f r hr.ne' hcard]
    simp only [← EReal.coe_mul, ← coe_sum, div_real _ hr.ne', ← EReal.coe_sub, ← EReal.coe_add]
    rw [sqrt_real]
    rw [real_variance f r hr.ne' hcard]
    exact hp.le
  · simp only [hμ, hE, ← EReal.coe_mul, ← coe_sum, div_real _ hr.ne', ← EReal.coe_sub, ← EReal.coe_add]
    rw [sqrt_real hp.le]

/-- A normalised entry, from the mean and the deviation. -/
theorem norm_eq {n s₁ s₂ g b y : EReal} {μ σ : ℝ} (hμ : Ideal.div s₁ n = μ)
    (hσ : Ideal.sqrt (Ideal.div s₂ n - Ideal.div s₁ n * Ideal.div s₁ n + Ideal.ofBits FTy.f32 925353388#32) = σ) :
    norm n s₁ s₂ g b y = Ideal.div (y - (μ : EReal)) (σ : EReal) * g + b := by
  unfold norm
  rw [hσ, hμ]

/-- A normalised real entry, as a real. -/
theorem affine_real (v μ g b : ℝ) {σ : ℝ} (hσ : 0 < σ) :
    Ideal.div ((v : EReal) - (μ : EReal)) (σ : EReal) * (g : EReal) + (b : EReal) = (((v - μ) / σ * g + b : ℝ) : EReal) := by
  rw [← EReal.coe_sub, div_real _ hσ.ne', ← EReal.coe_mul, ← EReal.coe_add]

/-- The rectifier of a real, as a real. -/
theorem lrelu_real : ∃ f : ℝ → ℝ, Monotone f ∧ ∀ z : ℝ, lrelu (z : EReal) = (f z : EReal) := by
  obtain ⟨e, he, hE⟩ := ofBits_slope
  refine ⟨fun z => if 0 ≤ z then z else e * z, ?_, ?_⟩
  · intro a b hab
    dsimp only
    split <;> split
    · exact hab
    · linarith
    · have : e * a ≤ 0 := mul_nonpos_of_nonneg_of_nonpos he.le (by linarith)
      linarith
    · exact mul_le_mul_of_nonneg_left hab he.le
  · intro z
    change lrelu (z : EReal) = ((if 0 ≤ z then z else e * z : ℝ) : EReal)
    unfold lrelu
    by_cases h : 0 ≤ z
    · rw [if_pos (EReal.coe_nonneg.mpr h), if_pos h]
    · rw [if_neg (fun h' => h (EReal.coe_nonneg.mp h')), if_neg h, hE, ← EReal.coe_mul]

/-- A function that keeps the order of reals passes through the maximum of finitely many of them. -/
theorem sup_comm {n : Nat} [NeZero n] (v : Fin n → EReal) (hv : ∀ k, IsReal (v k)) (F : EReal → EReal)
    (hF : ∀ a b : ℝ, a ≤ b → F (a : EReal) ≤ F (b : EReal)) :
    (Finset.univ.sup fun k => F (v k)) = F (Finset.univ.sup v) := by
  obtain ⟨k₀, -, hk⟩ := Finset.exists_mem_eq_sup (Finset.univ : Finset (Fin n)) ⟨0, Finset.mem_univ _⟩ v
  rw [hk]
  refine le_antisymm (Finset.sup_le fun k _ => ?_) (Finset.le_sup (f := fun k => F (v k)) (Finset.mem_univ k₀))
  obtain ⟨a, ha⟩ := hv k
  obtain ⟨b, hb⟩ := hv k₀
  rw [ha, hb]
  refine hF a b (EReal.coe_le_coe_iff.mp ?_)
  rw [← ha, ← hb, ← hk]
  exact Finset.le_sup (Finset.mem_univ k)

/-- The maximum of finitely many reals is real. -/
theorem sup_real {n : Nat} [NeZero n] (v : Fin n → EReal) (hv : ∀ k, IsReal (v k)) : IsReal (Finset.univ.sup v) := by
  obtain ⟨k₀, -, hk⟩ := Finset.exists_mem_eq_sup (Finset.univ : Finset (Fin n)) ⟨0, Finset.mem_univ _⟩ v
  rw [hk]
  exact hv k₀

/-- A scaled, shifted and rectified entry keeps the order. -/
theorem step_mono {μ σ g b : ℝ} (hσ : 0 < σ) (hg : 0 ≤ g) (v w : ℝ) (h : v ≤ w) :
    lrelu (Ideal.div ((v : EReal) - (μ : EReal)) (σ : EReal) * (g : EReal) + (b : EReal))
      ≤ lrelu (Ideal.div ((w : EReal) - (μ : EReal)) (σ : EReal) * (g : EReal) + (b : EReal)) := by
  obtain ⟨f, hf, hF⟩ := lrelu_real
  rw [affine_real v μ g b hσ, affine_real w μ g b hσ, hF, hF]
  refine EReal.coe_le_coe_iff.mpr (hf ?_)
  have : (v - μ) / σ ≤ (w - μ) / σ := div_le_div_of_nonneg_right (by linarith) hσ.le
  nlinarith [mul_le_mul_of_nonneg_right this hg]

/-- The normalised, rectified entry is real. -/
theorem step_real {μ σ g b : ℝ} (hσ : 0 < σ) (v : ℝ) :
    IsReal (lrelu (Ideal.div ((v : EReal) - (μ : EReal)) (σ : EReal) * (g : EReal) + (b : EReal))) := by
  obtain ⟨f, -, hF⟩ := lrelu_real
  exact ⟨_, by rw [affine_real v μ g b hσ, hF]⟩

end Cert.Proof
end
-- ==== Proof.LayerReal.lean ====
/- The features of every layer are real numbers, when the points and the layers' parameters are. -/
module

public import proofs.«01_k».proof.Proof.Net
public import proofs.«01_k».proof.Proof.Norm

@[expose] public section

noncomputable section

namespace Cert.Proof

open Idealize.ShloMosaic

section layer

variable {c d co : Nat} (hd : d = c + c) (X : Fin 16 → Fin 1024 → Fin c → EReal) (W : Fin d → Fin co → EReal)
  (hX : ∀ s i q, IsReal (X s i q)) (hW : ∀ q o, IsReal (W q o))
include hX hW

/-- An edge's convolution is real. -/
theorem edgeConv_real (s : Fin 16) (i j : Fin 1024) (o : Fin co) : IsReal (edgeConv hd (X s) W i j o) := by
  refine IsReal.sum _ fun q => (?_ : IsReal (edgeFeat hd (X s) i j q)).mul (hW q o)
  unfold edgeFeat
  split
  · exact (hX _ _ _).sub (hX _ _ _)
  · exact hX _ _ _

/-- The edges of all clouds, over which a layer normalises: a cloud, a point of it and the number of one of its nearest points. -/
abbrev Edge := Fin 16 × Fin 1024 × Fin 20

/-- The convolution of one edge, for one output channel. -/
def edgeVal (o : Fin co) (e : Edge) : EReal := edgeConv hd (X e.1) W e.2.1 (near (X e.1) e.2.1 e.2.2) o

omit hX hW in
theorem sum_edges (f : Edge → EReal) : ∑ e, f e = ∑ s, ∑ k, ∑ i, f (s, i, k) := by
  rw [Fintype.sum_prod_type]
  refine Finset.sum_congr rfl fun s _ => ?_
  rw [Fintype.sum_prod_type, Finset.sum_comm]

omit hX hW in
theorem sum_edgeVal (o : Fin co) : ∑ s, edgeSum hd (X s) W o = ∑ e, edgeVal hd X W o e := by
  rw [sum_edges]
  unfold edgeSum edgeVal
  rfl

omit hX hW in
theorem sum_edgeVal_sq (o : Fin co) : ∑ s, edgeSq hd (X s) W o = ∑ e, edgeVal hd X W o e * edgeVal hd X W o e := by
  rw [sum_edges]
  unfold edgeSq edgeVal
  rfl

/-- The mean and the deviation over all edges. -/
theorem edge_normal (o : Fin co) : ∃ μ σ : ℝ, 0 < σ ∧ Ideal.div (∑ e, edgeVal hd X W o e) (Ideal.ofBits FTy.f32 1218445312#32) = μ
    ∧ Ideal.sqrt (Ideal.div (∑ e, edgeVal hd X W o e * edgeVal hd X W o e) (Ideal.ofBits FTy.f32 1218445312#32)
        - Ideal.div (∑ e, edgeVal hd X W o e) (Ideal.ofBits FTy.f32 1218445312#32)
          * Ideal.div (∑ e, edgeVal hd X W o e) (Ideal.ofBits FTy.f32 1218445312#32) + Ideal.ofBits FTy.f32 925353388#32) = σ
    ∧ Ideal.sqrt (Ideal.div
        (∑ e, (edgeVal hd X W o e - Ideal.div (∑ e, edgeVal hd X W o e) (Ideal.ofBits FTy.f32 1218445312#32))
          * (edgeVal hd X W o e - Ideal.div (∑ e, edgeVal hd X W o e) (Ideal.ofBits FTy.f32 1218445312#32)))
        (Ideal.ofBits FTy.f32 1218445312#32) + Ideal.ofBits FTy.f32 925353388#32) = σ := by
  rw [ofBits_edges]
  exact normal _ (fun e => edgeConv_real hd X W hX hW _ _ _ _) _ (by norm_num) (by simp)

variable (g b : Fin co → EReal) (hg : ∀ o, IsReal (g o) ∧ 0 ≤ g o) (hb : ∀ o, IsReal (b o))
include hg hb

/-- A layer's features are real. -/
theorem edgeLayer_real (s : Fin 16) (i : Fin 1024) (o : Fin co) : IsReal (edgeLayer hd X W g b s i o) := by
  obtain ⟨μ, σ, hσ, h₁, h₂, -⟩ := edge_normal hd X W hX hW o
  obtain ⟨⟨g', hg'⟩, -⟩ := hg o
  obtain ⟨b', hb'⟩ := hb o
  obtain ⟨v, hv⟩ := sup_real (fun k : Fin 20 => edgeConv hd (X s) W i (near (X s) i k) o) fun k => edgeConv_real hd X W hX hW _ _ _ _
  unfold edgeLayer edgeMax
  rw [sum_edgeVal, sum_edgeVal_sq, norm_eq h₁ h₂, hg', hb', hv]
  exact step_real hσ v

/-- A layer, written as the maximum over the nearest points of the normalised, rectified convolution, the variance being the mean
of the squared distances to the mean. -/
theorem edgeLayer_eq (s : Fin 16) (i : Fin 1024) (o : Fin co) :
    (Finset.univ.sup fun k : Fin 20 => lrelu (Ideal.div
        (edgeVal hd X W o (s, i, k) - Ideal.div (∑ e, edgeVal hd X W o e) (Ideal.ofBits FTy.f32 1218445312#32))
        (Ideal.sqrt (Ideal.div
          (∑ e, (edgeVal hd X W o e - Ideal.div (∑ e, edgeVal hd X W o e) (Ideal.ofBits FTy.f32 1218445312#32))
            * (edgeVal hd X W o e - Ideal.div (∑ e, edgeVal hd X W o e) (Ideal.ofBits FTy.f32 1218445312#32)))
          (Ideal.ofBits FTy.f32 1218445312#32) + Ideal.ofBits FTy.f32 925353388#32)) * g o + b o))
      = edgeLayer hd X W g b s i o := by
  obtain ⟨μ, σ, hσ, h₁, h₂, h₃⟩ := edge_normal hd X W hX hW o
  obtain ⟨⟨g', hg'⟩, hg0⟩ := hg o
  obtain ⟨b', hb'⟩ := hb o
  rw [hg'] at hg0
  unfold edgeLayer edgeMax
  rw [sum_edgeVal, sum_edgeVal_sq, norm_eq h₁ h₂, h₃, h₁, hg', hb']
  exact sup_comm (fun k : Fin 20 => edgeConv hd (X s) W i (near (X s) i k) o) (fun k => edgeConv_real hd X W hX hW _ _ _ _)
    (fun v => lrelu (Ideal.div (v - (μ : EReal)) (σ : EReal) * (g' : EReal) + (b' : EReal)))
    (step_mono hσ (EReal.coe_nonneg.mp hg0))

end layer

namespace Params

variable (P : Params) (h : P.Regular)
include h

theorem layer₁_real : ∀ s i q, IsReal (P.layer₁ s i q) := edgeLayer_real _ _ _ h.x h.W₁ _ _ h.g₁ h.b₁
theorem layer₂_real : ∀ s i q, IsReal (P.layer₂ s i q) := edgeLayer_real _ _ _ (P.layer₁_real h) h.W₂ _ _ h.g₂ h.b₂
theorem layer₃_real : ∀ s i q, IsReal (P.layer₃ s i q) := edgeLayer_real _ _ _ (P.layer₂_real h) h.W₃ _ _ h.g₃ h.b₃
theorem layer₄_real : ∀ s i q, IsReal (P.layer₄ s i q) := edgeLayer_real _ _ _ (P.layer₃_real h) h.W₄ _ _ h.g₄ h.b₄

/-- The head convolution is real. -/
theorem conv_real (s : Fin 16) (i o : Fin 1024) : IsReal (P.conv s i o) := by
  unfold conv headConv
  refine IsReal.sum _ fun q => (?_ : IsReal (headIn _ _ _ _ i q)).mul (h.W₅ q o)
  unfold headIn
  split
  · exact P.layer₁_real h _ _ _
  · split
    · exact P.layer₂_real h _ _ _
    · split
      · exact P.layer₃_real h _ _ _
      · exact P.layer₄_real h _ _ _

/-- The rectified, normalised head convolution, the variance being the mean of the squared distances to the mean. -/
theorem act_eq (s : Fin 16) (i o : Fin 1024) :
    lrelu (Ideal.div
        (P.conv s i o - Ideal.div (∑ e : Fin 16 × Fin 1024, P.conv e.1 e.2 o) (Ideal.ofBits FTy.f32 1182793728#32))
        (Ideal.sqrt (Ideal.div
          (∑ e : Fin 16 × Fin 1024, (P.conv e.1 e.2 o - Ideal.div (∑ e : Fin 16 × Fin 1024, P.conv e.1 e.2 o) (Ideal.ofBits FTy.f32 1182793728#32))
            * (P.conv e.1 e.2 o - Ideal.div (∑ e : Fin 16 × Fin 1024, P.conv e.1 e.2 o) (Ideal.ofBits FTy.f32 1182793728#32)))
          (Ideal.ofBits FTy.f32 1182793728#32) + Ideal.ofBits FTy.f32 925353388#32)) * P.g₅ o + P.b₅ o)
      = P.act s i o := by
  obtain ⟨μ, σ, hσ, h₁, h₂, h₃⟩ := normal (fun e : Fin 16 × Fin 1024 => P.conv e.1 e.2 o) (fun e => P.conv_real h _ _ _) 16384
    (by norm_num) (by simp)
  unfold act
  rw [← Fintype.sum_prod_type' (f := fun s' i' => P.conv s' i' o), ← Fintype.sum_prod_type' (f := fun s' i' => P.conv s' i' o * P.conv s' i' o)]
  rw [ofBits_points, norm_eq h₁ h₂, h₃, h₁]

end Params

end Cert.Proof
end
-- ==== Proof.KernelValue.lean ====
/- What the arrays of the idealized kernel hold after each of its stages, as functions of the arguments. -/
module

public import proofs.«01_k».proof.Proof.Gen.KernelIdeal.Frame
public import proofs.«01_k».proof.Proof.EdgeArr0
public import proofs.«01_k».proof.Proof.EdgeArr2
public import proofs.«01_k».proof.Proof.EdgeArr4
public import proofs.«01_k».proof.Proof.EdgeArr6
public import proofs.«01_k».proof.Proof.BnArr1
public import proofs.«01_k».proof.Proof.BnArr3
public import proofs.«01_k».proof.Proof.BnArr5
public import proofs.«01_k».proof.Proof.BnArr7
public import proofs.«01_k».proof.Proof.Head1
public import proofs.«01_k».proof.Proof.Head2
public import proofs.«01_k».proof.Proof.Head3
public import proofs.«01_k».proof.Proof.HostOps
public import proofs.«01_k».proof.Proof.Net
public import proofs.«01_k».proof.Proof.LayerReal

@[expose] public section

set_option maxRecDepth 16384

noncomputable section

namespace Cert.Proof

open Idealize.ShloMosaic Idealize.ShloMosaic.TcCoe Idealize.SL.Sem Cert.KernelIdeal Cert.KernelIdeal.Gen

variable (m : (ℓ : Loc nD τ sig) → Buf (Elt Ideal) ℓ) (ρ : Dev nD → PrngReg) (c : Dev nD)

/-- The arguments of the network at launch. -/
def kparams : Params :=
  Params.of (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12)) (m ((c : Thread nD τ).loc main_arg13)) (m ((c : Thread nD τ).loc main_arg14))
    (m ((c : Thread nD τ).loc main_arg15)) (m ((c : Thread nD τ).loc main_arg16)) (m ((c : Thread nD τ).loc main_arg17))
    (m ((c : Thread nD τ).loc main_arg18))

variable (h : (kparams m c).Regular)

/-! ## Layer ₁ -/

theorem in₁_x (b : Fin 16) (i : Fin 1024) (q : Fin 128) :
    V3 m ρ c main_v1 (ix3 b i q) = if h : (q : Nat) < 3 then (kparams m c).x b i ⟨q, h⟩ else (0 : EReal) :=
  (congrFun (W3_of m ρ c main_v1 (by decide)) (ix3 b i q)).trans (host_v1 (W0 m ρ c) b i q)

theorem in₁_xx (b : Fin 16) (j : Fin 1024) : V3 m ρ c main_v4 (ix3 b 0 j) = sqNorm ((kparams m c).x b) j :=
  (host_v4 (W2 m ρ c) b j).trans
    (congrArg (fun f : S16x3x1024.Idx → EReal => sqNorm (fun i q => f (ix3 b q i)) j) (W2_args m ρ c main_arg0 (by decide)))

theorem in₁_W (q : Fin 6) (o : Fin 64) : V3 m ρ c main_v5 (ix2 q o) = (kparams m c).W₁ q o :=
  (host_v5 (W2 m ρ c) q o).trans (congrFun (W2_args m ρ c main_arg1 (by decide)) (ix2 o q))

include h in
theorem edge₁_max (s : Fin 16) (i : Fin 1024) (o : Fin 64) : V5 m ρ c main_v6_0 (ix3 s i o) = edgeMax rfl ((kparams m c).x s) (kparams m c).W₁ i o :=
  (congrFun (W5_of m ρ c main_v6_0 (by decide)) (ix3 s i o)).trans
    ((congrFun (W4_arr m ρ c 3) (ix3 s i o)).trans (congrFun (arr0_max (V3 m ρ) c (kparams m c).x (kparams m c).W₁ (h.x) (in₁_x m ρ c) (in₁_xx m ρ c) (in₁_W m ρ c)) (ix3 s i o)))

include h in
theorem edge₁_sum (s : Fin 16) (o : Fin 64) : V5 m ρ c main_v6_1 (ix3 s 0 o) = edgeSum rfl ((kparams m c).x s) (kparams m c).W₁ o :=
  (congrFun (W5_of m ρ c main_v6_1 (by decide)) (ix3 s 0 o)).trans
    ((congrFun (W4_arr m ρ c 4) (ix3 s 0 o)).trans (congrFun (arr0_sum (V3 m ρ) c (kparams m c).x (kparams m c).W₁ (h.x) (in₁_x m ρ c) (in₁_xx m ρ c) (in₁_W m ρ c)) (ix3 s 0 o)))

include h in
theorem edge₁_sq (s : Fin 16) (o : Fin 64) : V5 m ρ c main_v6_2 (ix3 s 0 o) = edgeSq rfl ((kparams m c).x s) (kparams m c).W₁ o :=
  (congrFun (W5_of m ρ c main_v6_2 (by decide)) (ix3 s 0 o)).trans
    ((congrFun (W4_arr m ρ c 5) (ix3 s 0 o)).trans (congrFun (arr0_sq (V3 m ρ) c (kparams m c).x (kparams m c).W₁ (h.x) (in₁_x m ρ c) (in₁_xx m ρ c) (in₁_W m ρ c)) (ix3 s 0 o)))

theorem bn₁_g (o : Fin 64) : V5 m ρ c main_v7 (ix3 0 0 o) = (kparams m c).g₁ o :=
  (host_v7 (W4 m ρ c) o).trans (congrFun (W4_args m ρ c main_arg2 (by decide)) (ix1 o))

theorem bn₁_b (o : Fin 64) : V5 m ρ c main_v8 (ix3 0 0 o) = (kparams m c).b₁ o :=
  (host_v8 (W4 m ρ c) o).trans (congrFun (W4_args m ρ c main_arg3 (by decide)) (ix1 o))

include h in
/-- The array that layer ₁ leaves. -/
theorem out₁ (s : Fin 16) (i : Fin 1024) (q : Fin 128) : W6 m ρ c (Proc.devRef .tc main_v9) (ix3 s i q) = widen (kparams m c).layer₁ s i q :=
  (congrFun (W6_arr m ρ c 5) (ix3 s i q)).trans
    (congrFun (arr1 (V5 m ρ) c (fun s => edgeMax rfl ((kparams m c).x s) (kparams m c).W₁) (fun s => edgeSum rfl ((kparams m c).x s) (kparams m c).W₁)
      (fun s => edgeSq rfl ((kparams m c).x s) (kparams m c).W₁) (kparams m c).g₁ (kparams m c).b₁ (edge₁_max m ρ c h) (edge₁_sum m ρ c h)
      (edge₁_sq m ρ c h) (bn₁_g m ρ c) (bn₁_b m ρ c)) (ix3 s i q))

/-! ## Layer ₂ -/

include h in
theorem in₂_x (s : Fin 16) (i : Fin 1024) (q : Fin 128) : V7 m ρ c main_v9 (ix3 s i q) = widen (kparams m c).layer₁ s i q :=
  (congrFun (W7_of m ρ c main_v9 (by decide)) (ix3 s i q)).trans (out₁ m ρ c h s i q)

include h in
theorem in₂_xx (b : Fin 16) (j : Fin 1024) : V7 m ρ c main_v14 (ix3 b 0 j) = sqNorm ((kparams m c).layer₁ b) j :=
  host_v14 (W6 m ρ c) _ (out₁ m ρ c h) b j

theorem in₂_W (q : Fin 128) (o : Fin 64) : V7 m ρ c main_v15 (ix2 q o) = (kparams m c).W₂ q o :=
  (host_v15 (W6 m ρ c) q o).trans (congrFun (W6_args m ρ c main_arg4 (by decide)) (ix2 o q))

include h in
theorem edge₂_max (s : Fin 16) (i : Fin 1024) (o : Fin 64) : V9 m ρ c main_v16_0 (ix3 s i o) = edgeMax rfl ((kparams m c).layer₁ s) (kparams m c).W₂ i o :=
  (congrFun (W9_of m ρ c main_v16_0 (by decide)) (ix3 s i o)).trans
    ((congrFun (W8_arr m ρ c 3) (ix3 s i o)).trans (congrFun (arr2_max (V7 m ρ) c (kparams m c).layer₁ (kparams m c).W₂ ((kparams m c).layer₁_real h) (in₂_x m ρ c h) (in₂_xx m ρ c h) (in₂_W m ρ c)) (ix3 s i o)))

include h in
theorem edge₂_sum (s : Fin 16) (o : Fin 64) : V9 m ρ c main_v16_1 (ix3 s 0 o) = edgeSum rfl ((kparams m c).layer₁ s) (kparams m c).W₂ o :=
  (congrFun (W9_of m ρ c main_v16_1 (by decide)) (ix3 s 0 o)).trans
    ((congrFun (W8_arr m ρ c 4) (ix3 s 0 o)).trans (congrFun (arr2_sum (V7 m ρ) c (kparams m c).layer₁ (kparams m c).W₂ ((kparams m c).layer₁_real h) (in₂_x m ρ c h) (in₂_xx m ρ c h) (in₂_W m ρ c)) (ix3 s 0 o)))

include h in
theorem edge₂_sq (s : Fin 16) (o : Fin 64) : V9 m ρ c main_v16_2 (ix3 s 0 o) = edgeSq rfl ((kparams m c).layer₁ s) (kparams m c).W₂ o :=
  (congrFun (W9_of m ρ c main_v16_2 (by decide)) (ix3 s 0 o)).trans
    ((congrFun (W8_arr m ρ c 5) (ix3 s 0 o)).trans (congrFun (arr2_sq (V7 m ρ) c (kparams m c).layer₁ (kparams m c).W₂ ((kparams m c).layer₁_real h) (in₂_x m ρ c h) (in₂_xx m ρ c h) (in₂_W m ρ c)) (ix3 s 0 o)))

theorem bn₂_g (o : Fin 64) : V9 m ρ c main_v17 (ix3 0 0 o) = (kparams m c).g₂ o :=
  (host_v17 (W8 m ρ c) o).trans (congrFun (W8_args m ρ c main_arg5 (by decide)) (ix1 o))

theorem bn₂_b (o : Fin 64) : V9 m ρ c main_v18 (ix3 0 0 o) = (kparams m c).b₂ o :=
  (host_v18 (W8 m ρ c) o).trans (congrFun (W8_args m ρ c main_arg6 (by decide)) (ix1 o))

include h in
/-- The array that layer ₂ leaves. -/
theorem out₂ (s : Fin 16) (i : Fin 1024) (q : Fin 128) : W10 m ρ c (Proc.devRef .tc main_v19) (ix3 s i q) = widen (kparams m c).layer₂ s i q :=
  (congrFun (W10_arr m ρ c 5) (ix3 s i q)).trans
    (congrFun (arr3 (V9 m ρ) c (fun s => edgeMax rfl ((kparams m c).layer₁ s) (kparams m c).W₂) (fun s => edgeSum rfl ((kparams m c).layer₁ s) (kparams m c).W₂)
      (fun s => edgeSq rfl ((kparams m c).layer₁ s) (kparams m c).W₂) (kparams m c).g₂ (kparams m c).b₂ (edge₂_max m ρ c h) (edge₂_sum m ρ c h)
      (edge₂_sq m ρ c h) (bn₂_g m ρ c) (bn₂_b m ρ c)) (ix3 s i q))

/-! ## Layer ₃ -/

include h in
theorem in₃_x (s : Fin 16) (i : Fin 1024) (q : Fin 128) : V11 m ρ c main_v19 (ix3 s i q) = widen (kparams m c).layer₂ s i q :=
  (congrFun (W11_of m ρ c main_v19 (by decide)) (ix3 s i q)).trans (out₂ m ρ c h s i q)

include h in
theorem in₃_xx (b : Fin 16) (j : Fin 1024) : V11 m ρ c main_v24 (ix3 b 0 j) = sqNorm ((kparams m c).layer₂ b) j :=
  host_v24 (W10 m ρ c) _ (out₂ m ρ c h) b j

theorem in₃_W (q : Fin 128) (o : Fin 128) : V11 m ρ c main_v25 (ix2 q o) = (kparams m c).W₃ q o :=
  (host_v25 (W10 m ρ c) q o).trans (congrFun (W10_args m ρ c main_arg7 (by decide)) (ix2 o q))

include h in
theorem edge₃_max (s : Fin 16) (i : Fin 1024) (o : Fin 128) : V13 m ρ c main_v26_0 (ix3 s i o) = edgeMax rfl ((kparams m c).layer₂ s) (kparams m c).W₃ i o :=
  (congrFun (W13_of m ρ c main_v26_0 (by decide)) (ix3 s i o)).trans
    ((congrFun (W12_arr m ρ c 3) (ix3 s i o)).trans (congrFun (arr4_max (V11 m ρ) c (kparams m c).layer₂ (kparams m c).W₃ ((kparams m c).layer₂_real h) (in₃_x m ρ c h) (in₃_xx m ρ c h) (in₃_W m ρ c)) (ix3 s i o)))

include h in
theorem edge₃_sum (s : Fin 16) (o : Fin 128) : V13 m ρ c main_v26_1 (ix3 s 0 o) = edgeSum rfl ((kparams m c).layer₂ s) (kparams m c).W₃ o :=
  (congrFun (W13_of m ρ c main_v26_1 (by decide)) (ix3 s 0 o)).trans
    ((congrFun (W12_arr m ρ c 4) (ix3 s 0 o)).trans (congrFun (arr4_sum (V11 m ρ) c (kparams m c).layer₂ (kparams m c).W₃ ((kparams m c).layer₂_real h) (in₃_x m ρ c h) (in₃_xx m ρ c h) (in₃_W m ρ c)) (ix3 s 0 o)))

include h in
theorem edge₃_sq (s : Fin 16) (o : Fin 128) : V13 m ρ c main_v26_2 (ix3 s 0 o) = edgeSq rfl ((kparams m c).layer₂ s) (kparams m c).W₃ o :=
  (congrFun (W13_of m ρ c main_v26_2 (by decide)) (ix3 s 0 o)).trans
    ((congrFun (W12_arr m ρ c 5) (ix3 s 0 o)).trans (congrFun (arr4_sq (V11 m ρ) c (kparams m c).layer₂ (kparams m c).W₃ ((kparams m c).layer₂_real h) (in₃_x m ρ c h) (in₃_xx m ρ c h) (in₃_W m ρ c)) (ix3 s 0 o)))

theorem bn₃_g (o : Fin 128) : V13 m ρ c main_v27 (ix3 0 0 o) = (kparams m c).g₃ o :=
  (host_v27 (W12 m ρ c) o).trans (congrFun (W12_args m ρ c main_arg8 (by decide)) (ix1 o))

theorem bn₃_b (o : Fin 128) : V13 m ρ c main_v28 (ix3 0 0 o) = (kparams m c).b₃ o :=
  (host_v28 (W12 m ρ c) o).trans (congrFun (W12_args m ρ c main_arg9 (by decide)) (ix1 o))

include h in
/-- The array that layer ₃ leaves. -/
theorem out₃ (s : Fin 16) (i : Fin 1024) (q : Fin 128) : W14 m ρ c (Proc.devRef .tc main_v29) (ix3 s i q) = (kparams m c).layer₃ s i q :=
  (congrFun (W14_arr m ρ c 5) (ix3 s i q)).trans
    (congrFun (arr5 (V13 m ρ) c (fun s => edgeMax rfl ((kparams m c).layer₂ s) (kparams m c).W₃) (fun s => edgeSum rfl ((kparams m c).layer₂ s) (kparams m c).W₃)
      (fun s => edgeSq rfl ((kparams m c).layer₂ s) (kparams m c).W₃) (kparams m c).g₃ (kparams m c).b₃ (edge₃_max m ρ c h) (edge₃_sum m ρ c h)
      (edge₃_sq m ρ c h) (bn₃_g m ρ c) (bn₃_b m ρ c)) (ix3 s i q))

/-! ## Layer ₄ -/

include h in
theorem in₄_x (s : Fin 16) (i : Fin 1024) (q : Fin 128) : V15 m ρ c main_v29 (ix3 s i q) = (kparams m c).layer₃ s i q :=
  (congrFun (W15_of m ρ c main_v29 (by decide)) (ix3 s i q)).trans (out₃ m ρ c h s i q)

include h in
theorem in₄_xx (b : Fin 16) (j : Fin 1024) : V15 m ρ c main_v33 (ix3 b 0 j) = sqNorm ((kparams m c).layer₃ b) j :=
  host_v33 (W14 m ρ c) _ (out₃ m ρ c h) b j

theorem in₄_W (q : Fin 256) (o : Fin 256) : V15 m ρ c main_v34 (ix2 q o) = (kparams m c).W₄ q o :=
  (host_v34 (W14 m ρ c) q o).trans (congrFun (W14_args m ρ c main_arg10 (by decide)) (ix2 o q))

include h in
theorem edge₄_max (s : Fin 16) (i : Fin 1024) (o : Fin 256) : V17 m ρ c main_v35_0 (ix3 s i o) = edgeMax rfl ((kparams m c).layer₃ s) (kparams m c).W₄ i o :=
  (congrFun (W17_of m ρ c main_v35_0 (by decide)) (ix3 s i o)).trans
    ((congrFun (W16_arr m ρ c 3) (ix3 s i o)).trans (congrFun (arr6_max (V15 m ρ) c (kparams m c).layer₃ (kparams m c).W₄ ((kparams m c).layer₃_real h) (fun s i q => ((in₄_x m ρ c h) s i q).trans (by rw [dif_pos q.2])) (in₄_xx m ρ c h) (in₄_W m ρ c)) (ix3 s i o)))

include h in
theorem edge₄_sum (s : Fin 16) (o : Fin 256) : V17 m ρ c main_v35_1 (ix3 s 0 o) = edgeSum rfl ((kparams m c).layer₃ s) (kparams m c).W₄ o :=
  (congrFun (W17_of m ρ c main_v35_1 (by decide)) (ix3 s 0 o)).trans
    ((congrFun (W16_arr m ρ c 4) (ix3 s 0 o)).trans (congrFun (arr6_sum (V15 m ρ) c (kparams m c).layer₃ (kparams m c).W₄ ((kparams m c).layer₃_real h) (fun s i q => ((in₄_x m ρ c h) s i q).trans (by rw [dif_pos q.2])) (in₄_xx m ρ c h) (in₄_W m ρ c)) (ix3 s 0 o)))

include h in
theorem edge₄_sq (s : Fin 16) (o : Fin 256) : V17 m ρ c main_v35_2 (ix3 s 0 o) = edgeSq rfl ((kparams m c).layer₃ s) (kparams m c).W₄ o :=
  (congrFun (W17_of m ρ c main_v35_2 (by decide)) (ix3 s 0 o)).trans
    ((congrFun (W16_arr m ρ c 5) (ix3 s 0 o)).trans (congrFun (arr6_sq (V15 m ρ) c (kparams m c).layer₃ (kparams m c).W₄ ((kparams m c).layer₃_real h) (fun s i q => ((in₄_x m ρ c h) s i q).trans (by rw [dif_pos q.2])) (in₄_xx m ρ c h) (in₄_W m ρ c)) (ix3 s 0 o)))

theorem bn₄_g (o : Fin 256) : V17 m ρ c main_v36 (ix3 0 0 o) = (kparams m c).g₄ o :=
  (host_v36 (W16 m ρ c) o).trans (congrFun (W16_args m ρ c main_arg11 (by decide)) (ix1 o))

theorem bn₄_b (o : Fin 256) : V17 m ρ c main_v37 (ix3 0 0 o) = (kparams m c).b₄ o :=
  (host_v37 (W16 m ρ c) o).trans (congrFun (W16_args m ρ c main_arg12 (by decide)) (ix1 o))

include h in
/-- The array that layer ₄ leaves. -/
theorem out₄ (s : Fin 16) (i : Fin 1024) (q : Fin 256) : W18 m ρ c (Proc.devRef .tc main_v38) (ix3 s i q) = (kparams m c).layer₄ s i q :=
  (congrFun (W18_arr m ρ c 5) (ix3 s i q)).trans
    (congrFun (arr7 (V17 m ρ) c (fun s => edgeMax rfl ((kparams m c).layer₃ s) (kparams m c).W₄) (fun s => edgeSum rfl ((kparams m c).layer₃ s) (kparams m c).W₄)
      (fun s => edgeSq rfl ((kparams m c).layer₃ s) (kparams m c).W₄) (kparams m c).g₄ (kparams m c).b₄ (edge₄_max m ρ c h) (edge₄_sum m ρ c h)
      (edge₄_sq m ρ c h) (bn₄_g m ρ c) (bn₄_b m ρ c)) (ix3 s i q))

/-! ## The head -/

include h in
theorem head_x₁ (s : Fin 16) (i : Fin 1024) (q : Fin 128) : V19 m ρ c main_v9 (ix3 s i q) = if h : (q : Nat) < 64 then (kparams m c).layer₁ s i ⟨q, h⟩ else 0 :=
  (congrFun ((W19_of m ρ c main_v9 (by decide)).trans ((W18_of m ρ c main_v9 (by decide)).trans ((W17_of m ρ c main_v9 (by decide)).trans ((W16_of m ρ c main_v9 (by decide)).trans ((W15_of m ρ c main_v9 (by decide)).trans ((W14_of m ρ c main_v9 (by decide)).trans ((W13_of m ρ c main_v9 (by decide)).trans ((W12_of m ρ c main_v9 (by decide)).trans ((W11_of m ρ c main_v9 (by decide)).trans ((W10_of m ρ c main_v9 (by decide)).trans ((W9_of m ρ c main_v9 (by decide)).trans ((W8_of m ρ c main_v9 (by decide)).trans (W7_of m ρ c main_v9 (by decide)))))))))))))) (ix3 s i q)).trans (out₁ m ρ c h s i q)

include h in
theorem head_x₂ (s : Fin 16) (i : Fin 1024) (q : Fin 128) : V19 m ρ c main_v19 (ix3 s i q) = if h : (q : Nat) < 64 then (kparams m c).layer₂ s i ⟨q, h⟩ else 0 :=
  (congrFun ((W19_of m ρ c main_v19 (by decide)).trans ((W18_of m ρ c main_v19 (by decide)).trans ((W17_of m ρ c main_v19 (by decide)).trans ((W16_of m ρ c main_v19 (by decide)).trans ((W15_of m ρ c main_v19 (by decide)).trans ((W14_of m ρ c main_v19 (by decide)).trans ((W13_of m ρ c main_v19 (by decide)).trans ((W12_of m ρ c main_v19 (by decide)).trans (W11_of m ρ c main_v19 (by decide)))))))))) (ix3 s i q)).trans (out₂ m ρ c h s i q)

include h in
theorem head_x₃ (s : Fin 16) (i : Fin 1024) (q : Fin 128) : V19 m ρ c main_v29 (ix3 s i q) = (kparams m c).layer₃ s i q :=
  (congrFun ((W19_of m ρ c main_v29 (by decide)).trans ((W18_of m ρ c main_v29 (by decide)).trans ((W17_of m ρ c main_v29 (by decide)).trans ((W16_of m ρ c main_v29 (by decide)).trans (W15_of m ρ c main_v29 (by decide)))))) (ix3 s i q)).trans (out₃ m ρ c h s i q)

include h in
theorem head_x₄ (s : Fin 16) (i : Fin 1024) (q : Fin 256) : V19 m ρ c main_v38 (ix3 s i q) = (kparams m c).layer₄ s i q :=
  (congrFun (W19_of m ρ c main_v38 (by decide)) (ix3 s i q)).trans (out₄ m ρ c h s i q)

theorem head_W (q : Fin 512) (o : Fin 1024) : V19 m ρ c main_v39 (ix2 q o) = (kparams m c).W₅ q o :=
  (host_v39 (W18 m ρ c) q o).trans (congrFun (W18_args m ρ c main_arg13 (by decide)) (ix2 o q))

include h in
theorem head_y (s : Fin 16) (i o : Fin 1024) : V21 m ρ c main_v40_0 (ix3 s i o) = (kparams m c).conv s i o :=
  (congrFun (W21_of m ρ c main_v40_0 (by decide)) (ix3 s i o)).trans
    ((congrFun (W20_arr m ρ c 5) (ix3 s i o)).trans (congrFun (arr8_y (V19 m ρ) c (kparams m c).layer₁ (kparams m c).layer₂ (kparams m c).layer₃ (kparams m c).layer₄ (kparams m c).W₅ (head_x₁ m ρ c h) (head_x₂ m ρ c h) (head_x₃ m ρ c h) (head_x₄ m ρ c h) (head_W m ρ c)) (ix3 s i o)))

include h in
theorem head_sum (s : Fin 16) (o : Fin 1024) : V21 m ρ c main_v40_1 (ix3 s 0 o) = ∑ i, (kparams m c).conv s i o :=
  (congrFun (W21_of m ρ c main_v40_1 (by decide)) (ix3 s 0 o)).trans
    ((congrFun (W20_arr m ρ c 6) (ix3 s 0 o)).trans (congrFun (arr8_sum (V19 m ρ) c (kparams m c).layer₁ (kparams m c).layer₂ (kparams m c).layer₃ (kparams m c).layer₄ (kparams m c).W₅ (head_x₁ m ρ c h) (head_x₂ m ρ c h) (head_x₃ m ρ c h) (head_x₄ m ρ c h) (head_W m ρ c)) (ix3 s 0 o)))

include h in
theorem head_sq (s : Fin 16) (o : Fin 1024) : V21 m ρ c main_v40_2 (ix3 s 0 o) = ∑ i, (kparams m c).conv s i o * (kparams m c).conv s i o :=
  (congrFun (W21_of m ρ c main_v40_2 (by decide)) (ix3 s 0 o)).trans
    ((congrFun (W20_arr m ρ c 7) (ix3 s 0 o)).trans (congrFun (arr8_sq (V19 m ρ) c (kparams m c).layer₁ (kparams m c).layer₂ (kparams m c).layer₃ (kparams m c).layer₄ (kparams m c).W₅ (head_x₁ m ρ c h) (head_x₂ m ρ c h) (head_x₃ m ρ c h) (head_x₄ m ρ c h) (head_W m ρ c)) (ix3 s 0 o)))

theorem head_g₅ (o : Fin 1024) : V21 m ρ c main_v41 (ix3 0 0 o) = (kparams m c).g₅ o :=
  (host_v41 (W20 m ρ c) o).trans (congrFun (W20_args m ρ c main_arg14 (by decide)) (ix1 o))

theorem head_b₅ (o : Fin 1024) : V21 m ρ c main_v42 (ix3 0 0 o) = (kparams m c).b₅ o :=
  (host_v42 (W20 m ρ c) o).trans (congrFun (W20_args m ρ c main_arg15 (by decide)) (ix1 o))

include h in
theorem head_pool (s : Fin 16) (q : Fin 2048) : V23 m ρ c main_v43 (ix3 s 0 q) = pool ((kparams m c).act s) q :=
  (congrFun (W23_of m ρ c main_v43 (by decide)) (ix3 s 0 q)).trans
    ((congrFun (W22_arr m ρ c 5) (ix3 s 0 q)).trans
      (congrFun (arr9 (V21 m ρ) c (kparams m c).conv (fun s o => ∑ i, (kparams m c).conv s i o)
        (fun s o => ∑ i, (kparams m c).conv s i o * (kparams m c).conv s i o) (kparams m c).g₅ (kparams m c).b₅ (head_y m ρ c h) (head_sum m ρ c h)
        (head_sq m ρ c h) (head_g₅ m ρ c) (head_b₅ m ρ c)) (ix3 s 0 q)))

theorem last_W (q : Fin 2048) (o : Fin 256) : V23 m ρ c main_v44 (ix2 q o) = (kparams m c).W₆ q o :=
  (host_v44 (W22 m ρ c) q o).trans (congrFun (W22_args m ρ c main_arg16 (by decide)) (ix2 o q))

theorem last_g₆ (o : Fin 256) : V23 m ρ c main_v45 (ix3 0 0 o) = (kparams m c).g₆ o :=
  (host_v45 (W22 m ρ c) o).trans (congrFun (W22_args m ρ c main_arg17 (by decide)) (ix1 o))

theorem last_b₆ (o : Fin 256) : V23 m ρ c main_v46 (ix3 0 0 o) = (kparams m c).b₆ o :=
  (host_v46 (W22 m ρ c) o).trans (congrFun (W22_args m ρ c main_arg18 (by decide)) (ix1 o))

include h in
/-- The result array of the idealized kernel. -/
theorem kernel_result : W24 m ρ c (Proc.devRef .tc main_v47) = fun y : S16x256.Idx => (kparams m c).result (y 0) (y 1) :=
  (W24_arr m ρ c 4).trans
    (arr10 (V23 m ρ) c (fun s => pool ((kparams m c).act s)) (kparams m c).W₆ (kparams m c).g₆ (kparams m c).b₆ (head_pool m ρ c h)
      (last_W m ρ c) (last_g₆ m ρ c) (last_b₆ m ρ c))

end Cert.Proof
end
-- ==== Proof.RefSums.lean ====
/- Sums over an array of edge values or of point values, all axes but the channel summed; the positions a sort of scores selects;
and a row of an array looked up at two given positions. -/
module

public import proofs.«01_k».proof.Proof.LayerReal
public import proofs.«01_k».proof.ReferenceIdeal
public import Idealize.ShloMosaic.Lib.Pointwise

@[expose] public section

set_option maxRecDepth 16384

noncomputable section

namespace Cert.Proof

open Idealize.ShloMosaic

/-- The sum over the clouds of a matrix with a row for each. -/
theorem hostReduceAdd_clouds {c : Nat} (h : (⟨2, ![16, c]⟩ : Shape).ReducesTo [0] ⟨1, ![c]⟩)
    (v : (⟨2, ![16, c]⟩ : Shape).Idx → EReal) (o : Fin c) :
    Ideal.hostReduceAdd h v 0 (ix1 o) = ∑ b : Fin 16, v (ix2 b o) := by
  have hdrop : ∀ (b : Fin 16) (o : Fin c), h.drop (ix2 b o) = ix1 o := by
    intro b o; funext x; fin_cases x; rfl
  have hix : ∀ x : (⟨2, ![16, c]⟩ : Shape).Idx, x = ix2 (x 0) (x 1) := by
    intro x; funext a; fin_cases a <;> rfl
  unfold Ideal.hostReduceAdd
  rw [zero_add]
  refine Finset.sum_nbij' (fun x => (x 0 : Fin 16)) (fun b => ix2 b o) (fun _ _ => Finset.mem_univ _)
    (fun e _ => Finset.mem_filter.mpr ⟨Finset.mem_univ _, hdrop _ _⟩) ?_ (fun e _ => rfl) ?_ <;>
  · intro x hx
    have e := (Finset.mem_filter.mp hx).2
    have e' : x 1 = o := by
      have := congrFun (((congrArg h.drop (hix x)).symm.trans e)) 0
      exact this
    have hx' : x = ix2 (x 0) o := (hix x).trans (congrArg (fun o : Fin c => ix2 (x 0) o) e')
    first | exact hx'.symm | exact congrArg v hx'

/-- The sum over all edges of an array of edge values, one channel kept. -/
theorem hostReduceAdd_edges {c : Nat} (h : (⟨4, ![16, c, 1024, 20]⟩ : Shape).ReducesTo [0, 2, 3] ⟨1, ![c]⟩)
    (v : (⟨4, ![16, c, 1024, 20]⟩ : Shape).Idx → EReal) (o : Fin c) :
    Ideal.hostReduceAdd h v 0 (ix1 o) = ∑ e : Edge, v (ix4 e.1 o e.2.1 e.2.2) := by
  have hdrop : ∀ (b : Fin 16) (o : Fin c) (i : Fin 1024) (k : Fin 20), h.drop (ix4 b o i k) = ix1 o := by
    intro b o i k; funext x; fin_cases x; rfl
  have hix : ∀ x : (⟨4, ![16, c, 1024, 20]⟩ : Shape).Idx, x = ix4 (x 0) (x 1) (x 2) (x 3) := by
    intro x; funext a; fin_cases a <;> rfl
  unfold Ideal.hostReduceAdd
  rw [zero_add]
  refine Finset.sum_nbij' (fun x => ((x 0, x 2, x 3) : Edge)) (fun e => ix4 e.1 o e.2.1 e.2.2) (fun _ _ => Finset.mem_univ _)
    (fun e _ => Finset.mem_filter.mpr ⟨Finset.mem_univ _, hdrop _ _ _ _⟩) ?_ (fun e _ => rfl) ?_ <;>
  · intro x hx
    have e := (Finset.mem_filter.mp hx).2
    have e' : x 1 = o := by
      have := congrFun (((congrArg h.drop (hix x)).symm.trans e)) 0
      exact this
    have hx' : x = ix4 (x 0) o (x 2) (x 3) :=
      (hix x).trans (congrArg (fun o : Fin c => ix4 (x 0) o (x 2) (x 3)) e')
    first | exact hx'.symm | exact congrArg v hx'

/-- The sum over all points of an array of point values, one channel kept. -/
theorem hostReduceAdd_points {c : Nat} (h : (⟨3, ![16, c, 1024]⟩ : Shape).ReducesTo [0, 2] ⟨1, ![c]⟩)
    (v : (⟨3, ![16, c, 1024]⟩ : Shape).Idx → EReal) (o : Fin c) :
    Ideal.hostReduceAdd h v 0 (ix1 o) = ∑ e : Fin 16 × Fin 1024, v (ix3 e.1 o e.2) := by
  have hdrop : ∀ (b : Fin 16) (o : Fin c) (i : Fin 1024), h.drop (ix3 b o i) = ix1 o := by
    intro b o i; funext x; fin_cases x; rfl
  have hix : ∀ x : (⟨3, ![16, c, 1024]⟩ : Shape).Idx, x = ix3 (x 0) (x 1) (x 2) := by
    intro x; funext a; fin_cases a <;> rfl
  unfold Ideal.hostReduceAdd
  rw [zero_add]
  refine Finset.sum_nbij' (fun x => ((x 0, x 2) : Fin 16 × Fin 1024)) (fun e => ix3 e.1 o e.2) (fun _ _ => Finset.mem_univ _)
    (fun e _ => Finset.mem_filter.mpr ⟨Finset.mem_univ _, hdrop _ _ _⟩) ?_ (fun e _ => rfl) ?_ <;>
  · intro x hx
    have e := (Finset.mem_filter.mp hx).2
    have e' : x 1 = o := by
      have := congrFun (((congrArg h.drop (hix x)).symm.trans e)) 0
      exact this
    have hx' : x = ix3 (x 0) o (x 2) := (hix x).trans (congrArg (fun o : Fin c => ix3 (x 0) o (x 2)) e')
    first | exact hx'.symm | exact congrArg v hx'

/-- The position that an entry of the sorted array came from, along the axis sorted. -/
theorem topK_snd {s t : Shape} {α : Type} (d : Nat) (hd : d < s.rank) (gt : α → α → BitVec 1) (x : s.Idx → α) (h : s.Slices (fun _ => 0) t)
    (j : t.Idx) (z : s.Idx) (hz : ∀ a, (z a : Nat) = j (a.cast h.1.symm)) :
    (Host.topK t d gt x h).2 j = BitVec.ofNat 32 (sortedFrom (fun k k' => gt (x (z.along ⟨d, hd⟩ k)) (x (z.along ⟨d, hd⟩ k')) == 1#1) (z ⟨d, hd⟩)).val := by
  have e : (fun a => ⟨0 + (j (a.cast h.1.symm)).val, Nat.lt_of_lt_of_le (Nat.add_lt_add_left (j _).isLt _) (h.2 a)⟩ : s.Idx) = z :=
    funext fun a => Fin.ext ((Nat.zero_add _).trans (hz a).symm)
  unfold Host.topK Host.sort2 extractStridedSlice
  simp only [dif_pos hd]
  rw [e]
  unfold iotaInDim Shape.Idx.along
  rw [Function.update_self]
  exact congrArg (fun n => BitVec.ofNat 32 (sortedFrom _ n).val) (congrFun e ⟨d, hd⟩)

/-- The position that entry `k` of the sorted scores of a point came from is the one that step `k` of the repeated maximum selects. -/
theorem topK_picked (v : (⟨3, ![16, 1024, 1024]⟩ : Shape).Idx → EReal)
    (h : (⟨3, ![16, 1024, 1024]⟩ : Shape).Slices (fun _ => 0) ⟨3, ![16, 1024, 20]⟩) (b : Fin 16) (i : Fin 1024) (k : Fin 20)
    (hv : ∀ j, v (ix3 b i j) ≠ ⊥) :
    (Host.topK (s := ⟨3, ![16, 1024, 1024]⟩) ⟨3, ![16, 1024, 20]⟩ 2 (FloatOps.cmpfTotal (F := Ideal) (φ := .f32) .gt) v h).2 (ix3 b i k)
      = BitVec.ofNat 32 (picked (fun j => v (ix3 b i j)) k) := by
  rw [← sortedFrom_eq_picked (fun j => v (ix3 b i j)) hv (by norm_num : 20 ≤ 1024) k]
  have hal : ∀ (z : (⟨3, ![16, 1024, 1024]⟩ : Shape).Idx) (j : Fin 1024), (z 0 : Fin 16) = b → (z 1 : Fin 1024) = i →
      z.along 2 j = ix3 b i j := by
    intro z j h0 h1
    funext a
    fin_cases a
    · exact h0
    · exact h1
    · rfl
  have hcmp : ∀ z : (⟨3, ![16, 1024, 1024]⟩ : Shape).Idx, (z 0 : Fin 16) = b → (z 1 : Fin 1024) = i →
      (fun k k' : Fin 1024 => FloatOps.cmpfTotal (F := Ideal) (φ := .f32) .gt (v (z.along 2 k)) (v (z.along 2 k')) == 1#1)
        = greaterFirst fun j => v (ix3 b i j) := by
    intro z h0 h1
    funext k k'
    rw [hal z k h0 h1, hal z k' h0 h1]
    rfl
  rw [topK_snd 2 (by decide) _ v h (ix3 b i k) (ix3 b i (k.castLE (by norm_num))) (by intro a; fin_cases a <;> rfl)]
  exact congrArg (fun f : Fin 1024 → Fin 1024 → Bool => BitVec.ofNat 32 (sortedFrom f (k.castLE (by norm_num))).val)
    (hcmp (ix3 b i (k.castLE (by norm_num))) rfl rfl)

section lookup

variable {c : Nat}

/-- The dimension numbers of a lookup of rows of an array of point features, each at a cloud and a point of it. -/
abbrev rowDims (wf : GatherDims.WF ⟨3, ![16, 1024, c]⟩ ⟨4, ![16, 1024, 20, 2]⟩ ⟨4, ![16, 1024, 20, c]⟩ [3] [0, 1] [] [0, 1] [] 3 ![1, 1, c]) :
    GatherDims ⟨3, ![16, 1024, c]⟩ ⟨4, ![16, 1024, 20, 2]⟩ ⟨4, ![16, 1024, 20, c]⟩ where
  offsetDims := [3]
  collapsedSliceDims := [0, 1]
  operandBatchingDims := []
  startIndicesBatchingDims := []
  startIndexMap := [0, 1]
  indexVectorDim := 3
  sliceSizes := ![1, 1, c]
  wf := wf

/-- A row of an array of point features, looked up at a cloud and a point of it that are given as words. -/
theorem gather_row {α : Type}
    (wf : GatherDims.WF ⟨3, ![16, 1024, c]⟩ ⟨4, ![16, 1024, 20, 2]⟩ ⟨4, ![16, 1024, 20, c]⟩ [3] [0, 1] [] [0, 1] [] 3 ![1, 1, c])
    (x : (⟨3, ![16, 1024, c]⟩ : Shape).Idx → α) (idx : IVec ⟨4, ![16, 1024, 20, 2]⟩ 32)
    (b : Fin 16) (i : Fin 1024) (k : Fin 20) (q : Fin c) (b' : Fin 16) (j : Fin 1024)
    (h0 : idx (ix4 b i k 0) = BitVec.ofNat 32 b') (h1 : idx (ix4 b i k 1) = BitVec.ofNat 32 j) :
    Host.gather (rowDims wf) x idx (ix4 b i k q) = x (ix3 b' j q) := by
  have hw : ∀ n : Nat, n < 1024 → (BitVec.ofNat 32 n).toInt.toNat = n := by
    intro n hn
    rw [BitVec.toInt_eq_toNat_of_lt (by rw [BitVec.toNat_ofNat]; omega), BitVec.toNat_ofNat]
    omega
  have hb : ∀ a, (rowDims wf).batchCoord (ix4 b i k q) a = 0 := fun a => (rowDims wf).batchCoord_eq_zero _ a (by simp)
  have s0 : (rowDims wf).start (ix4 b i k q) idx 0 = b' := by
    have e : ∀ z, z = ix4 b i k 0 → min (idx z).toInt.toNat 15 = (b' : Nat) := by
      rintro z rfl
      rw [h0, hw b' (by omega)]
      omega
    unfold GatherDims.start
    rw [dif_pos (by simp)]
    refine e _ (funext fun a => ?_)
    fin_cases a <;> rfl
  have s1 : (rowDims wf).start (ix4 b i k q) idx 1 = j := by
    have e : ∀ z, z = ix4 b i k 1 → min (idx z).toInt.toNat 1023 = (j : Nat) := by
      rintro z rfl
      rw [h1, hw j (by omega)]
      omega
    unfold GatherDims.start
    rw [dif_pos (by simp)]
    refine e _ (funext fun a => ?_)
    fin_cases a <;> rfl
  have s2 : (rowDims wf).start (ix4 b i k q) idx 2 = 0 := by
    unfold GatherDims.start
    rw [dif_neg (by simp)]
  have o0 : (rowDims wf).offCoord (ix4 b i k q) 0 = 0 :=
    (rowDims wf).offCoord_eq_zero _ 0 fun h => (((rowDims wf).mem_sKept 0).1 h).1 (by simp)
  have o1 : (rowDims wf).offCoord (ix4 b i k q) 1 = 0 :=
    (rowDims wf).offCoord_eq_zero _ 1 fun h => (((rowDims wf).mem_sKept 1).1 h).1 (by simp)
  have o2 : (rowDims wf).offCoord (ix4 b i k q) 2 = q := by
    unfold GatherDims.offCoord
    rw [dif_pos (((rowDims wf).mem_sKept 2).2 ⟨by simp, by simp⟩)]
    rfl
  have add3 : ∀ {u v w n : Nat}, v = 0 → u + w = n → u + v + w = n := by
    rintro u v w n rfl h; exact h
  refine congrArg x (funext fun a => Fin.ext ?_)
  fin_cases a
  · exact add3 (hb 0) ((congrArg₂ (· + ·) s0 o0).trans rfl)
  · exact add3 (hb 1) ((congrArg₂ (· + ·) s1 o1).trans rfl)
  · exact add3 (hb 2) ((congrArg₂ (· + ·) s2 o2).trans (Nat.zero_add _))

end lookup

end Cert.Proof
end
-- ==== Proof.RefNorm.lean ====
/- A batch normalisation over any positions, as a function of arrays, and its value at a position. -/
module

public import proofs.«01_k».proof.Proof.RefSums
public import proofs.«01_k».proof.Proof.Gen.ReferenceIdeal

@[expose] public section

set_option maxRecDepth 16384

noncomputable section

namespace Cert.Proof

open Idealize.ShloMosaic Cert.ReferenceIdeal

theorem bcast_scalar {t : Shape} {α : Type} (h : S_.BroadcastsInDim t ![]) (x : S_.Idx → α) (j : t.Idx) :
    broadcastInDim t ![] h x j = x ix0 := congrArg x (funext fun a => a.elim0)

/-- The shapes of a normalisation: `T` the values, `M` the channels spread to the rank of `T`, `C` the channels alone. -/
structure NormFacts (T M C : Shape) (dT : Fin M.rank → Fin T.rank) (dM : Fin C.rank → Fin M.rank) (axes : List (Fin T.rank)) : Prop where
  spread : M.BroadcastsInDim T dT
  lift : C.BroadcastsInDim M dM
  scalar : S_.BroadcastsInDim M ![]
  sums : T.ReducesTo axes C

namespace NormFacts

variable {T M C : Shape} {dT : Fin M.rank → Fin T.rank} {dM : Fin C.rank → Fin M.rank} {axes : List (Fin T.rank)}
  (f : NormFacts T M C dT dM axes) (w : BitVec 32) (Y : FVec Ideal T .f32) (g β : FVec Ideal M .f32)

/-- The mean of every channel, as an array. -/
abbrev mean (n : FVec Ideal S_ .f32) : FVec Ideal M .f32 :=
  Host.divf (broadcastInDim M dM f.lift (Host.reduceAdd Y (constant S_ .f32 0x00000000#32) f.sums Cert.ReferenceIdeal.Gen.h_S_)) (broadcastInDim M ![] f.scalar n)

/-- The values less their channel's mean. -/
abbrev centred : FVec Ideal T .f32 := subf Y (broadcastInDim T dT f.spread (f.mean Y (constant S_ .f32 w)))

/-- The number the variance is divided by. -/
abbrev count : FVec Ideal S_ .f32 := subf (constant S_ .f32 w) (sitofp .f32 (constantI S_ 32 0#32))

/-- The normalised values, scaled and shifted. -/
abbrev normed : FVec Ideal T .f32 :=
  addf (mulf (Host.divf (f.centred w Y)
    (broadcastInDim T dT f.spread (Host.sqrt (addf
      (select (broadcastInDim M ![] f.scalar (cmpf .ogt (count w) (constant S_ .f32 0x00000000#32)))
        (f.mean (mulf (f.centred w Y) (f.centred w Y)) (count w))
        (broadcastInDim M ![] f.scalar (id (constant S_ .f32 0x7FC00000#32))))
      (broadcastInDim M ![] f.scalar (constant S_ .f32 0x3727C5AC#32))))))
    (broadcastInDim T dT f.spread g)) (broadcastInDim T dT f.spread β)

theorem count_apply : (count w ix0 : EReal) = Ideal.ofBits FTy.f32 w := by
  change (Ideal.ofBits FTy.f32 w - (((0#32 : BitVec 32).toInt : ℝ) : EReal) : EReal) = _
  simp

theorem count_positive (hw : (0 : EReal) < Ideal.ofBits FTy.f32 w) :
    (cmpf (F := Ideal) (φ := .f32) .ogt (count w) (constant S_ .f32 0x00000000#32) ix0) = 1#1 := by
  change BitVec.ofBool (decide (Ideal.ofBits FTy.f32 0#32 < count w ix0)) = 1#1
  rw [count_apply, Ideal.ofBits_zero_f32, decide_eq_true hw]
  rfl

variable {E : Type} [Fintype E] (p : E → T.Idx) (m : M.Idx) (o : C.Idx)
  (hp : ∀ (x : M.Idx → EReal) e, broadcastInDim T dT f.spread x (p e) = x m)
  (hm : ∀ x : C.Idx → EReal, broadcastInDim M dM f.lift x m = x o)
  (ho : ∀ v : T.Idx → EReal, Ideal.hostReduceAdd f.sums v 0 o = ∑ e, v (p e))

include hm ho in
theorem mean_apply (n : FVec Ideal S_ .f32) : f.mean Y n m = Ideal.div (∑ e, Y (p e) : EReal) (n ix0) := by
  refine congrArg₂ (fun a a' : EReal => Ideal.div a a') ((hm _).trans ?_) (bcast_scalar f.scalar n _)
  rw [← ho Y]
  refine congrArg (fun z => Ideal.hostReduceAdd f.sums Y z o) ?_
  exact Ideal.ofBits_zero_f32

include hp hm ho in
/-- The normalised value at a position: `v` lists the values of its channel. -/
theorem normed_apply (hw : (0 : EReal) < Ideal.ofBits FTy.f32 w) (v : E → EReal) (g' β' : EReal) (hY : ∀ e, Y (p e) = v e)
    (hg : g m = g') (hβ : β m = β') (e : E) :
    (f.normed w Y g β (p e) : EReal)
      = Ideal.div (v e - Ideal.div (∑ e, v e) (Ideal.ofBits FTy.f32 w))
        (Ideal.sqrt (Ideal.div
          (∑ e, (v e - Ideal.div (∑ e, v e) (Ideal.ofBits FTy.f32 w)) * (v e - Ideal.div (∑ e, v e) (Ideal.ofBits FTy.f32 w)))
          (Ideal.ofBits FTy.f32 w) + Ideal.ofBits FTy.f32 925353388#32)) * g' + β' := by
  have hsum : (∑ e, Y (p e) : EReal) = ∑ e, v e := Finset.sum_congr (M := EReal) rfl fun e _ => hY e
  have hcen : ∀ e, (f.centred w Y (p e) : EReal) = v e - Ideal.div (∑ e, v e) (Ideal.ofBits FTy.f32 w) := by
    intro e
    refine congrArg₂ (fun a a' : EReal => a - a') (hY e) ((hp _ e).trans ((f.mean_apply Y p m o hm ho _).trans ?_))
    rw [hsum]
    rfl
  have hvar : (f.mean (mulf (f.centred w Y) (f.centred w Y)) (count w) m : EReal)
      = Ideal.div (∑ e, (v e - Ideal.div (∑ e, v e) (Ideal.ofBits FTy.f32 w)) * (v e - Ideal.div (∑ e, v e) (Ideal.ofBits FTy.f32 w)))
        (Ideal.ofBits FTy.f32 w) := by
    rw [f.mean_apply _ p m o hm ho, count_apply]
    refine congrArg (fun z : EReal => Ideal.div z _) (Finset.sum_congr (M := EReal) rfl fun e _ => ?_)
    exact congrArg₂ (fun a a' : EReal => a * a') (hcen e) (hcen e)
  refine congrArg₂ (fun a a' : EReal => a + a') (congrArg₂ (fun a a' : EReal => a * a')
    (congrArg₂ (fun a a' : EReal => Ideal.div a a') (hcen e) ((hp _ e).trans ?_))
    ((hp _ e).trans hg)) ((hp _ e).trans hβ)
  refine congrArg (fun z : EReal => Ideal.sqrt z) (congrArg₂ (fun a a' : EReal => a + a') ?_ (bcast_scalar f.scalar _ _))
  refine Eq.trans ?_ hvar
  refine (congrArg (fun w => Scalar.select w _ _) ((bcast_scalar f.scalar _ _).trans (count_positive w hw))).trans ?_
  rfl

end NormFacts

end Cert.Proof
end
-- ==== Proof.RefStep.lean ====
/- One edge layer of the reference at an index: the looked-up neighbours, the scores and the convolution of the edges. -/
module

public import proofs.«01_k».proof.Proof.RefNorm
public import proofs.«01_k».proof.Proof.Gen.ReferenceIdeal
public import Idealize.ShloMosaic.Lib.Pointwise

@[expose] public section

set_option maxRecDepth 16384

noncomputable section

namespace Cert.Proof

open Idealize.ShloMosaic Cert.ReferenceIdeal Cert.ReferenceIdeal.Gen

/-- A word below the number of points is not negative, so wrapping a negative index does not change it. -/
theorem wrap_word (n : Nat) (m : BitVec 32) (hn : n < 1024) (w : BitVec 32) (hw : w = BitVec.ofNat 32 n) :
    Scalar.select (IntOp.cmpi CmpIPredicate.slt w 0#32) (IntOp.addi w m) w = BitVec.ofNat 32 n := by
  subst hw
  have h : IntOp.cmpi CmpIPredicate.slt (BitVec.ofNat 32 n) 0#32 = 0#1 := by
    have e : (BitVec.ofNat 32 n).toInt = n := by
      rw [BitVec.toInt_eq_toNat_of_lt (by rw [BitVec.toNat_ofNat]; omega), BitVec.toNat_ofNat]
      omega
    have h0 : (BitVec.ofNat 32 n).slt 0#32 = false := by
      simp [BitVec.slt, e]
    unfold IntOp.cmpi
    simp [h0]
  rw [h]
  rfl

/-- The pairs of a cloud and a point of it that are looked up, from the clouds' numbers `N` and the selected points `I`. -/
abbrev lookupPairs (N : IVec S16x1x1 32) (I : IVec S16x1024x20 32) : IVec S16x1024x20x2 32 :=
  concatenate S16x1024x20x2 3 [⟨S16x1024x20x1, (broadcastInDim S16x1024x20x1 ![0, 1, 2] bcast_S16x1024x20_S16x1024x20x1_0_1_2 (broadcastInDim S16x1024x20 ![0, 1, 2] bcast_S16x1x1_S16x1024x20_0_1_2 (select (cmpi .slt N (broadcastInDim S16x1x1 ![] bcast_S_S16x1x1 (constantI S_ 32 0#32))) (addi N (broadcastInDim S16x1x1 ![] bcast_S_S16x1x1 (constantI S_ 32 16#32))) N)))⟩, ⟨S16x1024x20x1, (broadcastInDim S16x1024x20x1 ![0, 1, 2] bcast_S16x1024x20_S16x1024x20x1_0_1_2 (select (cmpi .slt I (broadcastInDim S16x1024x20 ![] bcast_S_S16x1024x20 (constantI S_ 32 0#32))) (addi I (broadcastInDim S16x1024x20 ![] bcast_S_S16x1024x20 (constantI S_ 32 1024#32))) I))⟩] concatenates_S16x1024x20x1_S16x1024x20x1_S16x1024x20x2_d3

theorem lookupPairs_cloud (N : IVec S16x1x1 32) (I : IVec S16x1024x20 32) (b : Fin 16) (i : Fin 1024) (k : Fin 20)
    (h : N (ix3 b 0 0) = BitVec.ofNat 32 b) : lookupPairs N I (ix4 b i k 0) = BitVec.ofNat 32 b := by
  unfold lookupPairs
  pointwise []
  exact wrap_word b 16#32 (by omega) _ h

theorem lookupPairs_point (N : IVec S16x1x1 32) (I : IVec S16x1024x20 32) (b : Fin 16) (i : Fin 1024) (k : Fin 20) (j : Fin 1024)
    (h : I (ix3 b i k) = BitVec.ofNat 32 j) : lookupPairs N I (ix4 b i k 1) = BitVec.ofNat 32 j := by
  unfold lookupPairs
  pointwise []
  exact wrap_word j 1024#32 j.2 _ h

variable {c d co : Nat}

/-- The pairwise products of a cloud's points. -/
theorem pairs_dot (wf : DotDims.WF ⟨3, ![16, c, 1024]⟩ ⟨3, ![16, c, 1024]⟩ ⟨3, ![16, 1024, 1024]⟩ [1] [1] [2] [2] [0] [0])
    (Y : (⟨3, ![16, c, 1024]⟩ : Shape).Idx → EReal) (b : Fin 16) (i j : Fin 1024) :
    Ideal.matmul (⟨[1], [1], [2], [2], [0], [0], wf⟩ : DotDims ⟨3, ![16, c, 1024]⟩ ⟨3, ![16, c, 1024]⟩ ⟨3, ![16, 1024, 1024]⟩) Y Y (fun _ => 0)
      (ix3 b i j) = ∑ q, Y (ix3 b q i) * Y (ix3 b q j) := by
  refine (Ideal.matmul_apply₁_of _ (a := 1) rfl (K := c) rfl _ _ _ _ (fun q => ix3 b q i) (fun q => ix3 b q j) ?_ ?_).trans (zero_add _) <;>
  · intro q
    funext a
    fin_cases a <;> rfl

/-- The scores of a cloud's pairs of points. -/
theorem score_pairs (wf : DotDims.WF ⟨3, ![16, c, 1024]⟩ ⟨3, ![16, c, 1024]⟩ ⟨3, ![16, 1024, 1024]⟩ [1] [1] [2] [2] [0] [0])
    (hr : (⟨3, ![16, c, 1024]⟩ : Shape).ReducesTo [1] S16x1024) (Y : FVec Ideal ⟨3, ![16, c, 1024]⟩ .f32)
    (X : Fin 16 → Fin 1024 → Fin c → EReal) (hX : ∀ b i q, Y (ix3 b q i) = X b i q) (b : Fin 16) (i j : Fin 1024) :
    (subf (F := Ideal) (φ := .f32) (subf (broadcastInDim S16x1024x1024 ![0, 1, 2] bcast_S16x1x1024_S16x1024x1024_0_1_2 (Host.negf
        (broadcastInDim S16x1x1024 ![0, 2] bcast_S16x1024_S16x1x1024_0_2 (Host.reduceAdd (mulf Y Y) (constant S_ .f32 0x00000000#32) hr h_S_))))
        (mulf (broadcastInDim S16x1024x1024 ![] bcast_S_S16x1024x1024 (constant S_ .f32 0xC0000000#32))
          (Host.dotGeneral (so := ⟨3, ![16, 1024, 1024]⟩) ⟨[1], [1], [2], [2], [0], [0], wf⟩ none Y Y)))
      (broadcastInDim S16x1024x1024 ![0, 1, 2] bcast_S16x1024x1_S16x1024x1024_0_1_2 (transpose S16x1024x1 [0, 2, 1]
        (broadcastInDim S16x1x1024 ![0, 2] bcast_S16x1024_S16x1x1024_0_2 (Host.reduceAdd (mulf Y Y) (constant S_ .f32 0x00000000#32) hr h_S_))
        transposes_S16x1x1024_S16x1024x1_0_2_1)) : S16x1024x1024.Idx → EReal) (ix3 b i j) = score (X b) i j := by
  pointwise []
  rw [pairs_dot]
  unfold score sqNorm
  simp only [hX]

/-- The convolution of the edges: the features of an edge are the neighbour's less the point's, then the point's. -/
theorem conv_edges (hd : d = c + c)
    (wf : DotDims.WF ⟨4, ![16, d, 1024, 20]⟩ ⟨2, ![co, d]⟩ ⟨4, ![16, 1024, 20, co]⟩ [1] [1] [0, 2, 3] [0] [] [])
    (ht : (⟨4, ![16, 1024, 20, d]⟩ : Shape).Transposes [0, 3, 1, 2] ⟨4, ![16, d, 1024, 20]⟩)
    (ht' : (⟨4, ![16, 1024, 20, co]⟩ : Shape).Transposes [0, 3, 1, 2] ⟨4, ![16, co, 1024, 20]⟩)
    (hc : Shape.Concatenates [⟨4, ![16, 1024, 20, c]⟩, ⟨4, ![16, 1024, 20, c]⟩] ⟨4, ![16, 1024, 20, d]⟩ 3)
    (G C : (⟨4, ![16, 1024, 20, c]⟩ : Shape).Idx → EReal) (A : (⟨2, ![co, d]⟩ : Shape).Idx → EReal)
    (X : Fin 16 → Fin 1024 → Fin c → EReal) (W : Fin d → Fin co → EReal) (b : Fin 16) (o : Fin co) (i : Fin 1024) (k : Fin 20)
    (hG : ∀ q, G (ix4 b i k q) = X b (near (X b) i k) q) (hC : ∀ q, C (ix4 b i k q) = X b i q) (hA : ∀ q, A (ix2 o q) = W q o) :
    (transpose ⟨4, ![16, co, 1024, 20]⟩ [0, 3, 1, 2]
      (Host.dotGeneral (F := Ideal) (sl := ⟨4, ![16, d, 1024, 20]⟩) (sr := ⟨2, ![co, d]⟩) (so := ⟨4, ![16, 1024, 20, co]⟩)
        (φ₁ := .f32) (φ₂ := .f32) ⟨[1], [1], [0, 2, 3], [0], [], [], wf⟩ none
        (transpose ⟨4, ![16, d, 1024, 20]⟩ [0, 3, 1, 2]
          (concatenate ⟨4, ![16, 1024, 20, d]⟩ 3
            [⟨⟨4, ![16, 1024, 20, c]⟩, subf (F := Ideal) (φ := .f32) G C⟩, ⟨⟨4, ![16, 1024, 20, c]⟩, C⟩] hc) ht) A) ht' :
      (⟨4, ![16, co, 1024, 20]⟩ : Shape).Idx → EReal) (ix4 b o i k) = edgeVal hd X W o (b, i, k) := by
  have e : ∀ {n : Nat} (h : (⟨4, ![16, 1024, 20, n]⟩ : Shape).Transposes [0, 3, 1, 2] ⟨4, ![16, n, 1024, 20]⟩) (q : Fin n),
      h.src (ix4 b q i k) = ix4 b i k q := by
    intro n h q; funext a; fin_cases a <;> rfl
  have hdot : ∀ Y : (⟨4, ![16, d, 1024, 20]⟩ : Shape).Idx → EReal,
      Ideal.matmul (⟨[1], [1], [0, 2, 3], [0], [], [], wf⟩ : DotDims ⟨4, ![16, d, 1024, 20]⟩ ⟨2, ![co, d]⟩ ⟨4, ![16, 1024, 20, co]⟩)
        Y A (fun _ => 0) (ix4 b i k o) = ∑ q, Y (ix4 b q i k) * A (ix2 o q) := by
    intro Y
    refine (Ideal.matmul_apply₁_of _ (a := 1) rfl (K := d) rfl _ _ _ _ (fun q => ix4 b q i k) (fun q => ix2 o q) ?_ ?_).trans (zero_add _) <;>
    · intro q
      funext a
      fin_cases a <;> rfl
  refine (congrArg _ (e ht' o)).trans ((hdot _).trans (Finset.sum_congr (M := EReal) rfl fun q _ => ?_))
  refine congrArg₂ (fun a a' : EReal => a * a') ((congrArg _ (e ht q)).trans ?_) (hA q)
  unfold edgeFeat
  split
  · next h =>
    refine (concatenate_pair_apply_left 3 _ _ hc _ rfl (ix4 b i k ⟨q, h⟩) ?_).trans ?_
    · intro a; fin_cases a <;> rfl
    · exact congrArg₂ (fun a a' : EReal => a - a') (hG _) (hC _)
  · next h =>
    refine (concatenate_pair_apply_right 3 _ _ hc _ rfl rfl (ix4 b i k ⟨q - c, by omega⟩) ?_ ?_).trans (hC _)
    · intro a ha; fin_cases a
      · rfl
      · rfl
      · rfl
      · exact absurd rfl ha
    · exact Nat.sub_add_cancel (Nat.le_of_not_lt h)

/-! ## The batch normalisation of the edges -/

section normalise

theorem bcast_edges (h : (⟨4, ![1, co, 1, 1]⟩ : Shape).BroadcastsInDim ⟨4, ![16, co, 1024, 20]⟩ ![0, 1, 2, 3])
    (x : (⟨4, ![1, co, 1, 1]⟩ : Shape).Idx → EReal) (b : Fin 16) (o : Fin co) (i : Fin 1024) (k : Fin 20) :
    broadcastInDim ⟨4, ![16, co, 1024, 20]⟩ ![0, 1, 2, 3] h x (ix4 b o i k) = x (ix4 0 o 0 0) := by
  refine congrArg x (funext fun a => ?_)
  fin_cases a
  · exact Subsingleton.elim (α := Fin 1) _ _
  · refine Fin.ext ?_
    by_cases h1 : co = 1
    · have e : (o : Nat) = 0 := by omega
      exact (congrArg Fin.val (dif_pos (show (⟨4, ![1, co, 1, 1]⟩ : Shape).size 1 = 1 from h1))).trans e.symm
    · exact congrArg Fin.val (dif_neg (show ¬ (⟨4, ![1, co, 1, 1]⟩ : Shape).size 1 = 1 from h1))
  · exact Subsingleton.elim (α := Fin 1) _ _
  · exact Subsingleton.elim (α := Fin 1) _ _

theorem bcast_channels (h : (⟨1, ![co]⟩ : Shape).BroadcastsInDim ⟨4, ![1, co, 1, 1]⟩ ![1])
    (x : (⟨1, ![co]⟩ : Shape).Idx → EReal) (o : Fin co) :
    broadcastInDim ⟨4, ![1, co, 1, 1]⟩ ![1] h x (ix4 0 o 0 0) = x (ix1 o) := by
  refine congrArg x (funext fun a => ?_)
  fin_cases a
  refine Fin.ext ?_
  by_cases h1 : co = 1
  · have e : (o : Nat) = 0 := by omega
    exact (congrArg Fin.val (dif_pos (show (⟨1, ![co]⟩ : Shape).size 0 = 1 from h1))).trans e.symm
  · exact congrArg Fin.val (dif_neg (show ¬ (⟨1, ![co]⟩ : Shape).size 0 = 1 from h1))

theorem cast_channels (h : (⟨1, ![co]⟩ : Shape).ShapeCasts ⟨4, ![1, co, 1, 1]⟩) (x : (⟨1, ![co]⟩ : Shape).Idx → EReal) (o : Fin co) :
    shapeCast ⟨4, ![1, co, 1, 1]⟩ x h (ix4 0 o 0 0) = x (ix1 o) := by
  refine congrArg x (Shape.reshapeEquiv_eq_of_rowMajor h ?_)
  rw [Shape.rowMajor_val_one, Shape.rowMajor_val_four]
  change (o : Nat) = ((0 * co + o) * 1 + 0) * 1 + 0
  omega

variable (hb4 : (⟨4, ![1, co, 1, 1]⟩ : Shape).BroadcastsInDim ⟨4, ![16, co, 1024, 20]⟩ ![0, 1, 2, 3])
  (hb1 : (⟨1, ![co]⟩ : Shape).BroadcastsInDim ⟨4, ![1, co, 1, 1]⟩ ![1])
  (hb0 : S_.BroadcastsInDim ⟨4, ![1, co, 1, 1]⟩ ![])
  (hr : (⟨4, ![16, co, 1024, 20]⟩ : Shape).ReducesTo [0, 2, 3] ⟨1, ![co]⟩)
  (hs : (⟨1, ![co]⟩ : Shape).ShapeCasts ⟨4, ![1, co, 1, 1]⟩)

include hb4 hb1 hb0 hr in
theorem normFacts_edges : NormFacts ⟨4, ![16, co, 1024, 20]⟩ ⟨4, ![1, co, 1, 1]⟩ ⟨1, ![co]⟩ ![0, 1, 2, 3] ![1] [0, 2, 3] := ⟨hb4, hb1, hb0, hr⟩

/-- The normalised values, scaled and shifted. -/
abbrev bnArr (Y : FVec Ideal ⟨4, ![16, co, 1024, 20]⟩ .f32) (g β : FVec Ideal ⟨1, ![co]⟩ .f32) : FVec Ideal ⟨4, ![16, co, 1024, 20]⟩ .f32 :=
  (normFacts_edges hb4 hb1 hb0 hr).normed 0x48A00000#32 Y (shapeCast _ g hs) (shapeCast _ β hs)

theorem bnArr_apply (Y : FVec Ideal ⟨4, ![16, co, 1024, 20]⟩ .f32) (g β : FVec Ideal ⟨1, ![co]⟩ .f32)
    (f : Edge → EReal) (g' β' : EReal) (o : Fin co) (hY : ∀ e : Edge, Y (ix4 e.1 o e.2.1 e.2.2) = f e)
    (hg : g (ix1 o) = g') (hβ : β (ix1 o) = β') (b : Fin 16) (i : Fin 1024) (k : Fin 20) :
    (bnArr hb4 hb1 hb0 hr hs Y g β (ix4 b o i k) : EReal)
      = Ideal.div (f (b, i, k) - Ideal.div (∑ e, f e) (Ideal.ofBits FTy.f32 1218445312#32))
        (Ideal.sqrt (Ideal.div
          (∑ e, (f e - Ideal.div (∑ e, f e) (Ideal.ofBits FTy.f32 1218445312#32))
            * (f e - Ideal.div (∑ e, f e) (Ideal.ofBits FTy.f32 1218445312#32)))
          (Ideal.ofBits FTy.f32 1218445312#32) + Ideal.ofBits FTy.f32 925353388#32)) * g' + β' :=
  (normFacts_edges hb4 hb1 hb0 hr).normed_apply 0x48A00000#32 Y _ _ (fun e : Edge => ix4 e.1 o e.2.1 e.2.2) (ix4 0 o 0 0) (ix1 o)
    (fun x e => bcast_edges hb4 x e.1 o e.2.1 e.2.2) (fun x => bcast_channels hb1 x o) (fun v => hostReduceAdd_edges hr v o)
    (by rw [ofBits_edges]; exact_mod_cast (by norm_num : (0 : ℝ) < 327680)) f g' β' hY
    ((cast_channels hs g o).trans hg) ((cast_channels hs β o).trans hβ) (b, i, k)

end normalise

/-! ## The greatest rectified value over the neighbours -/

theorem max_rectified (hb : S_.BroadcastsInDim ⟨4, ![16, co, 1024, 20]⟩ ![])
    (hm : (⟨4, ![16, co, 1024, 20]⟩ : Shape).ReducesTo [3] ⟨3, ![16, co, 1024]⟩)
    (Z : FVec Ideal ⟨4, ![16, co, 1024, 20]⟩ .f32) (b : Fin 16) (o : Fin co) (i : Fin 1024) :
    ((Host.reduce FloatOps.maximumf (select (cmpf .oge Z (broadcastInDim ⟨4, ![16, co, 1024, 20]⟩ ![] hb (constant S_ .f32 0x00000000#32))) Z
        (mulf (broadcastInDim ⟨4, ![16, co, 1024, 20]⟩ ![] hb (constant S_ .f32 0x3E4CCCCD#32)) Z))
      (constant S_ .f32 0xFF800000#32) hm h_S_ : FVec Ideal ⟨3, ![16, co, 1024]⟩ .f32) (ix3 b o i) : EReal) = Finset.univ.sup fun k : Fin 20 => lrelu (Z (ix4 b o i k)) := by
  pointwise []
  rw [ofBits_negInf]
  rfl

end Cert.Proof
end
-- ==== Proof.RefLayer.lean ====
/- The reference's edge layer as one function of arrays, and its value at an index: the layer of the network. -/
module

public import proofs.«01_k».proof.Proof.RefStep

@[expose] public section

set_option maxRecDepth 16384

noncomputable section

namespace Cert.Proof

open Idealize.ShloMosaic Cert.ReferenceIdeal Cert.ReferenceIdeal.Gen

/-- The conditions on shapes under which a layer's operations are defined, for `c` channels in, `d` of an edge and `co` out. -/
structure LayerFacts (c d co : Nat) : Prop where
  pairs : DotDims.WF ⟨3, ![16, c, 1024]⟩ ⟨3, ![16, c, 1024]⟩ ⟨3, ![16, 1024, 1024]⟩ [1] [1] [2] [2] [0] [0]
  squares : (⟨3, ![16, c, 1024]⟩ : Shape).ReducesTo [1] S16x1024
  points : (⟨3, ![16, c, 1024]⟩ : Shape).Transposes [0, 2, 1] ⟨3, ![16, 1024, c]⟩
  rows : GatherDims.WF ⟨3, ![16, 1024, c]⟩ ⟨4, ![16, 1024, 20, 2]⟩ ⟨4, ![16, 1024, 20, c]⟩ [3] [0, 1] [] [0, 1] [] 3 ![1, 1, c]
  centre : (⟨3, ![16, 1024, c]⟩ : Shape).BroadcastsInDim ⟨4, ![16, 1024, 1, c]⟩ ![0, 1, 3]
  centres : (⟨4, ![16, 1024, 1, c]⟩ : Shape).BroadcastsInDim ⟨4, ![16, 1024, 20, c]⟩ ![0, 1, 2, 3]
  joined : Shape.Concatenates [⟨4, ![16, 1024, 20, c]⟩, ⟨4, ![16, 1024, 20, c]⟩] ⟨4, ![16, 1024, 20, d]⟩ 3
  before : (⟨4, ![16, 1024, 20, d]⟩ : Shape).Transposes [0, 3, 1, 2] ⟨4, ![16, d, 1024, 20]⟩
  conv : DotDims.WF ⟨4, ![16, d, 1024, 20]⟩ ⟨2, ![co, d]⟩ ⟨4, ![16, 1024, 20, co]⟩ [1] [1] [0, 2, 3] [0] [] []
  after : (⟨4, ![16, 1024, 20, co]⟩ : Shape).Transposes [0, 3, 1, 2] ⟨4, ![16, co, 1024, 20]⟩
  edges : (⟨4, ![1, co, 1, 1]⟩ : Shape).BroadcastsInDim ⟨4, ![16, co, 1024, 20]⟩ ![0, 1, 2, 3]
  channels : (⟨1, ![co]⟩ : Shape).BroadcastsInDim ⟨4, ![1, co, 1, 1]⟩ ![1]
  scalar : S_.BroadcastsInDim ⟨4, ![1, co, 1, 1]⟩ ![]
  sums : (⟨4, ![16, co, 1024, 20]⟩ : Shape).ReducesTo [0, 2, 3] ⟨1, ![co]⟩
  cast : (⟨1, ![co]⟩ : Shape).ShapeCasts ⟨4, ![1, co, 1, 1]⟩
  scalars : S_.BroadcastsInDim ⟨4, ![16, co, 1024, 20]⟩ ![]
  greatest : (⟨4, ![16, co, 1024, 20]⟩ : Shape).ReducesTo [3] ⟨3, ![16, co, 1024]⟩

namespace LayerFacts

variable {c d co : Nat} (f : LayerFacts c d co) (Y : FVec Ideal ⟨3, ![16, c, 1024]⟩ .f32)
  (A : FVec Ideal ⟨2, ![co, d]⟩ .f32) (g β : FVec Ideal ⟨1, ![co]⟩ .f32)

/-- The scores of all pairs. -/
abbrev scores : FVec Ideal S16x1024x1024 .f32 :=
  subf (subf (broadcastInDim S16x1024x1024 ![0, 1, 2] bcast_S16x1x1024_S16x1024x1024_0_1_2 (Host.negf
      (broadcastInDim S16x1x1024 ![0, 2] bcast_S16x1024_S16x1x1024_0_2 (Host.reduceAdd (mulf Y Y) (constant S_ .f32 0x00000000#32) f.squares h_S_))))
      (mulf (broadcastInDim S16x1024x1024 ![] bcast_S_S16x1024x1024 (constant S_ .f32 0xC0000000#32))
        (Host.dotGeneral (so := ⟨3, ![16, 1024, 1024]⟩) ⟨[1], [1], [2], [2], [0], [0], f.pairs⟩ none Y Y)))
    (broadcastInDim S16x1024x1024 ![0, 1, 2] bcast_S16x1024x1_S16x1024x1024_0_1_2 (transpose S16x1024x1 [0, 2, 1]
      (broadcastInDim S16x1x1024 ![0, 2] bcast_S16x1024_S16x1x1024_0_2 (Host.reduceAdd (mulf Y Y) (constant S_ .f32 0x00000000#32) f.squares h_S_))
      transposes_S16x1x1024_S16x1024x1_0_2_1))

/-- The twenty nearest points. -/
abbrev nearest : IVec S16x1024x20 32 :=
  (Host.topK S16x1024x20 2 (FloatOps.cmpfTotal .gt) (f.scores Y) sliceFits_S16x1024x1024_S16x1024x20).2

/-- The features with the points before the channels. -/
abbrev feats : FVec Ideal ⟨3, ![16, 1024, c]⟩ .f32 := transpose ⟨3, ![16, 1024, c]⟩ [0, 2, 1] Y f.points

/-- Every point's own features, once for each neighbour. -/
abbrev own : FVec Ideal ⟨4, ![16, 1024, 20, c]⟩ .f32 :=
  broadcastInDim ⟨4, ![16, 1024, 20, c]⟩ ![0, 1, 2, 3] f.centres (broadcastInDim ⟨4, ![16, 1024, 1, c]⟩ ![0, 1, 3] f.centre (f.feats Y))

/-- The neighbours' features. -/
abbrev neighbours : FVec Ideal ⟨4, ![16, 1024, 20, c]⟩ .f32 :=
  Host.gather (rowDims f.rows) (f.feats Y)
    (lookupPairs (broadcastInDim S16x1x1 ![0] bcast_S16_S16x1x1_0 (iotaInDim S16 32 0)) (f.nearest Y))

/-- The convolution of all edges. -/
abbrev convArr : FVec Ideal ⟨4, ![16, co, 1024, 20]⟩ .f32 :=
  transpose ⟨4, ![16, co, 1024, 20]⟩ [0, 3, 1, 2]
    (Host.dotGeneral (sl := ⟨4, ![16, d, 1024, 20]⟩) (sr := ⟨2, ![co, d]⟩) (so := ⟨4, ![16, 1024, 20, co]⟩)
      ⟨[1], [1], [0, 2, 3], [0], [], [], f.conv⟩ none
      (transpose ⟨4, ![16, d, 1024, 20]⟩ [0, 3, 1, 2]
        (concatenate ⟨4, ![16, 1024, 20, d]⟩ 3
          [⟨⟨4, ![16, 1024, 20, c]⟩, subf (f.neighbours Y) (f.own Y)⟩, ⟨⟨4, ![16, 1024, 20, c]⟩, f.own Y⟩] f.joined) f.before) A) f.after

/-- The normalised convolution. -/
abbrev normArr : FVec Ideal ⟨4, ![16, co, 1024, 20]⟩ .f32 :=
  bnArr f.edges f.channels f.scalar f.sums f.cast (f.convArr Y A) g β

/-- The layer's result. -/
abbrev layerArr : FVec Ideal ⟨3, ![16, co, 1024]⟩ .f32 :=
  Host.reduce FloatOps.maximumf (select (cmpf .oge (f.normArr Y A g β)
      (broadcastInDim ⟨4, ![16, co, 1024, 20]⟩ ![] f.scalars (constant S_ .f32 0x00000000#32))) (f.normArr Y A g β)
      (mulf (broadcastInDim ⟨4, ![16, co, 1024, 20]⟩ ![] f.scalars (constant S_ .f32 0x3E4CCCCD#32)) (f.normArr Y A g β)))
    (constant S_ .f32 0xFF800000#32) f.greatest h_S_

variable (hd : d = c + c) (X : Fin 16 → Fin 1024 → Fin c → EReal) (W : Fin d → Fin co → EReal) (g' β' : Fin co → EReal)
  (hY : ∀ b i q, Y (ix3 b q i) = X b i q) (hA : ∀ q o, A (ix2 o q) = W q o) (hg : ∀ o, g (ix1 o) = g' o) (hβ : ∀ o, β (ix1 o) = β' o)
  (hX : ∀ b i q, IsReal (X b i q)) (hW : ∀ q o, IsReal (W q o)) (hgr : ∀ o, IsReal (g' o) ∧ 0 ≤ g' o) (hβr : ∀ o, IsReal (β' o))

theorem score_real (hX : ∀ b i q, IsReal (X b i q)) (b : Fin 16) (i j : Fin 1024) : IsReal (score (X b) i j) := by
  unfold score sqNorm
  rw [ofBits_negTwo]
  exact (((IsReal.sum _ fun q => (hX _ _ _).mul (hX _ _ _)).neg).sub ((IsReal.coe _).mul (IsReal.sum _ fun q => (hX _ _ _).mul (hX _ _ _)))).sub
    (IsReal.sum _ fun q => (hX _ _ _).mul (hX _ _ _))

include hY in
theorem scores_apply (b : Fin 16) (i j : Fin 1024) : (f.scores Y (ix3 b i j) : EReal) = score (X b) i j :=
  score_pairs f.pairs f.squares Y X hY b i j

include hY hX in
theorem nearest_apply (b : Fin 16) (i : Fin 1024) (k : Fin 20) : f.nearest Y (ix3 b i k) = BitVec.ofNat 32 (near (X b) i k) := by
  have h : (fun j => (f.scores Y (ix3 b i j) : EReal)) = score (X b) i := funext fun j => f.scores_apply Y X hY b i j
  refine (topK_picked (f.scores Y) _ b i k fun j => ?_).trans ?_
  · rw [f.scores_apply Y X hY]
    exact (score_real X hX b i j).ne_bot
  · rw [h]
    rfl

include hY in
theorem feats_apply (b : Fin 16) (i : Fin 1024) (q : Fin c) : (f.feats Y (ix3 b i q) : EReal) = X b i q := by
  refine (congrArg Y (?_ : _ = ix3 b q i)).trans (hY b i q)
  funext a
  fin_cases a <;> rfl

include hY in
theorem own_apply (b : Fin 16) (i : Fin 1024) (k : Fin 20) (q : Fin c) : (f.own Y (ix4 b i k q) : EReal) = X b i q := by
  refine Eq.trans ?_ (f.feats_apply Y X hY b i q)
  refine congrArg (f.feats Y) (funext fun a => ?_)
  fin_cases a
  · rfl
  · rfl
  · refine Fin.ext ?_
    by_cases h1 : c = 1
    · have e : (q : Nat) = 0 := by omega
      exact (congrArg Fin.val (dif_pos (show (⟨3, ![16, 1024, c]⟩ : Shape).size 2 = 1 from h1))).trans e.symm
    · exact (congrArg Fin.val (dif_neg (show ¬ (⟨3, ![16, 1024, c]⟩ : Shape).size 2 = 1 from h1))).trans
        (congrArg Fin.val (dif_neg (show ¬ (⟨4, ![16, 1024, 1, c]⟩ : Shape).size 3 = 1 from h1)))

include hY hX in
theorem neighbours_apply (b : Fin 16) (i : Fin 1024) (k : Fin 20) (q : Fin c) :
    (f.neighbours Y (ix4 b i k q) : EReal) = X b (near (X b) i k) q :=
  (gather_row f.rows _ _ b i k q b (near (X b) i k) (lookupPairs_cloud _ _ b i k rfl)
    (lookupPairs_point _ _ b i k _ (f.nearest_apply Y X hY hX b i k))).trans (f.feats_apply Y X hY b _ q)

include hY hX hA in
theorem convArr_apply (o : Fin co) (e : Edge) : (f.convArr Y A (ix4 e.1 o e.2.1 e.2.2) : EReal) = edgeVal hd X W o e :=
  conv_edges hd f.conv f.before f.after f.joined (f.neighbours Y) (f.own Y) A X W e.1 o e.2.1 e.2.2
    (f.neighbours_apply Y X hY hX _ _ _) (f.own_apply Y X hY _ _ _) (fun q => hA q o)

include hY hX hA hg hβ hW hgr hβr in
/-- The reference's layer is the network's. -/
theorem layerArr_apply (s : Fin 16) (o : Fin co) (i : Fin 1024) :
    (f.layerArr Y A g β (ix3 s o i) : EReal) = edgeLayer hd X W g' β' s i o := by
  refine (max_rectified f.scalars f.greatest (f.normArr Y A g β) s o i).trans
    (Eq.trans ?_ (edgeLayer_eq hd X W hX hW g' β' hgr hβr s i o))
  refine Finset.sup_congr rfl fun k _ => congrArg lrelu ?_
  exact bnArr_apply f.edges f.channels f.scalar f.sums f.cast (f.convArr Y A) g β (edgeVal hd X W o) (g' o) (β' o) o
    (f.convArr_apply Y A hd X W hY hA hX o) (hg o) (hβ o) s i k

end LayerFacts

end Cert.Proof
end
-- ==== Proof.RefLayers.lean ====
/- The four edge layers of the reference's result, each the network's layer. -/
module

public import proofs.«01_k».proof.Proof.RefLayer
public import proofs.«01_k».proof.Proof.LayerReal
public import proofs.«01_k».proof.Proof.Gen.ReferenceIdeal.Run

@[expose] public section

set_option maxRecDepth 16384

noncomputable section

namespace Cert.Proof

open Idealize.ShloMosaic Cert.ReferenceIdeal Cert.ReferenceIdeal.Gen Cert.ReferenceIdeal.Value

theorem facts1 : LayerFacts 3 6 64 where
  pairs := dot_S16x3x1024_S16x3x1024_S16x1024x1024_1_1_2_2_0_0_wf
  squares := reducesTo_S16x3x1024_S16x1024_d1
  points := transposes_S16x3x1024_S16x1024x3_0_2_1
  rows := gather_S16x1024x3_S16x1024x20x2_S16x1024x20x3_3_01_n_n_01_3_113_wf
  centre := bcast_S16x1024x3_S16x1024x1x3_0_1_3
  centres := bcast_S16x1024x1x3_S16x1024x20x3_0_1_2_3
  joined := concatenates_S16x1024x20x3_S16x1024x20x3_S16x1024x20x6_d3
  before := transposes_S16x1024x20x6_S16x6x1024x20_0_3_1_2
  conv := dot_S16x6x1024x20_S64x6_S16x1024x20x64_1_1_023_0_n_n_wf
  after := transposes_S16x1024x20x64_S16x64x1024x20_0_3_1_2
  edges := bcast_S1x64x1x1_S16x64x1024x20_0_1_2_3
  channels := bcast_S64_S1x64x1x1_1
  scalar := bcast_S_S1x64x1x1
  sums := reducesTo_S16x64x1024x20_S64_d0_2_3
  cast := shapeCasts_S64_S1x64x1x1
  scalars := bcast_S_S16x64x1024x20
  greatest := reducesTo_S16x64x1024x20_S16x64x1024_d3

theorem facts2 : LayerFacts 64 128 64 where
  pairs := dot_S16x64x1024_S16x64x1024_S16x1024x1024_1_1_2_2_0_0_wf
  squares := reducesTo_S16x64x1024_S16x1024_d1
  points := transposes_S16x64x1024_S16x1024x64_0_2_1
  rows := gather_S16x1024x64_S16x1024x20x2_S16x1024x20x64_3_01_n_n_01_3_1164_wf
  centre := bcast_S16x1024x64_S16x1024x1x64_0_1_3
  centres := bcast_S16x1024x1x64_S16x1024x20x64_0_1_2_3
  joined := concatenates_S16x1024x20x64_S16x1024x20x64_S16x1024x20x128_d3
  before := transposes_S16x1024x20x128_S16x128x1024x20_0_3_1_2
  conv := dot_S16x128x1024x20_S64x128_S16x1024x20x64_1_1_023_0_n_n_wf
  after := transposes_S16x1024x20x64_S16x64x1024x20_0_3_1_2
  edges := bcast_S1x64x1x1_S16x64x1024x20_0_1_2_3
  channels := bcast_S64_S1x64x1x1_1
  scalar := bcast_S_S1x64x1x1
  sums := reducesTo_S16x64x1024x20_S64_d0_2_3
  cast := shapeCasts_S64_S1x64x1x1
  scalars := bcast_S_S16x64x1024x20
  greatest := reducesTo_S16x64x1024x20_S16x64x1024_d3

theorem facts3 : LayerFacts 64 128 128 where
  pairs := dot_S16x64x1024_S16x64x1024_S16x1024x1024_1_1_2_2_0_0_wf
  squares := reducesTo_S16x64x1024_S16x1024_d1
  points := transposes_S16x64x1024_S16x1024x64_0_2_1
  rows := gather_S16x1024x64_S16x1024x20x2_S16x1024x20x64_3_01_n_n_01_3_1164_wf
  centre := bcast_S16x1024x64_S16x1024x1x64_0_1_3
  centres := bcast_S16x1024x1x64_S16x1024x20x64_0_1_2_3
  joined := concatenates_S16x1024x20x64_S16x1024x20x64_S16x1024x20x128_d3
  before := transposes_S16x1024x20x128_S16x128x1024x20_0_3_1_2
  conv := dot_S16x128x1024x20_S128x128_S16x1024x20x128_1_1_023_0_n_n_wf
  after := transposes_S16x1024x20x128_S16x128x1024x20_0_3_1_2
  edges := bcast_S1x128x1x1_S16x128x1024x20_0_1_2_3
  channels := bcast_S128_S1x128x1x1_1
  scalar := bcast_S_S1x128x1x1
  sums := reducesTo_S16x128x1024x20_S128_d0_2_3
  cast := shapeCasts_S128_S1x128x1x1
  scalars := bcast_S_S16x128x1024x20
  greatest := reducesTo_S16x128x1024x20_S16x128x1024_d3

theorem facts4 : LayerFacts 128 256 256 where
  pairs := dot_S16x128x1024_S16x128x1024_S16x1024x1024_1_1_2_2_0_0_wf
  squares := reducesTo_S16x128x1024_S16x1024_d1
  points := transposes_S16x128x1024_S16x1024x128_0_2_1
  rows := gather_S16x1024x128_S16x1024x20x2_S16x1024x20x128_3_01_n_n_01_3_11128_wf
  centre := bcast_S16x1024x128_S16x1024x1x128_0_1_3
  centres := bcast_S16x1024x1x128_S16x1024x20x128_0_1_2_3
  joined := concatenates_S16x1024x20x128_S16x1024x20x128_S16x1024x20x256_d3
  before := transposes_S16x1024x20x256_S16x256x1024x20_0_3_1_2
  conv := dot_S16x256x1024x20_S256x256_S16x1024x20x256_1_1_023_0_n_n_wf
  after := transposes_S16x1024x20x256_S16x256x1024x20_0_3_1_2
  edges := bcast_S1x256x1x1_S16x256x1024x20_0_1_2_3
  channels := bcast_S256_S1x256x1x1_1
  scalar := bcast_S_S1x256x1x1
  sums := reducesTo_S16x256x1024x20_S256_d0_2_3
  cast := shapeCasts_S256_S1x256x1x1
  scalars := bcast_S_S16x256x1024x20
  greatest := reducesTo_S16x256x1024x20_S16x256x1024_d3

/-- The reference's arguments as the network's. -/
def rparams (V : Valuation τ sig (Elt Ideal)) : Params :=
  Params.of (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18))

variable (V : Valuation τ sig (Elt Ideal)) (h : (rparams V).Regular)

/-- The fourth layer's array. -/
abbrev fourthArr : FVec Ideal S16x256x1024 .f32 :=
  Host.reduce FloatOps.maximumf (select (cmpf .oge (res_main_v237 V) (broadcastInDim S16x256x1024x20 ![] bcast_S_S16x256x1024x20 (constant S_ .f32 0x00000000#32))) (res_main_v237 V)
      (mulf (broadcastInDim S16x256x1024x20 ![] bcast_S_S16x256x1024x20 (constant S_ .f32 0x3E4CCCCD#32)) (res_main_v237 V)))
    (constant S_ .f32 0xFF800000#32) reducesTo_S16x256x1024x20_S16x256x1024_d3 h_S_

theorem layer1_array : res_main_v60 V = facts1.layerArr (V (Proc.devRef .tc main_arg0)) (V (Proc.devRef .tc main_arg1)) (V (Proc.devRef .tc main_arg2)) (V (Proc.devRef .tc main_arg3)) := rfl

include h in
theorem layer1_ref (s : Fin 16) (o : Fin 64) (i : Fin 1024) : (res_main_v60 V (ix3 s o i) : EReal) = (rparams V).layer₁ s i o := by
  rw [layer1_array]
  exact facts1.layerArr_apply _ _ _ _ rfl (rparams V).x (rparams V).W₁ (rparams V).g₁ (rparams V).b₁
    (fun _ _ _ => rfl) (fun _ _ => rfl) (fun _ => rfl) (fun _ => rfl) h.x h.W₁ h.g₁ h.b₁ s o i

theorem layer2_array : res_main_v121 V = facts2.layerArr (res_main_v60 V) (V (Proc.devRef .tc main_arg4)) (V (Proc.devRef .tc main_arg5)) (V (Proc.devRef .tc main_arg6)) := rfl

include h in
theorem layer2_ref (s : Fin 16) (o : Fin 64) (i : Fin 1024) : (res_main_v121 V (ix3 s o i) : EReal) = (rparams V).layer₂ s i o := by
  rw [layer2_array]
  exact facts2.layerArr_apply _ _ _ _ rfl (rparams V).layer₁ (rparams V).W₂ (rparams V).g₂ (rparams V).b₂
    (fun b i q => layer1_ref V h b q i) (fun _ _ => rfl) (fun _ => rfl) (fun _ => rfl) (Params.layer₁_real _ h) h.W₂ h.g₂ h.b₂ s o i

theorem layer3_array : res_main_v182 V = facts3.layerArr (res_main_v121 V) (V (Proc.devRef .tc main_arg7)) (V (Proc.devRef .tc main_arg8)) (V (Proc.devRef .tc main_arg9)) := rfl

include h in
theorem layer3_ref (s : Fin 16) (o : Fin 128) (i : Fin 1024) : (res_main_v182 V (ix3 s o i) : EReal) = (rparams V).layer₃ s i o := by
  rw [layer3_array]
  exact facts3.layerArr_apply _ _ _ _ rfl (rparams V).layer₂ (rparams V).W₃ (rparams V).g₃ (rparams V).b₃
    (fun b i q => layer2_ref V h b q i) (fun _ _ => rfl) (fun _ => rfl) (fun _ => rfl) (Params.layer₂_real _ h) h.W₃ h.g₃ h.b₃ s o i

theorem layer4_array : fourthArr V = facts4.layerArr (res_main_v182 V) (V (Proc.devRef .tc main_arg10)) (V (Proc.devRef .tc main_arg11)) (V (Proc.devRef .tc main_arg12)) := rfl

include h in
theorem layer4_ref (s : Fin 16) (o : Fin 256) (i : Fin 1024) : (fourthArr V (ix3 s o i) : EReal) = (rparams V).layer₄ s i o := by
  rw [layer4_array]
  exact facts4.layerArr_apply _ _ _ _ rfl (rparams V).layer₃ (rparams V).W₄ (rparams V).g₄ (rparams V).b₄
    (fun b i q => layer3_ref V h b q i) (fun _ _ => rfl) (fun _ => rfl) (fun _ => rfl) (Params.layer₃_real _ h) h.W₄ h.g₄ h.b₄ s o i

end Cert.Proof
end
-- ==== Proof.RefHead.lean ====
/- The reference's head: the convolution of the four layers' features, its normalisation and rectification, the pooling and the
last layer. -/
module

public import proofs.«01_k».proof.Proof.RefLayers

@[expose] public section

set_option maxRecDepth 16384

noncomputable section

namespace Cert.Proof

open Idealize.ShloMosaic Cert.ReferenceIdeal Cert.ReferenceIdeal.Gen Cert.ReferenceIdeal.Value

/-! ## The head convolution -/

section joined

variable (Y₁ Y₂ : FVec Ideal S16x64x1024 .f32) (Y₃ : FVec Ideal S16x128x1024 .f32) (Y₄ : FVec Ideal S16x256x1024 .f32)
  (X₁ X₂ : Fin 16 → Fin 1024 → Fin 64 → EReal) (X₃ : Fin 16 → Fin 1024 → Fin 128 → EReal) (X₄ : Fin 16 → Fin 1024 → Fin 256 → EReal)
  (h₁ : ∀ s o i, Y₁ (ix3 s o i) = X₁ s i o) (h₂ : ∀ s o i, Y₂ (ix3 s o i) = X₂ s i o)
  (h₃ : ∀ s o i, Y₃ (ix3 s o i) = X₃ s i o) (h₄ : ∀ s o i, Y₄ (ix3 s o i) = X₄ s i o)

/-- The four layers' arrays. -/
abbrev pieces : List ((s : Shape) × (s.Idx → EReal)) := [⟨S16x64x1024, Y₁⟩, ⟨S16x64x1024, Y₂⟩, ⟨S16x128x1024, Y₃⟩, ⟨S16x256x1024, Y₄⟩]

/-- The arrays joined along the channels. -/
abbrev joined : FVec Ideal S16x512x1024 .f32 :=
  concatenate S16x512x1024 1 (pieces Y₁ Y₂ Y₃ Y₄) concatenates_S16x64x1024_S16x64x1024_S16x128x1024_S16x256x1024_S16x512x1024_d1

include h₁ h₂ h₃ h₄ in
theorem joined_apply (s : Fin 16) (q : Fin 512) (i : Fin 1024) :
    (joined Y₁ Y₂ Y₃ Y₄ (ix3 s q i) : EReal) = headIn (X₁ s) (X₂ s) (X₃ s) (X₄ s) i q := by
  have off : ∀ {c : Nat} (o : Fin c) (b : Fin 3), b.cast rfl ≠ (1 : Fin 3) →
      ((ix3 s o i : (⟨3, ![16, c, 1024]⟩ : Shape).Idx) b).val = ((ix3 s q i : S16x512x1024.Idx) (b.cast rfl)).val := by
    intro c o b hb
    fin_cases b
    · rfl
    · exact absurd rfl hb
    · rfl
  unfold headIn
  split
  · next h =>
    exact (concatenate_apply_piece (1 : Fin 3) (pieces Y₁ Y₂ Y₃ Y₄) _ (ix3 s q i) 0 (show 0 < 4 by decide) S16x64x1024 Y₁ rfl rfl 0 rfl (ix3 s ⟨q, h⟩ i) (off _) (Nat.zero_add _)).trans (h₁ _ _ _)
  · split
    · next h h' =>
      exact (concatenate_apply_piece (1 : Fin 3) (pieces Y₁ Y₂ Y₃ Y₄) _ (ix3 s q i) 1 (show 1 < 4 by decide) S16x64x1024 Y₂ rfl rfl 64 rfl (ix3 s ⟨q - 64, h'⟩ i) (off _)
        (show 64 + ((q : Nat) - 64) = q by omega)).trans (h₂ _ _ _)
    · split
      · next h h' h'' =>
        exact (concatenate_apply_piece (1 : Fin 3) (pieces Y₁ Y₂ Y₃ Y₄) _ (ix3 s q i) 2 (show 2 < 4 by decide) S16x128x1024 Y₃ rfl rfl 128 rfl (ix3 s ⟨q - 64 - 64, h''⟩ i) (off _)
          (show 128 + ((q : Nat) - 64 - 64) = q by omega)).trans (h₃ _ _ _)
      · next h h' h'' =>
        exact (concatenate_apply_piece (1 : Fin 3) (pieces Y₁ Y₂ Y₃ Y₄) _ (ix3 s q i) 3 (show 3 < 4 by decide) S16x256x1024 Y₄ rfl rfl 256 rfl (ix3 s ⟨q - 64 - 64 - 128, by omega⟩ i) (off _)
          (show 256 + ((q : Nat) - 64 - 64 - 128) = q by omega)).trans (h₄ _ _ _)

end joined

/-- An array's last two axes exchanged. -/
theorem swap_points (D : FVec Ideal S16x1024x1024 .f32) (s : Fin 16) (i o : Fin 1024) :
    transpose S16x1024x1024 [0, 2, 1] D transposes_S16x1024x1024_S16x1024x1024_0_2_1 (ix3 s o i) = D (ix3 s i o) := by
  refine congrArg D (funext fun a => ?_)
  fin_cases a <;> rfl

/-- The product of the points' features with the weights. -/
theorem product_any {k c : Nat} (wf : DotDims.WF ⟨3, ![16, k, 1024]⟩ ⟨2, ![c, k]⟩ ⟨3, ![16, 1024, c]⟩ [1] [1] [0, 2] [0] [] [])
    (Z : FVec Ideal ⟨3, ![16, k, 1024]⟩ .f32) (A : FVec Ideal ⟨2, ![c, k]⟩ .f32) (s : Fin 16) (i : Fin 1024) (o : Fin c) :
    (Host.dotGeneral (so := ⟨3, ![16, 1024, c]⟩) ⟨[1], [1], [0, 2], [0], [], [], wf⟩ none Z A (ix3 s i o) : Ideal .f32) = (∑ q : Fin k, Z (ix3 s q i) * A (ix2 o q) : EReal) := by
  refine (Ideal.matmul_apply₁_of _ (a := 1) rfl (K := k) rfl _ _ _ _ (fun q => ix3 s q i) (fun q => ix2 o q) ?_ ?_).trans (zero_add _) <;>
  · intro q
    funext a
    fin_cases a <;> rfl

theorem product_points (Z : FVec Ideal S16x512x1024 .f32) (A : FVec Ideal S1024x512 .f32) (s : Fin 16) (i o : Fin 1024) :
    (transpose S16x1024x1024 [0, 2, 1] (Host.dotGeneral dot_S16x512x1024_S1024x512_S16x1024x1024_1_1_02_0_n_n none Z A)
      transposes_S16x1024x1024_S16x1024x1024_0_2_1 (ix3 s o i) : EReal) = ∑ q : Fin 512, Z (ix3 s q i) * A (ix2 o q) :=
  (swap_points _ s i o).trans (product_any dot_S16x512x1024_S1024x512_S16x1024x1024_1_1_02_0_n_n_wf Z A s i o)

variable (V : Valuation τ sig (Elt Ideal)) (h : (rparams V).Regular)

include h in
theorem conv_ref (s : Fin 16) (i o : Fin 1024) : (res_main_v246 V (ix3 s o i) : EReal) = (rparams V).conv s i o :=
  (product_points (joined (res_main_v60 V) (res_main_v121 V) (res_main_v182 V) (fourthArr V)) (V (Proc.devRef .tc main_arg13)) s i o).trans
    (Finset.sum_congr (M := EReal) rfl fun q _ => congrArg (fun a : EReal => a * _)
      (joined_apply _ _ _ _ _ _ _ _ (layer1_ref V h) (layer2_ref V h) (layer3_ref V h) (layer4_ref V h) s q i))

/-! ## Its normalisation over all points -/

theorem normFacts_points : NormFacts S16x1024x1024 S1x1024x1 S1024 ![0, 1, 2] ![1] [0, 2] :=
  ⟨bcast_S1x1024x1_S16x1024x1024_0_1_2, bcast_S1024_S1x1024x1_1, bcast_S_S1x1024x1, reducesTo_S16x1024x1024_S1024_d0_2⟩

theorem cast_points (x : S1024.Idx → EReal) (o : Fin 1024) : shapeCast S1x1024x1 x shapeCasts_S1024_S1x1024x1 (ix3 0 o 0) = x (ix1 o) := by
  refine congrArg x (Shape.reshapeEquiv_eq_of_rowMajor _ ?_)
  rw [Shape.rowMajor_val_one, Shape.rowMajor_val_three]
  change (o : Nat) = (0 * 1024 + o) * 1 + 0
  omega

theorem spread_points (x : S1x1024x1.Idx → EReal) (s : Fin 16) (o i : Fin 1024) :
    broadcastInDim S16x1024x1024 ![0, 1, 2] bcast_S1x1024x1_S16x1024x1024_0_1_2 x (ix3 s o i) = x (ix3 0 o 0) := by
  refine congrArg x (funext fun a => ?_)
  fin_cases a <;> rfl

theorem lift_points (x : S1024.Idx → EReal) (o : Fin 1024) :
    broadcastInDim S1x1024x1 ![1] bcast_S1024_S1x1024x1_1 x (ix3 0 o 0) = x (ix1 o) := by
  refine congrArg x (funext fun a => ?_)
  fin_cases a
  rfl

theorem points_array : res_main_v264 V = normFacts_points.normed 0x46800000#32 (res_main_v246 V)
    (shapeCast _ (V (Proc.devRef .tc main_arg14)) shapeCasts_S1024_S1x1024x1) (shapeCast _ (V (Proc.devRef .tc main_arg15)) shapeCasts_S1024_S1x1024x1) := rfl

include h in
theorem act_ref (s : Fin 16) (i o : Fin 1024) : (res_main_v269 V (ix3 s o i) : EReal) = (rparams V).act s i o := by
  have e : (res_main_v269 V (ix3 s o i) : EReal) = lrelu (res_main_v264 V (ix3 s o i)) := by
    change Scalar.select (BitVec.ofBool (decide (Ideal.ofBits FTy.f32 0#32 ≤ res_main_v264 V (ix3 s o i)))) (res_main_v264 V (ix3 s o i))
      (Ideal.ofBits FTy.f32 1045220557#32 * res_main_v264 V (ix3 s o i)) = _
    rw [Ideal.ofBits_zero_f32]
    unfold lrelu
    by_cases hz : (0 : EReal) ≤ res_main_v264 V (ix3 s o i)
    · rw [if_pos hz, decide_eq_true hz]; rfl
    · rw [if_neg hz, decide_eq_false hz]; rfl
  rw [e, points_array, ← (rparams V).act_eq h s i o]
  exact congrArg lrelu (normFacts_points.normed_apply 0x46800000#32 (res_main_v246 V) _ _ (fun e : Fin 16 × Fin 1024 => ix3 e.1 o e.2) (ix3 0 o 0) (ix1 o)
    (fun x e => spread_points x e.1 o e.2) (fun x => lift_points x o) (fun v => hostReduceAdd_points _ v o)
    (by rw [ofBits_points]; exact_mod_cast (by norm_num : (0 : ℝ) < 16384)) (fun e => (rparams V).conv e.1 e.2 o) _ _
    (fun e => conv_ref V h e.1 e.2 o) (cast_points _ o) (cast_points _ o) (s, i))

/-! ## The pooling and the product with the last weights -/

/-- The greatest value and the mean of every channel over a cloud's points. -/
abbrev pooled (Z : FVec Ideal S16x1024x1024 .f32) : FVec Ideal S16x2048 .f32 :=
  concatenate S16x2048 1 [⟨S16x1024, Host.reduce FloatOps.maximumf Z (constant S_ .f32 0xFF800000#32) reducesTo_S16x1024x1024_S16x1024_d2 h_S_⟩,
    ⟨S16x1024, Host.divf (Host.reduceAdd Z (constant S_ .f32 0x00000000#32) reducesTo_S16x1024x1024_S16x1024_d2 h_S_)
      (broadcastInDim S16x1024 ![] bcast_S_S16x1024 (constant S_ .f32 0x44800000#32))⟩] concatenates_S16x1024_S16x1024_S16x2048_d1

theorem greatest_points (Z : FVec Ideal S16x1024x1024 .f32) (s : Fin 16) (o : Fin 1024) :
    ((Host.reduce FloatOps.maximumf Z (constant S_ .f32 0xFF800000#32) reducesTo_S16x1024x1024_S16x1024_d2 h_S_ : FVec Ideal S16x1024 .f32) (ix2 s o) : EReal)
      = Finset.univ.sup fun i : Fin 1024 => Z (ix3 s o i) := by
  pointwise []
  rw [ofBits_negInf]
  rfl

theorem mean_points (Z : FVec Ideal S16x1024x1024 .f32) (s : Fin 16) (o : Fin 1024) :
    ((Host.divf (Host.reduceAdd Z (constant S_ .f32 0x00000000#32) reducesTo_S16x1024x1024_S16x1024_d2 h_S_)
      (broadcastInDim S16x1024 ![] bcast_S_S16x1024 (constant S_ .f32 0x44800000#32)) : FVec Ideal S16x1024 .f32) (ix2 s o) : EReal)
      = Ideal.div (∑ i : Fin 1024, Z (ix3 s o i)) (Ideal.ofBits FTy.f32 1149239296#32) := by
  pointwise []

/-- Two matrices side by side. -/
theorem beside (M N : FVec Ideal S16x1024 .f32) (s : Fin 16) (q : Fin 2048) :
    concatenate S16x2048 1 [⟨S16x1024, M⟩, ⟨S16x1024, N⟩] concatenates_S16x1024_S16x1024_S16x2048_d1 (ix2 s q)
      = if h : (q : Nat) < 1024 then M (ix2 s ⟨q, h⟩) else N (ix2 s ⟨q - 1024, by omega⟩) := by
  split
  · next h =>
    refine concatenate_pair_apply_left 1 M N _ (ix2 s q) rfl (ix2 s ⟨q, h⟩) ?_
    intro a; fin_cases a <;> rfl
  · next h =>
    refine concatenate_pair_apply_right 1 M N _ (ix2 s q) rfl rfl (ix2 s ⟨q - 1024, by omega⟩) ?_ ?_
    · intro a ha; fin_cases a
      · rfl
      · exact absurd rfl ha
    · exact Nat.sub_add_cancel (Nat.le_of_not_lt h)

theorem pooled_apply (Z : FVec Ideal S16x1024x1024 .f32) (z : Fin 16 → Fin 1024 → Fin 1024 → EReal) (hZ : ∀ s o i, Z (ix3 s o i) = z s i o)
    (s : Fin 16) (q : Fin 2048) : (pooled Z (ix2 s q) : EReal) = pool (z s) q := by
  refine (beside _ _ s q).trans ?_
  unfold pool
  by_cases h : (q : Nat) < 1024
  · rw [dif_pos h, dif_pos h]
    exact (greatest_points Z s ⟨q, h⟩).trans (Finset.sup_congr rfl fun i _ => hZ s _ i)
  · rw [dif_neg h, dif_neg h]
    exact (mean_points Z s _).trans (congrArg (fun a : EReal => Ideal.div a _) (Finset.sum_congr (M := EReal) rfl fun i _ => hZ s _ i))

theorem product_clouds (Z : FVec Ideal S16x2048 .f32) (A : FVec Ideal S256x2048 .f32) (s : Fin 16) (o : Fin 256) :
    (Host.dotGeneral dot_S16x2048_S2048x256_S16x256_1_0_0_1_n_n none Z (transpose S2048x256 [1, 0] A transposes_S256x2048_S2048x256_1_0) (ix2 s o) : EReal)
      = ∑ q : Fin 2048, Z (ix2 s q) * A (ix2 o q) := by
  have e : ∀ q : Fin 2048, transpose S2048x256 [1, 0] A transposes_S256x2048_S2048x256_1_0 (ix2 q o) = A (ix2 o q) := by
    intro q
    refine congrArg A (funext fun a => ?_)
    fin_cases a <;> rfl
  refine ((Ideal.matmul_apply₁_of _ (a := 1) rfl (K := 2048) rfl _ _ _ _ (fun q => ix2 s q) (fun q => ix2 q o) ?_ ?_).trans (zero_add _)).trans
    (Finset.sum_congr (M := EReal) rfl fun q _ => congrArg (fun a : EReal => Z (ix2 s q) * a) (e q)) <;>
  · intro q
    funext a
    fin_cases a <;> rfl

include h in
theorem product_ref (s : Fin 16) (o : Fin 256) :
    (res_main_v276 V (ix2 s o) : EReal) = ∑ q, pool ((rparams V).act s) q * (rparams V).W₆ q o :=
  (product_clouds (pooled (res_main_v269 V)) (V (Proc.devRef .tc main_arg16)) s o).trans
    (Finset.sum_congr (M := EReal) rfl fun q _ => congrArg (fun a : EReal => a * _)
      (pooled_apply (res_main_v269 V) (rparams V).act (fun s o i => act_ref V h s i o) s q))

/-! ## The last normalisation, over the clouds -/

theorem normFacts_clouds : NormFacts S16x256 S1x256 S256 ![0, 1] ![1] [0] :=
  ⟨bcast_S1x256_S16x256_0_1, bcast_S256_S1x256_1, bcast_S_S1x256, reducesTo_S16x256_S256_d0⟩

theorem cast_clouds (x : S256.Idx → EReal) (o : Fin 256) : shapeCast S1x256 x shapeCasts_S256_S1x256 (ix2 0 o) = x (ix1 o) := by
  refine congrArg x (Shape.reshapeEquiv_eq_of_rowMajor _ ?_)
  rw [Shape.rowMajor_val_one, Shape.rowMajor_val_two]
  change (o : Nat) = 0 * 256 + o
  omega

theorem spread_clouds (x : S1x256.Idx → EReal) (s : Fin 16) (o : Fin 256) :
    broadcastInDim S16x256 ![0, 1] bcast_S1x256_S16x256_0_1 x (ix2 s o) = x (ix2 0 o) := by
  refine congrArg x (funext fun a => ?_)
  fin_cases a <;> rfl

theorem lift_clouds (x : S256.Idx → EReal) (o : Fin 256) :
    broadcastInDim S1x256 ![1] bcast_S256_S1x256_1 x (ix2 0 o) = x (ix1 o) := by
  refine congrArg x (funext fun a => ?_)
  fin_cases a
  rfl

/-- The reference's result array. -/
abbrev resultArr : FVec Ideal S16x256 .f32 :=
  normFacts_clouds.normed 0x41800000#32 (res_main_v276 V) (shapeCast _ (V (Proc.devRef .tc main_arg17)) shapeCasts_S256_S1x256)
    (shapeCast _ (V (Proc.devRef .tc main_arg18)) shapeCasts_S256_S1x256)

include h in
/-- The reference computes the network's result. -/
theorem result_ref (s : Fin 16) (o : Fin 256) : (resultArr V (ix2 s o) : EReal) = (rparams V).result s o :=
  normFacts_clouds.normed_apply 0x41800000#32 (res_main_v276 V) _ _ (fun s : Fin 16 => ix2 s o) (ix2 0 o) (ix1 o)
    (fun x s => spread_clouds x s o) (fun x => lift_clouds x o) (fun v => hostReduceAdd_clouds _ v o)
    (by rw [ofBits_clouds]; exact_mod_cast (by norm_num : (0 : ℝ) < 16)) (fun s => ∑ q, pool ((rparams V).act s) q * (rparams V).W₆ q o) _ _
    (fun s => product_ref V h s o) (cast_clouds _ o) (cast_clouds _ o) s

end Cert.Proof
end
-- ==== Proof.Pre.lean ====
/- What the precondition gives the proof: the arrays it checks hold real numbers, and the scales of the edge layers are not negative. -/
module

public import proofs.«01_k».proof.Proof.Net
public import proofs.«01_k».proof.Pre_regular
public import Idealize.ShloMosaic.Lib.ReduceAll
public import Idealize.ShloMosaic.Lib.Pointwise

@[expose] public section

set_option maxRecDepth 16384

noncomputable section

namespace Cert.Proof

open Idealize.ShloMosaic Cert.Pre_regular

/-! ## One check -/

instance : Subsingleton S_.Idx := ⟨fun _ _ => funext fun a => a.elim0⟩

theorem both {a b : IVec S_ 1} (h : andi a b ix0 = 1#1) : a ix0 = 1#1 ∧ b ix0 = 1#1 := IntOp.andi_eq_one.1 h

/-- Every element of an array is 1 when they all are. -/
theorem all_one {s : Shape} {axes : List (Fin s.rank)} {p : IVec s 1} {v : IVec S_ 1} {hr : s.ReducesTo axes S_} {hs : 0 < S_.numel}
    (h : Host.reduce IntOp.andi p v hr hs ix0 = 1#1) (i : s.Idx) : p i = 1#1 := Host.reduce_andi_all p v hr hs ix0 h i

/-- A value below a bound is not plus infinity. -/
theorem below {s : Shape} {A B : FVec Ideal s .f32} {i : s.Idx} (h : cmpf .olt A B i = 1#1) : (A i : EReal) < ⊤ := by
  have h' : BitVec.ofBool (decide ((A i : EReal) < B i)) = 1#1 := h
  by_cases hc : (A i : EReal) < B i
  · exact lt_of_lt_of_le hc le_top
  · rw [decide_eq_false hc] at h'
    exact absurd h' (by decide)

/-- A number whose absolute value is not plus infinity is real. -/
theorem real_of_abs {s : Shape} {A : FVec Ideal s .f32} {i : s.Idx} (h : (Host.absf A i : EReal) < ⊤) : IsReal (A i) := by
  have h' : max (A i : EReal) (-(A i : EReal)) < ⊤ := h
  obtain ⟨h₁, h₂⟩ := max_lt_iff.1 h'
  refine IsReal.of_ne ?_ ?_
  · exact fun e => absurd (e ▸ h₁) (lt_irrefl _)
  · intro e
    rw [e] at h₂
    exact absurd h₂ (by simp)

theorem not_negative {s : Shape} {A : FVec Ideal s .f32} {hb : S_.BroadcastsInDim s ![]} {i : s.Idx}
    (h : cmpf .oge A (broadcastInDim s ![] hb (constant S_ .f32 0x00000000#32)) i = 1#1) : (0 : EReal) ≤ A i := by
  have h' : BitVec.ofBool (decide (Ideal.ofBits FTy.f32 0#32 ≤ (A i : EReal))) = 1#1 := h
  rw [Ideal.ofBits_zero_f32] at h'
  by_cases hc : (0 : EReal) ≤ A i
  · exact hc
  · rw [decide_eq_false hc] at h'
    exact absurd h' (by decide)

/-- The check that an array's elements are real numbers. -/
theorem all_real {s : Shape} {axes : List (Fin s.rank)} {A B : FVec Ideal s .f32} {v : IVec S_ 1} {hr : s.ReducesTo axes S_} {hs : 0 < S_.numel}
    (h : Host.reduce IntOp.andi (cmpf .olt (Host.absf A) B) v hr hs ix0 = 1#1) (i : s.Idx) : IsReal (A i) :=
  real_of_abs (below (all_one h i))

/-- The check that an array's elements are not negative. -/
theorem all_nonneg {s : Shape} {axes : List (Fin s.rank)} {A : FVec Ideal s .f32} {v : IVec S_ 1} {hr : s.ReducesTo axes S_} {hs : 0 < S_.numel}
    {hb : S_.BroadcastsInDim s ![]}
    (h : Host.reduce IntOp.andi (cmpf .oge A (broadcastInDim s ![] hb (constant S_ .f32 0x00000000#32))) v hr hs ix0 = 1#1) (i : s.Idx) :
    (0 : EReal) ≤ A i := not_negative (all_one h i)

/-! ## The checks one after the other, from the last -/

variable [Cert.Pre_regular.Facts]

theorem part18 (v318 : IVec S_ 1) (values_94 : FVec Ideal S16x1024x21 .f32) (v331 : FVec Ideal S16x1024x20 .f32)
    (h : fn_part18 (F := Ideal) v318 values_94 v331 ix0 = 1#1) :
    v318 ix0 = 1#1 := (both h).1

theorem part17 (v182 : FVec Ideal S16x128x1024 .f32) (v301 : IVec S_ 1) (v313 : FVec Ideal S16x1024x1024 .f32) (values_89 : FVec Ideal S16x1024x21 .f32)
    (h : fn_part17 (F := Ideal) v182 v301 v313 values_89 ix0 = 1#1) :
    v301 ix0 = 1#1 := (both (part18 _ _ _ h)).1

theorem part16 (v121 : FVec Ideal S16x64x1024 .f32) (v182 : FVec Ideal S16x128x1024 .f32) (v284 : IVec S_ 1) (v293 : FVec Ideal S16x1024x1024 .f32) (v295 : FVec Ideal S16x1024x1024 .f32)
    (h : fn_part16 (F := Ideal) v121 v182 v284 v293 v295 ix0 = 1#1) :
    v284 ix0 = 1#1 := (both (part17 _ _ v293 _ h)).1

theorem part15 (v60 : FVec Ideal S16x64x1024 .f32) (v121 : FVec Ideal S16x64x1024 .f32) (v182 : FVec Ideal S16x128x1024 .f32) (v267 : IVec S_ 1) (v273 : FVec Ideal S16x1x1024 .f32) (v276 : FVec Ideal S16x1024x1024 .f32)
    (h : fn_part15 (F := Ideal) v60 v121 v182 v267 v273 v276 ix0 = 1#1) :
    v267 ix0 = 1#1 := (both (part16 _ _ _ _ _ h)).1

theorem part14 (arg0 : FVec Ideal S16x3x1024 .f32) (arg12 : FVec Ideal S256 .f32) (v60 : FVec Ideal S16x64x1024 .f32) (v121 : FVec Ideal S16x64x1024 .f32) (v182 : FVec Ideal S16x128x1024 .f32) (v257 : IVec S_ 1) (v258 : FVec Ideal S128 .f32)
    (h : fn_part14 (F := Ideal) arg0 arg12 v60 v121 v182 v257 v258 ix0 = 1#1) :
    v257 ix0 = 1#1 ∧ (∀ i, (v258 i : EReal) < ⊤) ∧ (∀ i, IsReal (arg12 i)) := by
  obtain ⟨h₁, h₂⟩ := both (part15 _ _ _ _ _ _ h)
  obtain ⟨h₃, h₄⟩ := both h₁
  exact ⟨h₃, fun i => below (all_one h₄ i), all_real h₂⟩

theorem part13 (arg0 : FVec Ideal S16x3x1024 .f32) (arg3 : FVec Ideal S64 .f32) (arg6 : FVec Ideal S64 .f32) (arg9 : FVec Ideal S128 .f32) (arg11 : FVec Ideal S256 .f32) (arg12 : FVec Ideal S256 .f32) (v60 : FVec Ideal S16x64x1024 .f32) (v121 : FVec Ideal S16x64x1024 .f32) (v182 : FVec Ideal S16x128x1024 .f32) (v238 : IVec S_ 1) (v241 : IVec S256 1)
    (h : fn_part13 (F := Ideal) arg0 arg3 arg6 arg9 arg11 arg12 v60 v121 v182 v238 v241 ix0 = 1#1) :
    v238 ix0 = 1#1 ∧ (∀ i, v241 i = 1#1) ∧ (∀ i, (0 : EReal) ≤ arg11 i) ∧ (∀ i, IsReal (arg3 i)) ∧ (∀ i, IsReal (arg6 i)) ∧ (∀ i, IsReal (arg9 i)) ∧ (∀ i, IsReal (arg12 i)) := by
  obtain ⟨h₁, h₂, h₃⟩ := part14 _ _ _ _ _ _ _ h
  obtain ⟨h₁, h₄⟩ := both h₁
  obtain ⟨h₁, h₅⟩ := both h₁
  obtain ⟨h₁, h₆⟩ := both h₁
  obtain ⟨h₁, h₇⟩ := both h₁
  exact ⟨h₁, all_one h₇, all_nonneg h₆, all_real h₅, all_real h₄, fun i => real_of_abs (h₂ i), h₃⟩

theorem part12 (arg0 : FVec Ideal S16x3x1024 .f32) (arg3 : FVec Ideal S64 .f32) (arg5 : FVec Ideal S64 .f32) (arg6 : FVec Ideal S64 .f32) (arg8 : FVec Ideal S128 .f32) (arg9 : FVec Ideal S128 .f32) (arg11 : FVec Ideal S256 .f32) (arg12 : FVec Ideal S256 .f32) (v60 : FVec Ideal S16x64x1024 .f32) (v121 : FVec Ideal S16x64x1024 .f32) (v182 : FVec Ideal S16x128x1024 .f32) (v220 : IVec S_ 1) (v224 : IVec S_ 1)
    (h : fn_part12 (F := Ideal) arg0 arg3 arg5 arg6 arg8 arg9 arg11 arg12 v60 v121 v182 v220 v224 ix0 = 1#1) :
    v220 ix0 = 1#1 ∧ v224 ix0 = 1#1 ∧ (∀ i, (0 : EReal) ≤ arg5 i) ∧ (∀ i, IsReal (arg8 i)) ∧ (∀ i, (0 : EReal) ≤ arg8 i) ∧ (∀ i, IsReal (arg11 i)) ∧ (∀ i, (0 : EReal) ≤ arg11 i) ∧ (∀ i, IsReal (arg3 i)) ∧ (∀ i, IsReal (arg6 i)) ∧ (∀ i, IsReal (arg9 i)) ∧ (∀ i, IsReal (arg12 i)) := by
  obtain ⟨h₁, h₂, h₃⟩ := part13 _ _ _ _ _ _ _ _ _ _ _ h
  obtain ⟨h₁, h₄⟩ := both h₁
  obtain ⟨h₁, h₅⟩ := both h₁
  obtain ⟨h₁, h₆⟩ := both h₁
  obtain ⟨h₁, h₇⟩ := both h₁
  exact ⟨h₁, h₇, all_nonneg h₆, all_real h₅, all_nonneg h₄, fun i => real_of_abs (below (h₂ i)), h₃⟩

theorem part11 (arg0 : FVec Ideal S16x3x1024 .f32) (arg2 : FVec Ideal S64 .f32) (arg3 : FVec Ideal S64 .f32) (arg5 : FVec Ideal S64 .f32) (arg6 : FVec Ideal S64 .f32) (arg8 : FVec Ideal S128 .f32) (arg9 : FVec Ideal S128 .f32) (arg11 : FVec Ideal S256 .f32) (arg12 : FVec Ideal S256 .f32) (v60 : FVec Ideal S16x64x1024 .f32) (v121 : FVec Ideal S16x64x1024 .f32) (v182 : FVec Ideal S16x128x1024 .f32) (v206 : IVec S_ 1) (v207 : FVec Ideal S1024x512 .f32) (cst_51 : FVec Ideal S_ .f32)
    (h : fn_part11 (F := Ideal) arg0 arg2 arg3 arg5 arg6 arg8 arg9 arg11 arg12 v60 v121 v182 v206 v207 cst_51 ix0 = 1#1) :
    v206 ix0 = 1#1 ∧ (∀ i, (v207 i : EReal) < ⊤) ∧ (∀ i, IsReal (arg2 i)) ∧ (∀ i, (0 : EReal) ≤ arg2 i) ∧ (∀ i, IsReal (arg5 i)) ∧ (∀ i, (0 : EReal) ≤ arg5 i) ∧ (∀ i, IsReal (arg8 i)) ∧ (∀ i, (0 : EReal) ≤ arg8 i) ∧ (∀ i, IsReal (arg11 i)) ∧ (∀ i, (0 : EReal) ≤ arg11 i) ∧ (∀ i, IsReal (arg3 i)) ∧ (∀ i, IsReal (arg6 i)) ∧ (∀ i, IsReal (arg9 i)) ∧ (∀ i, IsReal (arg12 i)) := by
  obtain ⟨h₁, h₂, h₃⟩ := part12 _ _ _ _ _ _ _ _ _ _ _ _ _ h
  obtain ⟨h₁, h₄⟩ := both h₁
  obtain ⟨h₁, h₅⟩ := both h₁
  obtain ⟨h₁, h₆⟩ := both h₁
  exact ⟨h₁, fun i => below (all_one h₆ i), all_real h₅, all_nonneg h₄, all_real h₂, h₃⟩

theorem part10 (arg0 : FVec Ideal S16x3x1024 .f32) (arg2 : FVec Ideal S64 .f32) (arg3 : FVec Ideal S64 .f32) (arg4 : FVec Ideal S64x128 .f32) (arg5 : FVec Ideal S64 .f32) (arg6 : FVec Ideal S64 .f32) (arg7 : FVec Ideal S128x128 .f32) (arg8 : FVec Ideal S128 .f32) (arg9 : FVec Ideal S128 .f32) (arg10 : FVec Ideal S256x256 .f32) (arg11 : FVec Ideal S256 .f32) (arg12 : FVec Ideal S256 .f32) (arg13 : FVec Ideal S1024x512 .f32) (v60 : FVec Ideal S16x64x1024 .f32) (v121 : FVec Ideal S16x64x1024 .f32) (v182 : FVec Ideal S16x128x1024 .f32) (v186 : IVec S_ 1) (v190 : IVec S_ 1)
    (h : fn_part10 (F := Ideal) arg0 arg2 arg3 arg4 arg5 arg6 arg7 arg8 arg9 arg10 arg11 arg12 arg13 v60 v121 v182 v186 v190 ix0 = 1#1) :
    v186 ix0 = 1#1 ∧ v190 ix0 = 1#1 ∧ (∀ i, IsReal (arg4 i)) ∧ (∀ i, IsReal (arg7 i)) ∧ (∀ i, IsReal (arg10 i)) ∧ (∀ i, IsReal (arg13 i)) ∧ (∀ i, IsReal (arg2 i)) ∧ (∀ i, (0 : EReal) ≤ arg2 i) ∧ (∀ i, IsReal (arg5 i)) ∧ (∀ i, (0 : EReal) ≤ arg5 i) ∧ (∀ i, IsReal (arg8 i)) ∧ (∀ i, (0 : EReal) ≤ arg8 i) ∧ (∀ i, IsReal (arg11 i)) ∧ (∀ i, (0 : EReal) ≤ arg11 i) ∧ (∀ i, IsReal (arg3 i)) ∧ (∀ i, IsReal (arg6 i)) ∧ (∀ i, IsReal (arg9 i)) ∧ (∀ i, IsReal (arg12 i)) := by
  obtain ⟨h₁, h₂, h₃⟩ := part11 _ _ _ _ _ _ _ _ _ _ _ _ _ _ _ h
  obtain ⟨h₁, h₄⟩ := both h₁
  obtain ⟨h₁, h₅⟩ := both h₁
  obtain ⟨h₁, h₆⟩ := both h₁
  obtain ⟨h₁, h₇⟩ := both h₁
  exact ⟨h₁, h₇, all_real h₆, all_real h₅, all_real h₄, fun i => real_of_abs (h₂ i), h₃⟩

theorem part9 (arg0 : FVec Ideal S16x3x1024 .f32) (arg1 : FVec Ideal S64x6 .f32) (arg2 : FVec Ideal S64 .f32) (arg3 : FVec Ideal S64 .f32) (arg4 : FVec Ideal S64x128 .f32) (arg5 : FVec Ideal S64 .f32) (arg6 : FVec Ideal S64 .f32) (arg7 : FVec Ideal S128x128 .f32) (arg8 : FVec Ideal S128 .f32) (arg9 : FVec Ideal S128 .f32) (arg10 : FVec Ideal S256x256 .f32) (arg11 : FVec Ideal S256 .f32) (arg12 : FVec Ideal S256 .f32) (arg13 : FVec Ideal S1024x512 .f32) (v60 : FVec Ideal S16x64x1024 .f32) (v121 : FVec Ideal S16x64x1024 .f32) (v173 : FVec Ideal S16x128x1024x20 .f32)
    (h : fn_part9 (F := Ideal) arg0 arg1 arg2 arg3 arg4 arg5 arg6 arg7 arg8 arg9 arg10 arg11 arg12 arg13 v60 v121 v173 ix0 = 1#1) :
    (∀ i, IsReal (arg0 i)) ∧ (∀ i, IsReal (arg1 i)) ∧ (∀ i, IsReal (arg4 i)) ∧ (∀ i, IsReal (arg7 i)) ∧ (∀ i, IsReal (arg10 i)) ∧ (∀ i, IsReal (arg13 i)) ∧ (∀ i, IsReal (arg2 i)) ∧ (∀ i, (0 : EReal) ≤ arg2 i) ∧ (∀ i, IsReal (arg5 i)) ∧ (∀ i, (0 : EReal) ≤ arg5 i) ∧ (∀ i, IsReal (arg8 i)) ∧ (∀ i, (0 : EReal) ≤ arg8 i) ∧ (∀ i, IsReal (arg11 i)) ∧ (∀ i, (0 : EReal) ≤ arg11 i) ∧ (∀ i, IsReal (arg3 i)) ∧ (∀ i, IsReal (arg6 i)) ∧ (∀ i, IsReal (arg9 i)) ∧ (∀ i, IsReal (arg12 i)) := by
  obtain ⟨h₁, h₂, h₃⟩ := part10 _ _ _ _ _ _ _ _ _ _ _ _ _ _ _ _ _ _ h
  exact ⟨all_real h₁, all_real h₂, h₃⟩

/-- The network of arguments that satisfy the precondition is regular. -/
theorem regular_of (arg0 : FVec Ideal S16x3x1024 .f32) (arg1 : FVec Ideal S64x6 .f32) (arg2 : FVec Ideal S64 .f32) (arg3 : FVec Ideal S64 .f32) (arg4 : FVec Ideal S64x128 .f32) (arg5 : FVec Ideal S64 .f32) (arg6 : FVec Ideal S64 .f32) (arg7 : FVec Ideal S128x128 .f32) (arg8 : FVec Ideal S128 .f32) (arg9 : FVec Ideal S128 .f32) (arg10 : FVec Ideal S256x256 .f32) (arg11 : FVec Ideal S256 .f32) (arg12 : FVec Ideal S256 .f32) (arg13 : FVec Ideal S1024x512 .f32) (arg14 : FVec Ideal S1024 .f32) (arg15 : FVec Ideal S1024 .f32) (arg16 : FVec Ideal S256x2048 .f32) (arg17 : FVec Ideal S256 .f32) (arg18 : FVec Ideal S256 .f32)
    (h : fn (F := Ideal) arg0 arg1 arg2 arg3 arg4 arg5 arg6 arg7 arg8 arg9 arg10 arg11 arg12 arg13 arg14 arg15 arg16 arg17 arg18 ix0 = 1#1) :
    (Params.of arg0 arg1 arg2 arg3 arg4 arg5 arg6 arg7 arg8 arg9 arg10 arg11 arg12 arg13 arg14 arg15 arg16 arg17 arg18).Regular := by
  obtain ⟨x, W₁, W₂, W₃, W₄, W₅, g₁, n₁, g₂, n₂, g₃, n₃, g₄, n₄, b₁, b₂, b₃, b₄⟩ := part9 _ _ _ _ _ _ _ _ _ _ _ _ _ _ _ _ _ h
  exact ⟨fun _ _ _ => x _, fun _ _ => W₁ _, fun _ => ⟨g₁ _, n₁ _⟩, fun _ => b₁ _, fun _ _ => W₂ _, fun _ => ⟨g₂ _, n₂ _⟩, fun _ => b₂ _,
    fun _ _ => W₃ _, fun _ => ⟨g₃ _, n₃ _⟩, fun _ => b₃ _, fun _ _ => W₄ _, fun _ => ⟨g₄ _, n₄ _⟩, fun _ => b₄ _, fun _ _ => W₅ _⟩

end Cert.Proof
end
-- ==== Proof.Equation.lean ====
/- The equation: from equal arguments that satisfy the precondition the kernel and the reference compute equal results. -/
module

public import proofs.«01_k».proof.Proof.KernelRun
public import proofs.«01_k».proof.Proof.KernelValue
public import proofs.«01_k».proof.Proof.RefHead
public import proofs.«01_k».proof.Proof.Pre
public import proofs.«01_k».proof.Proof.Gen.Pre_regular
public import proofs.«01_k».proof.Defs
public import Idealize.ShloMosaic.Lib.Claim

@[expose] public section

set_option maxRecDepth 16384

noncomputable section

namespace Cert.Proof

open Idealize.ShloMosaic Idealize.SL.Sem

/-- Equal arrays make equal networks. -/
theorem of_congr {a₀ b₀ : Shape.Idx ⟨3, ![16, 3, 1024]⟩ → EReal} {a₁ b₁ : Shape.Idx ⟨2, ![64, 6]⟩ → EReal} {a₂ b₂ : Shape.Idx ⟨1, ![64]⟩ → EReal} {a₃ b₃ : Shape.Idx ⟨1, ![64]⟩ → EReal} {a₄ b₄ : Shape.Idx ⟨2, ![64, 128]⟩ → EReal} {a₅ b₅ : Shape.Idx ⟨1, ![64]⟩ → EReal} {a₆ b₆ : Shape.Idx ⟨1, ![64]⟩ → EReal} {a₇ b₇ : Shape.Idx ⟨2, ![128, 128]⟩ → EReal} {a₈ b₈ : Shape.Idx ⟨1, ![128]⟩ → EReal} {a₉ b₉ : Shape.Idx ⟨1, ![128]⟩ → EReal} {a₁₀ b₁₀ : Shape.Idx ⟨2, ![256, 256]⟩ → EReal} {a₁₁ b₁₁ : Shape.Idx ⟨1, ![256]⟩ → EReal} {a₁₂ b₁₂ : Shape.Idx ⟨1, ![256]⟩ → EReal} {a₁₃ b₁₃ : Shape.Idx ⟨2, ![1024, 512]⟩ → EReal} {a₁₄ b₁₄ : Shape.Idx ⟨1, ![1024]⟩ → EReal} {a₁₅ b₁₅ : Shape.Idx ⟨1, ![1024]⟩ → EReal} {a₁₆ b₁₆ : Shape.Idx ⟨2, ![256, 2048]⟩ → EReal} {a₁₇ b₁₇ : Shape.Idx ⟨1, ![256]⟩ → EReal} {a₁₈ b₁₈ : Shape.Idx ⟨1, ![256]⟩ → EReal}
    (h₀ : a₀ = b₀) (h₁ : a₁ = b₁) (h₂ : a₂ = b₂) (h₃ : a₃ = b₃) (h₄ : a₄ = b₄) (h₅ : a₅ = b₅) (h₆ : a₆ = b₆) (h₇ : a₇ = b₇) (h₈ : a₈ = b₈) (h₉ : a₉ = b₉) (h₁₀ : a₁₀ = b₁₀) (h₁₁ : a₁₁ = b₁₁) (h₁₂ : a₁₂ = b₁₂) (h₁₃ : a₁₃ = b₁₃) (h₁₄ : a₁₄ = b₁₄) (h₁₅ : a₁₅ = b₁₅) (h₁₆ : a₁₆ = b₁₆) (h₁₇ : a₁₇ = b₁₇) (h₁₈ : a₁₈ = b₁₈) :
    Params.of a₀ a₁ a₂ a₃ a₄ a₅ a₆ a₇ a₈ a₉ a₁₀ a₁₁ a₁₂ a₁₃ a₁₄ a₁₅ a₁₆ a₁₇ a₁₈ = Params.of b₀ b₁ b₂ b₃ b₄ b₅ b₆ b₇ b₈ b₉ b₁₀ b₁₁ b₁₂ b₁₃ b₁₄ b₁₅ b₁₆ b₁₇ b₁₈ := by
  subst h₀ h₁ h₂ h₃ h₄ h₅ h₆ h₇ h₈ h₉ h₁₀ h₁₁ h₁₂ h₁₃ h₁₄ h₁₅ h₁₆ h₁₇ h₁₈
  rfl

theorem algebraic : Cert.algebraic_KernelIdeal_ReferenceIdeal := by
  intro m g m' g' hpre hargs
  have hreg : ∀ c, (kparams m c).Regular := fun c => regular_of _ _ _ _ _ _ _ _ _ _ _ _ _ _ _ _ _ _ _ (congrFun (hpre c) ix0)
  have hpar : ∀ c, rparams (StableHlo.launchContents m' c) = kparams m c := by
    intro c
    obtain ⟨h₀, h₁, h₂, h₃, h₄, h₅, h₆, h₇, h₈, h₉, h₁₀, h₁₁, h₁₂, h₁₃, h₁₄, h₁₅, h₁₆, h₁₇, h₁₈⟩ := hargs c
    exact of_congr h₀ h₁ h₂ h₃ h₄ h₅ h₆ h₇ h₈ h₉ h₁₀ h₁₁ h₁₂ h₁₃ h₁₄ h₁₅ h₁₆ h₁₇ h₁₈
  refine ⟨fun c y => (kparams m c).result (y 0) (y 1), ?_, ?_⟩
  · exact θ_run_mono (run_value m g) fun r h c => ⟨(h.1 c).1.trans (kernel_result m g c (hreg c)), (h.1 c).2⟩
  · refine θ_run_mono (Cert.ReferenceIdeal.Value.run m' g') fun r h c => ⟨(h c).1.trans ?_, (h c).2⟩
    have hr : (rparams (StableHlo.launchContents m' c)).Regular := (hpar c).symm ▸ hreg c
    funext y
    have e : y = ix2 (y 0) (y 1) := by funext a; fin_cases a <;> rfl
    refine Eq.trans ?_ (congrArg (fun P : Params => P.result (y 0) (y 1)) (hpar c))
    exact (congrArg (resultArr (StableHlo.launchContents m' c)) e).trans (result_ref (StableHlo.launchContents m' c) hr (y 0) (y 1))

end Cert.Proof
end
-- ==== Proof.lean ====
/- The certificate: the runs of the programs, and the equation of the kernel and the reference. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_regular
public import proofs.«01_k».proof.Proof.Equation
public import Idealize.ShloMosaic.Adequacy
public import Idealize.ShloMosaic.Init
public import Idealize.ShloMosaic.Lib.Claim
public import Idealize.ShloMosaic.Lib.Quiescent

@[expose] public section

noncomputable section

namespace Cert.Proof

open Idealize.ShloMosaic Idealize.SL.Sem Cert.Kernel

/-- Every claim of the certificate: the witnesses of the programs' stated facts, then the claims in order. -/
theorem claim : Cert.Claim :=
  have reference : Cert.quiescent_ReferenceIdeal := fun m g _ => θ_run_mono (Cert.ReferenceIdeal.Value.run m g) fun r h =>
    ⟨fun c => (h c).2, sem_eq_zero_of_no_sems (by rfl) r.2⟩
  ⟨Cert.Kernel.Gen.facts, Cert.KernelIdeal.Gen.facts, Cert.ReferenceIdeal.Gen.facts, Cert.Pre_regular.Gen.facts,
    fun m ρ _ => Cert.Kernel.Gen.frame m ρ, fun m ρ _ => Cert.Kernel.Gen.frame m ρ, fun m ρ _ => Cert.KernelIdeal.Gen.frame m ρ,
    reference, fun m g _ => reference m g trivial, trivial, algebraic⟩

end Cert.Proof

end
